-- ==== Defs.lean ====
def Pre_Ssm (m : (ℓ : Loc Cert.Ssm.nD Cert.Ssm.τ Cert.Ssm.sig) → Buf (Elt Bits) ℓ) : Prop :=
  True

def Pre_SsmIdeal (m : (ℓ : Loc Cert.SsmIdeal.nD Cert.SsmIdeal.τ Cert.SsmIdeal.sig) → Buf (Elt Ideal) ℓ) : Prop :=
  True

def Pre_SsmRefIdeal (m : (ℓ : Loc Cert.SsmRefIdeal.nD Cert.SsmRefIdeal.τ Cert.SsmRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutMid (m : (ℓ : Loc Cert.OutMid.nD Cert.OutMid.τ Cert.OutMid.sig) → Buf (Elt Bits) ℓ) : Prop :=
  True

def Pre_OutMidIdeal (m : (ℓ : Loc Cert.OutMidIdeal.nD Cert.OutMidIdeal.τ Cert.OutMidIdeal.sig) → Buf (Elt Ideal) ℓ) : Prop :=
  True

def Pre_OutMidRefIdeal (m : (ℓ : Loc Cert.OutMidRefIdeal.nD Cert.OutMidRefIdeal.τ Cert.OutMidRefIdeal.sig) → Buf (Elt Ideal) ℓ) : Prop :=
  True

def quiescent_Ssm [hSsm : Cert.Ssm.Facts] : Prop :=
  ∀ (m : (ℓ : Loc Cert.Ssm.nD Cert.Ssm.τ Cert.Ssm.sig) → Buf (Elt Bits) ℓ) (g : Dev Cert.Ssm.nD → PrngReg), Pre_Ssm m →
    θ_run (Cert.Ssm.defs (F := Bits)) (onTc (τ := Cert.Ssm.τ) (Cert.Ssm.main (F := Bits))) ⟨m, fun _ => 0, g⟩ (fun r => (∀ c : Dev Cert.Ssm.nD,
      r.2.mem ((c.tc : Thread Cert.Ssm.nD Cert.Ssm.τ).loc Cert.Ssm.main_arg0) = m ((c.tc : Thread Cert.Ssm.nD Cert.Ssm.τ).loc Cert.Ssm.main_arg0)
      ∧ r.2.mem ((c.tc : Thread Cert.Ssm.nD Cert.Ssm.τ).loc Cert.Ssm.main_arg1) = m ((c.tc : Thread Cert.Ssm.nD Cert.Ssm.τ).loc Cert.Ssm.main_arg1)
      ∧ r.2.mem ((c.tc : Thread Cert.Ssm.nD Cert.Ssm.τ).loc Cert.Ssm.main_arg2) = m ((c.tc : Thread Cert.Ssm.nD Cert.Ssm.τ).loc Cert.Ssm.main_arg2)
      ∧ r.2.mem ((c.tc : Thread Cert.Ssm.nD Cert.Ssm.τ).loc Cert.Ssm.main_arg3) = m ((c.tc : Thread Cert.Ssm.nD Cert.Ssm.τ).loc Cert.Ssm.main_arg3)
      ∧ r.2.mem ((c.tc : Thread Cert.Ssm.nD Cert.Ssm.τ).loc Cert.Ssm.main_arg4) = m ((c.tc : Thread Cert.Ssm.nD Cert.Ssm.τ).loc Cert.Ssm.main_arg4)
      ∧ r.2.mem ((c.tc : Thread Cert.Ssm.nD Cert.Ssm.τ).loc Cert.Ssm.main_arg5) = m ((c.tc : Thread Cert.Ssm.nD Cert.Ssm.τ).loc Cert.Ssm.main_arg5)
      ∧ r.2.mem ((c.tc : Thread Cert.Ssm.nD Cert.Ssm.τ).loc Cert.Ssm.main_arg6) = m ((c.tc : Thread Cert.Ssm.nD Cert.Ssm.τ).loc Cert.Ssm.main_arg6)
      ∧ r.2.mem ((c.tc : Thread Cert.Ssm.nD Cert.Ssm.τ).loc Cert.Ssm.main_arg7) = m ((c.tc : Thread Cert.Ssm.nD Cert.Ssm.τ).loc Cert.Ssm.main_arg7)
      ∧ r.2.mem ((c.tc : Thread Cert.Ssm.nD Cert.Ssm.τ).loc Cert.Ssm.main_arg8) = m ((c.tc : Thread Cert.Ssm.nD Cert.Ssm.τ).loc Cert.Ssm.main_arg8)
      ∧ r.2.mem ((c.tc : Thread Cert.Ssm.nD Cert.Ssm.τ).loc Cert.Ssm.main_arg9) = m ((c.tc : Thread Cert.Ssm.nD Cert.Ssm.τ).loc Cert.Ssm.main_arg9)
      ∧ r.2.mem ((c.tc : Thread Cert.Ssm.nD Cert.Ssm.τ).loc Cert.Ssm.main_arg10) = m ((c.tc : Thread Cert.Ssm.nD Cert.Ssm.τ).loc Cert.Ssm.main_arg10))
      ∧ r.2.sem = fun _ => 0)

def quiescent_SsmIdeal [hSsmIdeal : Cert.SsmIdeal.Facts] : Prop :=
  ∀ (m : (ℓ : Loc Cert.SsmIdeal.nD Cert.SsmIdeal.τ Cert.SsmIdeal.sig) → Buf (Elt Ideal) ℓ) (g : Dev Cert.SsmIdeal.nD → PrngReg), Pre_SsmIdeal m →
    θ_run (Cert.SsmIdeal.defs (F := Ideal)) (onTc (τ := Cert.SsmIdeal.τ) (Cert.SsmIdeal.main (F := Ideal))) ⟨m, fun _ => 0, g⟩ (fun r => (∀ c : Dev Cert.SsmIdeal.nD,
      r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
      ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
      ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
      ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
      ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
      ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
      ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
      ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
      ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
      ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
      ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ r.2.sem = fun _ => 0)

def quiescent_SsmRefIdeal [hSsmRefIdeal : Cert.SsmRefIdeal.Facts] : Prop :=
  ∀ (m : (ℓ : Loc Cert.SsmRefIdeal.nD Cert.SsmRefIdeal.τ Cert.SsmRefIdeal.sig) → Buf (Elt Ideal) ℓ) (g : Dev Cert.SsmRefIdeal.nD → PrngReg), Pre_SsmRefIdeal m →
    θ_run (Cert.SsmRefIdeal.defs (F := Ideal)) (onTc (τ := Cert.SsmRefIdeal.τ) (Cert.SsmRefIdeal.main (F := Ideal))) ⟨m, fun _ => 0, g⟩ (fun r => (∀ c : Dev Cert.SsmRefIdeal.nD,
      r.2.mem ((c.tc : Thread Cert.SsmRefIdeal.nD Cert.SsmRefIdeal.τ).loc Cert.SsmRefIdeal.main_arg0) = m ((c.tc : Thread Cert.SsmRefIdeal.nD Cert.SsmRefIdeal.τ).loc Cert.SsmRefIdeal.main_arg0)
      ∧ r.2.mem ((c.tc : Thread Cert.SsmRefIdeal.nD Cert.SsmRefIdeal.τ).loc Cert.SsmRefIdeal.main_arg1) = m ((c.tc : Thread Cert.SsmRefIdeal.nD Cert.SsmRefIdeal.τ).loc Cert.SsmRefIdeal.main_arg1)
      ∧ r.2.mem ((c.tc : Thread Cert.SsmRefIdeal.nD Cert.SsmRefIdeal.τ).loc Cert.SsmRefIdeal.main_arg2) = m ((c.tc : Thread Cert.SsmRefIdeal.nD Cert.SsmRefIdeal.τ).loc Cert.SsmRefIdeal.main_arg2)
      ∧ r.2.mem ((c.tc : Thread Cert.SsmRefIdeal.nD Cert.SsmRefIdeal.τ).loc Cert.SsmRefIdeal.main_arg3) = m ((c.tc : Thread Cert.SsmRefIdeal.nD Cert.SsmRefIdeal.τ).loc Cert.SsmRefIdeal.main_arg3)
      ∧ r.2.mem ((c.tc : Thread Cert.SsmRefIdeal.nD Cert.SsmRefIdeal.τ).loc Cert.SsmRefIdeal.main_arg4) = m ((c.tc : Thread Cert.SsmRefIdeal.nD Cert.SsmRefIdeal.τ).loc Cert.SsmRefIdeal.main_arg4)
      ∧ r.2.mem ((c.tc : Thread Cert.SsmRefIdeal.nD Cert.SsmRefIdeal.τ).loc Cert.SsmRefIdeal.main_arg5) = m ((c.tc : Thread Cert.SsmRefIdeal.nD Cert.SsmRefIdeal.τ).loc Cert.SsmRefIdeal.main_arg5)
      ∧ r.2.mem ((c.tc : Thread Cert.SsmRefIdeal.nD Cert.SsmRefIdeal.τ).loc Cert.SsmRefIdeal.main_arg6) = m ((c.tc : Thread Cert.SsmRefIdeal.nD Cert.SsmRefIdeal.τ).loc Cert.SsmRefIdeal.main_arg6)
      ∧ r.2.mem ((c.tc : Thread Cert.SsmRefIdeal.nD Cert.SsmRefIdeal.τ).loc Cert.SsmRefIdeal.main_arg7) = m ((c.tc : Thread Cert.SsmRefIdeal.nD Cert.SsmRefIdeal.τ).loc Cert.SsmRefIdeal.main_arg7)
      ∧ r.2.mem ((c.tc : Thread Cert.SsmRefIdeal.nD Cert.SsmRefIdeal.τ).loc Cert.SsmRefIdeal.main_arg8) = m ((c.tc : Thread Cert.SsmRefIdeal.nD Cert.SsmRefIdeal.τ).loc Cert.SsmRefIdeal.main_arg8)
      ∧ r.2.mem ((c.tc : Thread Cert.SsmRefIdeal.nD Cert.SsmRefIdeal.τ).loc Cert.SsmRefIdeal.main_arg9) = m ((c.tc : Thread Cert.SsmRefIdeal.nD Cert.SsmRefIdeal.τ).loc Cert.SsmRefIdeal.main_arg9)
      ∧ r.2.mem ((c.tc : Thread Cert.SsmRefIdeal.nD Cert.SsmRefIdeal.τ).loc Cert.SsmRefIdeal.main_arg10) = m ((c.tc : Thread Cert.SsmRefIdeal.nD Cert.SsmRefIdeal.τ).loc Cert.SsmRefIdeal.main_arg10))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6))
      ∧ r.2.sem = fun _ => 0)

def quiescent_OutMid [hOutMid : Cert.OutMid.Facts] : Prop :=
  ∀ (m : (ℓ : Loc Cert.OutMid.nD Cert.OutMid.τ Cert.OutMid.sig) → Buf (Elt Bits) ℓ) (g : Dev Cert.OutMid.nD → PrngReg), Pre_OutMid m →
    θ_run (Cert.OutMid.defs (F := Bits)) (onTc (τ := Cert.OutMid.τ) (Cert.OutMid.main (F := Bits))) ⟨m, fun _ => 0, g⟩ (fun r => (∀ c : Dev Cert.OutMid.nD,
      r.2.mem ((c.tc : Thread Cert.OutMid.nD Cert.OutMid.τ).loc Cert.OutMid.main_arg0) = m ((c.tc : Thread Cert.OutMid.nD Cert.OutMid.τ).loc Cert.OutMid.main_arg0)
      ∧ r.2.mem ((c.tc : Thread Cert.OutMid.nD Cert.OutMid.τ).loc Cert.OutMid.main_arg1) = m ((c.tc : Thread Cert.OutMid.nD Cert.OutMid.τ).loc Cert.OutMid.main_arg1)
      ∧ r.2.mem ((c.tc : Thread Cert.OutMid.nD Cert.OutMid.τ).loc Cert.OutMid.main_arg2) = m ((c.tc : Thread Cert.OutMid.nD Cert.OutMid.τ).loc Cert.OutMid.main_arg2)
      ∧ r.2.mem ((c.tc : Thread Cert.OutMid.nD Cert.OutMid.τ).loc Cert.OutMid.main_arg3) = m ((c.tc : Thread Cert.OutMid.nD Cert.OutMid.τ).loc Cert.OutMid.main_arg3))
      ∧ r.2.sem = fun _ => 0)

def quiescent_OutMidIdeal [hOutMidIdeal : Cert.OutMidIdeal.Facts] : Prop :=
  ∀ (m : (ℓ : Loc Cert.OutMidIdeal.nD Cert.OutMidIdeal.τ Cert.OutMidIdeal.sig) → Buf (Elt Ideal) ℓ) (g : Dev Cert.OutMidIdeal.nD → PrngReg), Pre_OutMidIdeal m →
    θ_run (Cert.OutMidIdeal.defs (F := Ideal)) (onTc (τ := Cert.OutMidIdeal.τ) (Cert.OutMidIdeal.main (F := Ideal))) ⟨m, fun _ => 0, g⟩ (fun r => (∀ c : Dev Cert.OutMidIdeal.nD,
      r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
      ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
      ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
      ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3))
      ∧ r.2.sem = fun _ => 0)

def quiescent_OutMidRefIdeal [hOutMidRefIdeal : Cert.OutMidRefIdeal.Facts] : Prop :=
  ∀ (m : (ℓ : Loc Cert.OutMidRefIdeal.nD Cert.OutMidRefIdeal.τ Cert.OutMidRefIdeal.sig) → Buf (Elt Ideal) ℓ) (g : Dev Cert.OutMidRefIdeal.nD → PrngReg), Pre_OutMidRefIdeal m →
    θ_run (Cert.OutMidRefIdeal.defs (F := Ideal)) (onTc (τ := Cert.OutMidRefIdeal.τ) (Cert.OutMidRefIdeal.main (F := Ideal))) ⟨m, fun _ => 0, g⟩ (fun r => (∀ c : Dev Cert.OutMidRefIdeal.nD,
      r.2.mem ((c.tc : Thread Cert.OutMidRefIdeal.nD Cert.OutMidRefIdeal.τ).loc Cert.OutMidRefIdeal.main_arg0) = m ((c.tc : Thread Cert.OutMidRefIdeal.nD Cert.OutMidRefIdeal.τ).loc Cert.OutMidRefIdeal.main_arg0)
      ∧ r.2.mem ((c.tc : Thread Cert.OutMidRefIdeal.nD Cert.OutMidRefIdeal.τ).loc Cert.OutMidRefIdeal.main_arg1) = m ((c.tc : Thread Cert.OutMidRefIdeal.nD Cert.OutMidRefIdeal.τ).loc Cert.OutMidRefIdeal.main_arg1)
      ∧ r.2.mem ((c.tc : Thread Cert.OutMidRefIdeal.nD Cert.OutMidRefIdeal.τ).loc Cert.OutMidRefIdeal.main_arg2) = m ((c.tc : Thread Cert.OutMidRefIdeal.nD Cert.OutMidRefIdeal.τ).loc Cert.OutMidRefIdeal.main_arg2)
      ∧ r.2.mem ((c.tc : Thread Cert.OutMidRefIdeal.nD Cert.OutMidRefIdeal.τ).loc Cert.OutMidRefIdeal.main_arg3) = m ((c.tc : Thread Cert.OutMidRefIdeal.nD Cert.OutMidRefIdeal.τ).loc Cert.OutMidRefIdeal.main_arg3))
      ∧ r.2.sem = fun _ => 0)

def preserves_Ssm_SsmIdeal : Prop :=
  True

def algebraic_SsmIdeal_SsmRefIdeal [hSsmIdeal : Cert.SsmIdeal.Facts] [hSsmRefIdeal : Cert.SsmRefIdeal.Facts] : Prop :=
  ∀ (m : (ℓ : Loc Cert.SsmIdeal.nD Cert.SsmIdeal.τ Cert.SsmIdeal.sig) → Buf (Elt Ideal) ℓ) (g : Dev Cert.SsmIdeal.nD → PrngReg)
    (m' : (ℓ : Loc Cert.SsmRefIdeal.nD Cert.SsmRefIdeal.τ Cert.SsmRefIdeal.sig) → Buf (Elt Ideal) ℓ) (g' : Dev Cert.SsmRefIdeal.nD → PrngReg), Pre_SsmIdeal m →
    (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)
      ∧ m' ((c.tc : Thread Cert.SsmRefIdeal.nD Cert.SsmRefIdeal.τ).loc Cert.SsmRefIdeal.main_arg10) = m ((c.tc : Thread Cert.SsmIdeal.nD Cert.SsmIdeal.τ).loc Cert.SsmIdeal.main_arg10)) →
    ∃ (v0 : (c : Dev Cert.SsmIdeal.nD) → Buf (Elt Ideal) ((c.tc : Thread Cert.SsmIdeal.nD Cert.SsmIdeal.τ).loc Cert.SsmIdeal.main_v56_1)),
      θ_run (Cert.SsmIdeal.defs (F := Ideal)) (onTc (τ := Cert.SsmIdeal.τ) (Cert.SsmIdeal.main (F := Ideal))) ⟨m, fun _ => 0, g⟩ (fun r => ∀ c : Dev Cert.SsmIdeal.nD,
          r.2.mem ((c.tc : Thread Cert.SsmIdeal.nD Cert.SsmIdeal.τ).loc Cert.SsmIdeal.main_v56_1) = v0 c
          ∧ r.2.mem ((c.tc : Thread Cert.SsmIdeal.nD Cert.SsmIdeal.τ).loc Cert.SsmIdeal.main_arg0) = m ((c.tc : Thread Cert.SsmIdeal.nD Cert.SsmIdeal.τ).loc Cert.SsmIdeal.main_arg0)
          ∧ r.2.mem ((c.tc : Thread Cert.SsmIdeal.nD Cert.SsmIdeal.τ).loc Cert.SsmIdeal.main_arg1) = m ((c.tc : Thread Cert.SsmIdeal.nD Cert.SsmIdeal.τ).loc Cert.SsmIdeal.main_arg1)
          ∧ r.2.mem ((c.tc : Thread Cert.SsmIdeal.nD Cert.SsmIdeal.τ).loc Cert.SsmIdeal.main_arg2) = m ((c.tc : Thread Cert.SsmIdeal.nD Cert.SsmIdeal.τ).loc Cert.SsmIdeal.main_arg2)
          ∧ r.2.mem ((c.tc : Thread Cert.SsmIdeal.nD Cert.SsmIdeal.τ).loc Cert.SsmIdeal.main_arg3) = m ((c.tc : Thread Cert.SsmIdeal.nD Cert.SsmIdeal.τ).loc Cert.SsmIdeal.main_arg3)
          ∧ r.2.mem ((c.tc : Thread Cert.SsmIdeal.nD Cert.SsmIdeal.τ).loc Cert.SsmIdeal.main_arg4) = m ((c.tc : Thread Cert.SsmIdeal.nD Cert.SsmIdeal.τ).loc Cert.SsmIdeal.main_arg4)
          ∧ r.2.mem ((c.tc : Thread Cert.SsmIdeal.nD Cert.SsmIdeal.τ).loc Cert.SsmIdeal.main_arg5) = m ((c.tc : Thread Cert.SsmIdeal.nD Cert.SsmIdeal.τ).loc Cert.SsmIdeal.main_arg5)
          ∧ r.2.mem ((c.tc : Thread Cert.SsmIdeal.nD Cert.SsmIdeal.τ).loc Cert.SsmIdeal.main_arg6) = m ((c.tc : Thread Cert.SsmIdeal.nD Cert.SsmIdeal.τ).loc Cert.SsmIdeal.main_arg6)
          ∧ r.2.mem ((c.tc : Thread Cert.SsmIdeal.nD Cert.SsmIdeal.τ).loc Cert.SsmIdeal.main_arg7) = m ((c.tc : Thread Cert.SsmIdeal.nD Cert.SsmIdeal.τ).loc Cert.SsmIdeal.main_arg7)
          ∧ r.2.mem ((c.tc : Thread Cert.SsmIdeal.nD Cert.SsmIdeal.τ).loc Cert.SsmIdeal.main_arg8) = m ((c.tc : Thread Cert.SsmIdeal.nD Cert.SsmIdeal.τ).loc Cert.SsmIdeal.main_arg8)
          ∧ r.2.mem ((c.tc : Thread Cert.SsmIdeal.nD Cert.SsmIdeal.τ).loc Cert.SsmIdeal.main_arg9) = m ((c.tc : Thread Cert.SsmIdeal.nD Cert.SsmIdeal.τ).loc Cert.SsmIdeal.main_arg9)
          ∧ r.2.mem ((c.tc : Thread Cert.SsmIdeal.nD Cert.SsmIdeal.τ).loc Cert.SsmIdeal.main_arg10) = m ((c.tc : Thread Cert.SsmIdeal.nD Cert.SsmIdeal.τ).loc Cert.SsmIdeal.main_arg10))
      ∧ θ_run (Cert.SsmRefIdeal.defs (F := Ideal)) (onTc (τ := Cert.SsmRefIdeal.τ) (Cert.SsmRefIdeal.main (F := Ideal))) ⟨m', fun _ => 0, g'⟩ (fun r => ∀ c : Dev Cert.SsmRefIdeal.nD,
          r.2.mem ((c.tc : Thread Cert.SsmRefIdeal.nD Cert.SsmRefIdeal.τ).loc Cert.SsmRefIdeal.main_v89) = v0 c
          ∧ r.2.mem ((c.tc : Thread Cert.SsmRefIdeal.nD Cert.SsmRefIdeal.τ).loc Cert.SsmRefIdeal.main_arg0) = m' ((c.tc : Thread Cert.SsmRefIdeal.nD Cert.SsmRefIdeal.τ).loc Cert.SsmRefIdeal.main_arg0)
          ∧ r.2.mem ((c.tc : Thread Cert.SsmRefIdeal.nD Cert.SsmRefIdeal.τ).loc Cert.SsmRefIdeal.main_arg1) = m' ((c.tc : Thread Cert.SsmRefIdeal.nD Cert.SsmRefIdeal.τ).loc Cert.SsmRefIdeal.main_arg1)
          ∧ r.2.mem ((c.tc : Thread Cert.SsmRefIdeal.nD Cert.SsmRefIdeal.τ).loc Cert.SsmRefIdeal.main_arg2) = m' ((c.tc : Thread Cert.SsmRefIdeal.nD Cert.SsmRefIdeal.τ).loc Cert.SsmRefIdeal.main_arg2)
          ∧ r.2.mem ((c.tc : Thread Cert.SsmRefIdeal.nD Cert.SsmRefIdeal.τ).loc Cert.SsmRefIdeal.main_arg3) = m' ((c.tc : Thread Cert.SsmRefIdeal.nD Cert.SsmRefIdeal.τ).loc Cert.SsmRefIdeal.main_arg3)
          ∧ r.2.mem ((c.tc : Thread Cert.SsmRefIdeal.nD Cert.SsmRefIdeal.τ).loc Cert.SsmRefIdeal.main_arg4) = m' ((c.tc : Thread Cert.SsmRefIdeal.nD Cert.SsmRefIdeal.τ).loc Cert.SsmRefIdeal.main_arg4)
          ∧ r.2.mem ((c.tc : Thread Cert.SsmRefIdeal.nD Cert.SsmRefIdeal.τ).loc Cert.SsmRefIdeal.main_arg5) = m' ((c.tc : Thread Cert.SsmRefIdeal.nD Cert.SsmRefIdeal.τ).loc Cert.SsmRefIdeal.main_arg5)
          ∧ r.2.mem ((c.tc : Thread Cert.SsmRefIdeal.nD Cert.SsmRefIdeal.τ).loc Cert.SsmRefIdeal.main_arg6) = m' ((c.tc : Thread Cert.SsmRefIdeal.nD Cert.SsmRefIdeal.τ).loc Cert.SsmRefIdeal.main_arg6)
          ∧ r.2.mem ((c.tc : Thread Cert.SsmRefIdeal.nD Cert.SsmRefIdeal.τ).loc Cert.SsmRefIdeal.main_arg7) = m' ((c.tc : Thread Cert.SsmRefIdeal.nD Cert.SsmRefIdeal.τ).loc Cert.SsmRefIdeal.main_arg7)
          ∧ r.2.mem ((c.tc : Thread Cert.SsmRefIdeal.nD Cert.SsmRefIdeal.τ).loc Cert.SsmRefIdeal.main_arg8) = m' ((c.tc : Thread Cert.SsmRefIdeal.nD Cert.SsmRefIdeal.τ).loc Cert.SsmRefIdeal.main_arg8)
          ∧ r.2.mem ((c.tc : Thread Cert.SsmRefIdeal.nD Cert.SsmRefIdeal.τ).loc Cert.SsmRefIdeal.main_arg9) = m' ((c.tc : Thread Cert.SsmRefIdeal.nD Cert.SsmRefIdeal.τ).loc Cert.SsmRefIdeal.main_arg9)
          ∧ r.2.mem ((c.tc : Thread Cert.SsmRefIdeal.nD Cert.SsmRefIdeal.τ).loc Cert.SsmRefIdeal.main_arg10) = m' ((c.tc : Thread Cert.SsmRefIdeal.nD Cert.SsmRefIdeal.τ).loc Cert.SsmRefIdeal.main_arg10))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v15) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v21) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)) →
    ∃ (v0 : (c : Dev Cert.ProjIdeal.nD) → Buf (Elt Ideal) ((c.tc : Thread Cert.ProjIdeal.nD Cert.ProjIdeal.τ).loc Cert.ProjIdeal.main_v9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v9) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v86) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6))

def preserves_OutMid_OutMidIdeal : Prop :=
  True

def algebraic_OutMidIdeal_OutMidRefIdeal [hOutMidIdeal : Cert.OutMidIdeal.Facts] [hOutMidRefIdeal : Cert.OutMidRefIdeal.Facts] : Prop :=
  ∀ (m : (ℓ : Loc Cert.OutMidIdeal.nD Cert.OutMidIdeal.τ Cert.OutMidIdeal.sig) → Buf (Elt Ideal) ℓ) (g : Dev Cert.OutMidIdeal.nD → PrngReg)
    (m' : (ℓ : Loc Cert.OutMidRefIdeal.nD Cert.OutMidRefIdeal.τ Cert.OutMidRefIdeal.sig) → Buf (Elt Ideal) ℓ) (g' : Dev Cert.OutMidRefIdeal.nD → PrngReg), Pre_OutMidIdeal m →
    (∀ c : Dev Cert.OutMidIdeal.nD,
      m' ((c.tc : Thread Cert.OutMidRefIdeal.nD Cert.OutMidRefIdeal.τ).loc Cert.OutMidRefIdeal.main_arg0) = m ((c.tc : Thread Cert.OutMidIdeal.nD Cert.OutMidIdeal.τ).loc Cert.OutMidIdeal.main_arg0)
      ∧ m' ((c.tc : Thread Cert.OutMidRefIdeal.nD Cert.OutMidRefIdeal.τ).loc Cert.OutMidRefIdeal.main_arg1) = m ((c.tc : Thread Cert.OutMidIdeal.nD Cert.OutMidIdeal.τ).loc Cert.OutMidIdeal.main_arg1)
      ∧ m' ((c.tc : Thread Cert.OutMidRefIdeal.nD Cert.OutMidRefIdeal.τ).loc Cert.OutMidRefIdeal.main_arg2) = m ((c.tc : Thread Cert.OutMidIdeal.nD Cert.OutMidIdeal.τ).loc Cert.OutMidIdeal.main_arg2)
      ∧ m' ((c.tc : Thread Cert.OutMidRefIdeal.nD Cert.OutMidRefIdeal.τ).loc Cert.OutMidRefIdeal.main_arg3) = m ((c.tc : Thread Cert.OutMidIdeal.nD Cert.OutMidIdeal.τ).loc Cert.OutMidIdeal.main_arg3)) →
    ∃ (v0 : (c : Dev Cert.OutMidIdeal.nD) → Buf (Elt Ideal) ((c.tc : Thread Cert.OutMidIdeal.nD Cert.OutMidIdeal.τ).loc Cert.OutMidIdeal.main_v2)),
      θ_run (Cert.OutMidIdeal.defs (F := Ideal)) (onTc (τ := Cert.OutMidIdeal.τ) (Cert.OutMidIdeal.main (F := Ideal))) ⟨m, fun _ => 0, g⟩ (fun r => ∀ c : Dev Cert.OutMidIdeal.nD,
          r.2.mem ((c.tc : Thread Cert.OutMidIdeal.nD Cert.OutMidIdeal.τ).loc Cert.OutMidIdeal.main_v2) = v0 c
          ∧ r.2.mem ((c.tc : Thread Cert.OutMidIdeal.nD Cert.OutMidIdeal.τ).loc Cert.OutMidIdeal.main_arg0) = m ((c.tc : Thread Cert.OutMidIdeal.nD Cert.OutMidIdeal.τ).loc Cert.OutMidIdeal.main_arg0)
          ∧ r.2.mem ((c.tc : Thread Cert.OutMidIdeal.nD Cert.OutMidIdeal.τ).loc Cert.OutMidIdeal.main_arg1) = m ((c.tc : Thread Cert.OutMidIdeal.nD Cert.OutMidIdeal.τ).loc Cert.OutMidIdeal.main_arg1)
          ∧ r.2.mem ((c.tc : Thread Cert.OutMidIdeal.nD Cert.OutMidIdeal.τ).loc Cert.OutMidIdeal.main_arg2) = m ((c.tc : Thread Cert.OutMidIdeal.nD Cert.OutMidIdeal.τ).loc Cert.OutMidIdeal.main_arg2)
          ∧ r.2.mem ((c.tc : Thread Cert.OutMidIdeal.nD Cert.OutMidIdeal.τ).loc Cert.OutMidIdeal.main_arg3) = m ((c.tc : Thread Cert.OutMidIdeal.nD Cert.OutMidIdeal.τ).loc Cert.OutMidIdeal.main_arg3))
      ∧ θ_run (Cert.OutMidRefIdeal.defs (F := Ideal)) (onTc (τ := Cert.OutMidRefIdeal.τ) (Cert.OutMidRefIdeal.main (F := Ideal))) ⟨m', fun _ => 0, g'⟩ (fun r => ∀ c : Dev Cert.OutMidRefIdeal.nD,
          r.2.mem ((c.tc : Thread Cert.OutMidRefIdeal.nD Cert.OutMidRefIdeal.τ).loc Cert.OutMidRefIdeal.main_v2) = v0 c
          ∧ r.2.mem ((c.tc : Thread Cert.OutMidRefIdeal.nD Cert.OutMidRefIdeal.τ).loc Cert.OutMidRefIdeal.main_arg0) = m' ((c.tc : Thread Cert.OutMidRefIdeal.nD Cert.OutMidRefIdeal.τ).loc Cert.OutMidRefIdeal.main_arg0)
          ∧ r.2.mem ((c.tc : Thread Cert.OutMidRefIdeal.nD Cert.OutMidRefIdeal.τ).loc Cert.OutMidRefIdeal.main_arg1) = m' ((c.tc : Thread Cert.OutMidRefIdeal.nD Cert.OutMidRefIdeal.τ).loc Cert.OutMidRefIdeal.main_arg1)
          ∧ r.2.mem ((c.tc : Thread Cert.OutMidRefIdeal.nD Cert.OutMidRefIdeal.τ).loc Cert.OutMidRefIdeal.main_arg2) = m' ((c.tc : Thread Cert.OutMidRefIdeal.nD Cert.OutMidRefIdeal.τ).loc Cert.OutMidRefIdeal.main_arg2)
          ∧ r.2.mem ((c.tc : Thread Cert.OutMidRefIdeal.nD Cert.OutMidRefIdeal.τ).loc Cert.OutMidRefIdeal.main_arg3) = m' ((c.tc : Thread Cert.OutMidRefIdeal.nD Cert.OutMidRefIdeal.τ).loc Cert.OutMidRefIdeal.main_arg3))

def Claim : Prop :=
  ∃ (hSsm : Cert.Ssm.Facts) (hSsmIdeal : Cert.SsmIdeal.Facts) (hSsmRefIdeal : Cert.SsmRefIdeal.Facts) (hOutProj : Cert.OutProj.Facts) (hOutProjIdeal : Cert.OutProjIdeal.Facts) (hOutProjRefIdeal : Cert.OutProjRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hOutMid : Cert.OutMid.Facts) (hOutMidIdeal : Cert.OutMidIdeal.Facts) (hOutMidRefIdeal : Cert.OutMidRefIdeal.Facts),
    quiescent_Ssm (hSsm := hSsm)
    ∧ quiescent_SsmIdeal (hSsmIdeal := hSsmIdeal)
    ∧ quiescent_SsmRefIdeal (hSsmRefIdeal := hSsmRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_OutMid (hOutMid := hOutMid)
    ∧ quiescent_OutMidIdeal (hOutMidIdeal := hOutMidIdeal)
    ∧ quiescent_OutMidRefIdeal (hOutMidRefIdeal := hOutMidRefIdeal)
    ∧ preserves_Ssm_SsmIdeal
    ∧ algebraic_SsmIdeal_SsmRefIdeal (hSsmIdeal := hSsmIdeal) (hSsmRefIdeal := hSsmRefIdeal)
    ∧ preserves_OutProj_OutProjIdeal
    ∧ algebraic_OutProjIdeal_OutProjRefIdeal (hOutProjIdeal := hOutProjIdeal) (hOutProjRefIdeal := hOutProjRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_OutMid_OutMidIdeal
    ∧ algebraic_OutMidIdeal_OutMidRefIdeal (hOutMidIdeal := hOutMidIdeal) (hOutMidRefIdeal := hOutMidRefIdeal)
-- ==== Ssm.lean ====
abbrev S32x13312 : Shape := ⟨2, ![32, 13312]⟩
abbrev S8x64x64 : Shape := ⟨3, ![8, 64, 64]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S1024x2048 : Shape := ⟨2, ![1024, 2048]⟩
abbrev S32x1x128 : Shape := ⟨3, ![32, 1, 128]⟩
abbrev S64x1x128 : Shape := ⟨3, ![64, 1, 128]⟩
abbrev S64x8x128 : Shape := ⟨3, ![64, 8, 128]⟩
abbrev S8x8 : Shape := ⟨2, ![8, 8]⟩
abbrev S_ : Shape := ⟨0, ![]⟩
abbrev S8x8x64x16 : Shape := ⟨4, ![8, 8, 64, 16]⟩
abbrev S8x16x8x64 : Shape := ⟨4, ![8, 16, 8, 64]⟩
abbrev S8x1x16x8x64 : Shape := ⟨5, ![8, 1, 16, 8, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x128x1024 : Shape := ⟨3, ![8, 128, 1024]⟩
abbrev S8x8x16x64 : Shape := ⟨4, ![8, 8, 16, 64]⟩
abbrev S8x64x8x16 : Shape := ⟨4, ![8, 64, 8, 16]⟩
abbrev S8x1x64x8x16 : Shape := ⟨5, ![8, 1, 64, 8, 16]⟩
abbrev S8x8x64x8x16 : Shape := ⟨5, ![8, 8, 64, 8, 16]⟩
abbrev S8x512x128 : Shape := ⟨3, ![8, 512, 128]⟩
abbrev S8x1024x128 : Shape := ⟨3, ![8, 1024, 128]⟩
abbrev S8x32x128 : Shape := ⟨3, ![8, 32, 128]⟩
abbrev S32x8x128 : Shape := ⟨3, ![32, 8, 128]⟩
abbrev S1x1024 : Shape := ⟨2, ![1, 1024]⟩
abbrev S32x1024 : Shape := ⟨2, ![32, 1024]⟩
abbrev S64x32x128 : Shape := ⟨3, ![64, 32, 128]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S1x128x1024 : Shape := ⟨3, ![1, 128, 1024]⟩
abbrev S128x1024 : Shape := ⟨2, ![128, 1024]⟩
abbrev S1x32x128 : Shape := ⟨3, ![1, 32, 128]⟩
abbrev S1x8x128 : Shape := ⟨3, ![1, 8, 128]⟩
abbrev S8x128 : Shape := ⟨2, ![8, 128]⟩
abbrev S1x1024x128 : Shape := ⟨3, ![1, 1024, 128]⟩
abbrev S1024x128 : Shape := ⟨2, ![1024, 128]⟩
abbrev S32x2048 : Shape := ⟨2, ![32, 2048]⟩

abbrev nBuf : Space → Nat
  | .hbm => 74
  | .vmem => 12
  | .smem => 0
  | _ => 0

abbrev bufTy : (tb : Table) → Fin (tcTables nBuf tb) → BufTy
  | .hbm, ⟨0, _⟩ => ⟨S32x13312, .f32⟩
  | .hbm, ⟨1, _⟩ => ⟨S8x64x64, .f32⟩
  | .hbm, ⟨2, _⟩ => ⟨S8x64x64, .f32⟩
  | .hbm, ⟨3, _⟩ => ⟨S64x64, .f32⟩
  | .hbm, ⟨4, _⟩ => ⟨S64x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S1024, .f32⟩
  | .hbm, ⟨10, _⟩ => ⟨S1024x2048, .f32⟩
  | .hbm, ⟨11, _⟩ => ⟨S32x1x128, .f32⟩
  | .hbm, ⟨12, _⟩ => ⟨S32x1x128, .f32⟩
  | .hbm, ⟨13, _⟩ => ⟨S64x1x128, .f32⟩
  | .hbm, ⟨14, _⟩ => ⟨S64x8x128, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x8x64x16, .f32⟩
  | .hbm, ⟨23, _⟩ => ⟨S8x16x8x64, .f32⟩
  | .hbm, ⟨24, _⟩ => ⟨S8x1x16x8x64, .f32⟩
  | .hbm, ⟨25, _⟩ => ⟨S1x8x1x8x1, .f32⟩
  | .hbm, ⟨26, _⟩ => ⟨S8x8x16x8x64, .f32⟩
  | .hbm, ⟨27, _⟩ => ⟨S8x8x16x8x64, .f32⟩
  | .hbm, ⟨28, _⟩ => ⟨S8x8x16x8x64, .f32⟩
  | .hbm, ⟨29, _⟩ => ⟨S8x128x512, .f32⟩
  | .hbm, ⟨30, _⟩ => ⟨S8x8x64x16, .f32⟩
  | .hbm, ⟨31, _⟩ => ⟨S8x16x8x64, .f32⟩
  | .hbm, ⟨32, _⟩ => ⟨S8x1x16x8x64, .f32⟩
  | .hbm, ⟨33, _⟩ => ⟨S1x8x1x8x1, .f32⟩
  | .hbm, ⟨34, _⟩ => ⟨S8x8x16x8x64, .f32⟩
  | .hbm, ⟨35, _⟩ => ⟨S8x8x16x8x64, .f32⟩
  | .hbm, ⟨36, _⟩ => ⟨S8x8x16x8x64, .f32⟩
  | .hbm, ⟨37, _⟩ => ⟨S8x128x512, .f32⟩
  | .hbm, ⟨38, _⟩ => ⟨S8x128x1024, .f32⟩
  | .hbm, ⟨39, _⟩ => ⟨S8x128x1024, .bf16⟩
  | .hbm, ⟨40, _⟩ => ⟨S8x8x16x64, .f32⟩
  | .hbm, ⟨41, _⟩ => ⟨S8x64x8x16, .f32⟩
  | .hbm, ⟨42, _⟩ => ⟨S8x1x64x8x16, .f32⟩
  | .hbm, ⟨43, _⟩ => ⟨S1x8x1x8x1, .f32⟩
  | .hbm, ⟨44, _⟩ => ⟨S8x8x64x8x16, .f32⟩
  | .hbm, ⟨45, _⟩ => ⟨S8x8x64x8x16, .f32⟩
  | .hbm, ⟨46, _⟩ => ⟨S8x8x64x8x16, .f32⟩
  | .hbm, ⟨47, _⟩ => ⟨S8x512x128, .f32⟩
  | .hbm, ⟨48, _⟩ => ⟨S8x8x16x64, .f32⟩
  | .hbm, ⟨49, _⟩ => ⟨S8x64x8x16, .f32⟩
  | .hbm, ⟨50, _⟩ => ⟨S8x1x64x8x16, .f32⟩
  | .hbm, ⟨51, _⟩ => ⟨S1x8x1x8x1, .f32⟩
  | .hbm, ⟨52, _⟩ => ⟨S8x8x64x8x16, .f32⟩
  | .hbm, ⟨53, _⟩ => ⟨S8x8x64x8x16, .f32⟩
  | .hbm, ⟨54, _⟩ => ⟨S8x8x64x8x16, .f32⟩
  | .hbm, ⟨55, _⟩ => ⟨S8x512x128, .f32⟩
  | .hbm, ⟨56, _⟩ => ⟨S8x512x128, .f32⟩
  | .hbm, ⟨57, _⟩ => ⟨S8x1024x128, .f32⟩
  | .hbm, ⟨58, _⟩ => ⟨S8x1024x128, .bf16⟩
  | .hbm, ⟨59, _⟩ => ⟨S1024x2048, .bf16⟩
  | .hbm, ⟨60, _⟩ => ⟨S8x32x128, .f32⟩
  | .hbm, ⟨61, _⟩ => ⟨S32x8x128, .f32⟩
  | .hbm, ⟨62, _⟩ => ⟨S_, .i32⟩
  | .hbm, ⟨63, _⟩ => ⟨S_, .f32⟩
  | .hbm, ⟨64, _⟩ => ⟨S32x8x128, .f32⟩
  | .hbm, ⟨65, _⟩ => ⟨S8x32x128, .f32⟩
  | .hbm, ⟨66, _⟩ => ⟨S32x8x128, .f32⟩
  | .hbm, ⟨67, _⟩ => ⟨S_, .i32⟩
  | .hbm, ⟨68, _⟩ => ⟨S_, .f32⟩
  | .hbm, ⟨69, _⟩ => ⟨S32x8x128, .f32⟩
  | .hbm, ⟨70, _⟩ => ⟨S64x8x128, .f32⟩
  | .hbm, ⟨71, _⟩ => ⟨S1x1024, .f32⟩
  | .hbm, ⟨72, _⟩ => ⟨S32x1024, .bf16⟩
  | .hbm, ⟨73, _⟩ => ⟨S64x8x128, .f32⟩
  | .local _ .vmem, ⟨0, _⟩ => ⟨S32x1024, .f32⟩
  | .local _ .vmem, ⟨1, _⟩ => ⟨S32x1024, .f32⟩
  | .local _ .vmem, ⟨2, _⟩ => ⟨S64x8x128, .f32⟩
  | .local _ .vmem, ⟨3, _⟩ => ⟨S64x8x128, .f32⟩
  | .local _ .vmem, ⟨4, _⟩ => ⟨S8x128x1024, .bf16⟩
  | .local _ .vmem, ⟨5, _⟩ => ⟨S8x1024x128, .bf16⟩
  | .local _ .vmem, ⟨6, _⟩ => ⟨S1x1024, .f32⟩
  | .local _ .vmem, ⟨7, _⟩ => ⟨S1024x2048, .bf16⟩
  | .local _ .vmem, ⟨8, _⟩ => ⟨S32x1024, .bf16⟩
  | .local _ .vmem, ⟨9, _⟩ => ⟨S64x8x128, .f32⟩
  | .local _ .vmem, ⟨10, _⟩ => ⟨S64x32x128, .f32⟩
  | .local _ .vmem, ⟨11, _⟩ => ⟨S64x8x128, .f32⟩
  | _, _ => ⟨S32x13312, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_0 : Ref sig .tc := ⟨.hbm, 62, rfl⟩
abbrev main_call0_v0 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_1 : Ref sig .tc := ⟨.hbm, 67, rfl⟩
abbrev main_call1_v0 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56_0 : Ref sig .tc := ⟨.hbm, 72, rfl⟩
abbrev main_v56_1 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32_236 : BitVec 32 := 0#32
  let c4_i32_237 : BitVec 32 := 4#32
  let v427 : BitVec 32 := Scalar.addi c0_i32_236 c4_i32_237
  let c1_i32_238 : BitVec 32 := 1#32
  ⟨c0_i32_236, v427, c1_i32_238⟩
def k0_mult1 (k0_t1 : Fin k0_t1_loop.trips) : BitVec 32 :=
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  v1086
def k0_off1 (k0_t1 : Fin k0_t1_loop.trips) : Fin 3 → Nat :=
  let c0_1049 : Index := 0#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1088 : Index := Scalar.indexCast v1087
  let c0_1050 : Index := 0#32
  ![0, v1088.toNat, 0]
def k0_off2 (k0_t1 : Fin k0_t1_loop.trips) : Fin 3 → Nat :=
  let c32_1051 : Index := 32#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1091 : Index := Scalar.indexCast v1087
  let c0_1052 : Index := 0#32
  ![32, v1091.toNat, 0]
def k0_off3 (k0_t1 : Fin k0_t1_loop.trips) : Fin 3 → Nat :=
  let c1_1057 : Index := 1#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1110 : Index := Scalar.indexCast v1087
  let c0_1058 : Index := 0#32
  ![1, v1110.toNat, 0]
def k0_off4 (k0_t1 : Fin k0_t1_loop.trips) : Fin 3 → Nat :=
  let c33_1059 : Index := 33#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1113 : Index := Scalar.indexCast v1087
  let c0_1060 : Index := 0#32
  ![33, v1113.toNat, 0]
def k0_off5 (k0_t1 : Fin k0_t1_loop.trips) : Fin 3 → Nat :=
  let c2_1065 : Index := 2#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1132 : Index := Scalar.indexCast v1087
  let c0_1066 : Index := 0#32
  ![2, v1132.toNat, 0]
def k0_off6 (k0_t1 : Fin k0_t1_loop.trips) : Fin 3 → Nat :=
  let c34_1067 : Index := 34#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1135 : Index := Scalar.indexCast v1087
  let c0_1068 : Index := 0#32
  ![34, v1135.toNat, 0]
def k0_off7 (k0_t1 : Fin k0_t1_loop.trips) : Fin 3 → Nat :=
  let c3_1073 : Index := 3#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1154 : Index := Scalar.indexCast v1087
  let c0_1074 : Index := 0#32
  ![3, v1154.toNat, 0]
def k0_off8 (k0_t1 : Fin k0_t1_loop.trips) : Fin 3 → Nat :=
  let c35_1075 : Index := 35#32
  let c0_i32_236 : BitVec 32 := 0#32
  let c1_i32_238 : BitVec 32 := 1#32
  let arg13 : BitVec 32 := Scf.iv c0_i32_236 c1_i32_238 k0_t1
  let c8_i32_1048 : BitVec 32 := 8#32
  let v1086 : BitVec 32 := Scalar.muli arg13 c8_i32_1048
  let v1087 : BitVec 32 := v1086
  let v1157 : Index := Scalar.indexCast v1087
  let c0_1076 : Index := 0#32
  ![35, v1157.toNat, 0]
@[reducible] def k0_t2_loop : Scf.Loop 32 :=
  let c0_i32_312 : BitVec 32 := 0#32
  let c4_i32_313 : BitVec 32 := 4#32
  let v485 : BitVec 32 := Scalar.addi c0_i32_312 c4_i32_313
  let c1_i32_314 : BitVec 32 := 1#32
  ⟨c0_i32_312, v485, c1_i32_314⟩
def k0_mult2 (k0_t2 : Fin k0_t2_loop.trips) : BitVec 32 :=
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  v1086
def k0_off9 (k0_t2 : Fin k0_t2_loop.trips) : Fin 3 → Nat :=
  let c4_1049 : Index := 4#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1088 : Index := Scalar.indexCast v1087
  let c0_1050 : Index := 0#32
  ![4, v1088.toNat, 0]
def k0_off10 (k0_t2 : Fin k0_t2_loop.trips) : Fin 3 → Nat :=
  let c36_1051 : Index := 36#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1091 : Index := Scalar.indexCast v1087
  let c0_1052 : Index := 0#32
  ![36, v1091.toNat, 0]
def k0_off11 (k0_t2 : Fin k0_t2_loop.trips) : Fin 3 → Nat :=
  let c5_1057 : Index := 5#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1110 : Index := Scalar.indexCast v1087
  let c0_1058 : Index := 0#32
  ![5, v1110.toNat, 0]
def k0_off12 (k0_t2 : Fin k0_t2_loop.trips) : Fin 3 → Nat :=
  let c37_1059 : Index := 37#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1113 : Index := Scalar.indexCast v1087
  let c0_1060 : Index := 0#32
  ![37, v1113.toNat, 0]
def k0_off13 (k0_t2 : Fin k0_t2_loop.trips) : Fin 3 → Nat :=
  let c6_1065 : Index := 6#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1132 : Index := Scalar.indexCast v1087
  let c0_1066 : Index := 0#32
  ![6, v1132.toNat, 0]
def k0_off14 (k0_t2 : Fin k0_t2_loop.trips) : Fin 3 → Nat :=
  let c38_1067 : Index := 38#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1135 : Index := Scalar.indexCast v1087
  let c0_1068 : Index := 0#32
  ![38, v1135.toNat, 0]
def k0_off15 (k0_t2 : Fin k0_t2_loop.trips) : Fin 3 → Nat :=
  let c7_1073 : Index := 7#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1154 : Index := Scalar.indexCast v1087
  let c0_1074 : Index := 0#32
  ![7, v1154.toNat, 0]
def k0_off16 (k0_t2 : Fin k0_t2_loop.trips) : Fin 3 → Nat :=
  let c39_1075 : Index := 39#32
  let c0_i32_312 : BitVec 32 := 0#32
  let c1_i32_314 : BitVec 32 := 1#32
  let arg13 : BitVec 32 := Scf.iv c0_i32_312 c1_i32_314 k0_t2
  let c8_i32_1048 : BitVec 32 := 8#32
  let v1086 : BitVec 32 := Scalar.muli arg13 c8_i32_1048
  let v1087 : BitVec 32 := v1086
  let v1157 : Index := Scalar.indexCast v1087
  let c0_1076 : Index := 0#32
  ![39, v1157.toNat, 0]
@[reducible] def k0_t3_loop : Scf.Loop 32 :=
  let c0_i32_388 : BitVec 32 := 0#32
  let c4_i32_389 : BitVec 32 := 4#32
  let v543 : BitVec 32 := Scalar.addi c0_i32_388 c4_i32_389
  let c1_i32_390 : BitVec 32 := 1#32
  ⟨c0_i32_388, v543, c1_i32_390⟩
def k0_mult3 (k0_t3 : Fin k0_t3_loop.trips) : BitVec 32 :=
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  v1086
def k0_off17 (k0_t3 : Fin k0_t3_loop.trips) : Fin 3 → Nat :=
  let c8_1049 : Index := 8#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1088 : Index := Scalar.indexCast v1087
  let c0_1050 : Index := 0#32
  ![8, v1088.toNat, 0]
def k0_off18 (k0_t3 : Fin k0_t3_loop.trips) : Fin 3 → Nat :=
  let c40_1051 : Index := 40#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1091 : Index := Scalar.indexCast v1087
  let c0_1052 : Index := 0#32
  ![40, v1091.toNat, 0]
def k0_off19 (k0_t3 : Fin k0_t3_loop.trips) : Fin 3 → Nat :=
  let c9_1057 : Index := 9#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1110 : Index := Scalar.indexCast v1087
  let c0_1058 : Index := 0#32
  ![9, v1110.toNat, 0]
def k0_off20 (k0_t3 : Fin k0_t3_loop.trips) : Fin 3 → Nat :=
  let c41_1059 : Index := 41#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1113 : Index := Scalar.indexCast v1087
  let c0_1060 : Index := 0#32
  ![41, v1113.toNat, 0]
def k0_off21 (k0_t3 : Fin k0_t3_loop.trips) : Fin 3 → Nat :=
  let c10_1065 : Index := 10#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1132 : Index := Scalar.indexCast v1087
  let c0_1066 : Index := 0#32
  ![10, v1132.toNat, 0]
def k0_off22 (k0_t3 : Fin k0_t3_loop.trips) : Fin 3 → Nat :=
  let c42_1067 : Index := 42#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1135 : Index := Scalar.indexCast v1087
  let c0_1068 : Index := 0#32
  ![42, v1135.toNat, 0]
def k0_off23 (k0_t3 : Fin k0_t3_loop.trips) : Fin 3 → Nat :=
  let c11_1073 : Index := 11#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1154 : Index := Scalar.indexCast v1087
  let c0_1074 : Index := 0#32
  ![11, v1154.toNat, 0]
def k0_off24 (k0_t3 : Fin k0_t3_loop.trips) : Fin 3 → Nat :=
  let c43_1075 : Index := 43#32
  let c0_i32_388 : BitVec 32 := 0#32
  let c1_i32_390 : BitVec 32 := 1#32
  let arg13 : BitVec 32 := Scf.iv c0_i32_388 c1_i32_390 k0_t3
  let c8_i32_1048 : BitVec 32 := 8#32
  let v1086 : BitVec 32 := Scalar.muli arg13 c8_i32_1048
  let v1087 : BitVec 32 := v1086
  let v1157 : Index := Scalar.indexCast v1087
  let c0_1076 : Index := 0#32
  ![43, v1157.toNat, 0]
@[reducible] def k0_t4_loop : Scf.Loop 32 :=
  let c0_i32_464 : BitVec 32 := 0#32
  let c4_i32_465 : BitVec 32 := 4#32
  let v601 : BitVec 32 := Scalar.addi c0_i32_464 c4_i32_465
  let c1_i32_466 : BitVec 32 := 1#32
  ⟨c0_i32_464, v601, c1_i32_466⟩
def k0_mult4 (k0_t4 : Fin k0_t4_loop.trips) : BitVec 32 :=
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  v1086
def k0_off25 (k0_t4 : Fin k0_t4_loop.trips) : Fin 3 → Nat :=
  let c12_1049 : Index := 12#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1088 : Index := Scalar.indexCast v1087
  let c0_1050 : Index := 0#32
  ![12, v1088.toNat, 0]
def k0_off26 (k0_t4 : Fin k0_t4_loop.trips) : Fin 3 → Nat :=
  let c44_1051 : Index := 44#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1091 : Index := Scalar.indexCast v1087
  let c0_1052 : Index := 0#32
  ![44, v1091.toNat, 0]
def k0_off27 (k0_t4 : Fin k0_t4_loop.trips) : Fin 3 → Nat :=
  let c13_1057 : Index := 13#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1110 : Index := Scalar.indexCast v1087
  let c0_1058 : Index := 0#32
  ![13, v1110.toNat, 0]
def k0_off28 (k0_t4 : Fin k0_t4_loop.trips) : Fin 3 → Nat :=
  let c45_1059 : Index := 45#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1113 : Index := Scalar.indexCast v1087
  let c0_1060 : Index := 0#32
  ![45, v1113.toNat, 0]
def k0_off29 (k0_t4 : Fin k0_t4_loop.trips) : Fin 3 → Nat :=
  let c14_1065 : Index := 14#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1132 : Index := Scalar.indexCast v1087
  let c0_1066 : Index := 0#32
  ![14, v1132.toNat, 0]
def k0_off30 (k0_t4 : Fin k0_t4_loop.trips) : Fin 3 → Nat :=
  let c46_1067 : Index := 46#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1135 : Index := Scalar.indexCast v1087
  let c0_1068 : Index := 0#32
  ![46, v1135.toNat, 0]
def k0_off31 (k0_t4 : Fin k0_t4_loop.trips) : Fin 3 → Nat :=
  let c15_1073 : Index := 15#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1154 : Index := Scalar.indexCast v1087
  let c0_1074 : Index := 0#32
  ![15, v1154.toNat, 0]
def k0_off32 (k0_t4 : Fin k0_t4_loop.trips) : Fin 3 → Nat :=
  let c47_1075 : Index := 47#32
  let c0_i32_464 : BitVec 32 := 0#32
  let c1_i32_466 : BitVec 32 := 1#32
  let arg13 : BitVec 32 := Scf.iv c0_i32_464 c1_i32_466 k0_t4
  let c8_i32_1048 : BitVec 32 := 8#32
  let v1086 : BitVec 32 := Scalar.muli arg13 c8_i32_1048
  let v1087 : BitVec 32 := v1086
  let v1157 : Index := Scalar.indexCast v1087
  let c0_1076 : Index := 0#32
  ![47, v1157.toNat, 0]
@[reducible] def k0_t5_loop : Scf.Loop 32 :=
  let c0_i32_540 : BitVec 32 := 0#32
  let c4_i32_541 : BitVec 32 := 4#32
  let v659 : BitVec 32 := Scalar.addi c0_i32_540 c4_i32_541
  let c1_i32_542 : BitVec 32 := 1#32
  ⟨c0_i32_540, v659, c1_i32_542⟩
def k0_mult5 (k0_t5 : Fin k0_t5_loop.trips) : BitVec 32 :=
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  v1086
def k0_off33 (k0_t5 : Fin k0_t5_loop.trips) : Fin 3 → Nat :=
  let c16_1049 : Index := 16#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1088 : Index := Scalar.indexCast v1087
  let c0_1050 : Index := 0#32
  ![16, v1088.toNat, 0]
def k0_off34 (k0_t5 : Fin k0_t5_loop.trips) : Fin 3 → Nat :=
  let c48_1051 : Index := 48#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1091 : Index := Scalar.indexCast v1087
  let c0_1052 : Index := 0#32
  ![48, v1091.toNat, 0]
def k0_off35 (k0_t5 : Fin k0_t5_loop.trips) : Fin 3 → Nat :=
  let c17_1057 : Index := 17#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1110 : Index := Scalar.indexCast v1087
  let c0_1058 : Index := 0#32
  ![17, v1110.toNat, 0]
def k0_off36 (k0_t5 : Fin k0_t5_loop.trips) : Fin 3 → Nat :=
  let c49_1059 : Index := 49#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1113 : Index := Scalar.indexCast v1087
  let c0_1060 : Index := 0#32
  ![49, v1113.toNat, 0]
def k0_off37 (k0_t5 : Fin k0_t5_loop.trips) : Fin 3 → Nat :=
  let c18_1065 : Index := 18#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1132 : Index := Scalar.indexCast v1087
  let c0_1066 : Index := 0#32
  ![18, v1132.toNat, 0]
def k0_off38 (k0_t5 : Fin k0_t5_loop.trips) : Fin 3 → Nat :=
  let c50_1067 : Index := 50#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1135 : Index := Scalar.indexCast v1087
  let c0_1068 : Index := 0#32
  ![50, v1135.toNat, 0]
def k0_off39 (k0_t5 : Fin k0_t5_loop.trips) : Fin 3 → Nat :=
  let c19_1073 : Index := 19#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1154 : Index := Scalar.indexCast v1087
  let c0_1074 : Index := 0#32
  ![19, v1154.toNat, 0]
def k0_off40 (k0_t5 : Fin k0_t5_loop.trips) : Fin 3 → Nat :=
  let c51_1075 : Index := 51#32
  let c0_i32_540 : BitVec 32 := 0#32
  let c1_i32_542 : BitVec 32 := 1#32
  let arg13 : BitVec 32 := Scf.iv c0_i32_540 c1_i32_542 k0_t5
  let c8_i32_1048 : BitVec 32 := 8#32
  let v1086 : BitVec 32 := Scalar.muli arg13 c8_i32_1048
  let v1087 : BitVec 32 := v1086
  let v1157 : Index := Scalar.indexCast v1087
  let c0_1076 : Index := 0#32
  ![51, v1157.toNat, 0]
@[reducible] def k0_t6_loop : Scf.Loop 32 :=
  let c0_i32_616 : BitVec 32 := 0#32
  let c4_i32_617 : BitVec 32 := 4#32
  let v717 : BitVec 32 := Scalar.addi c0_i32_616 c4_i32_617
  let c1_i32_618 : BitVec 32 := 1#32
  ⟨c0_i32_616, v717, c1_i32_618⟩
def k0_mult6 (k0_t6 : Fin k0_t6_loop.trips) : BitVec 32 :=
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  v1086
def k0_off41 (k0_t6 : Fin k0_t6_loop.trips) : Fin 3 → Nat :=
  let c20_1049 : Index := 20#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1088 : Index := Scalar.indexCast v1087
  let c0_1050 : Index := 0#32
  ![20, v1088.toNat, 0]
def k0_off42 (k0_t6 : Fin k0_t6_loop.trips) : Fin 3 → Nat :=
  let c52_1051 : Index := 52#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1091 : Index := Scalar.indexCast v1087
  let c0_1052 : Index := 0#32
  ![52, v1091.toNat, 0]
def k0_off43 (k0_t6 : Fin k0_t6_loop.trips) : Fin 3 → Nat :=
  let c21_1057 : Index := 21#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1110 : Index := Scalar.indexCast v1087
  let c0_1058 : Index := 0#32
  ![21, v1110.toNat, 0]
def k0_off44 (k0_t6 : Fin k0_t6_loop.trips) : Fin 3 → Nat :=
  let c53_1059 : Index := 53#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1113 : Index := Scalar.indexCast v1087
  let c0_1060 : Index := 0#32
  ![53, v1113.toNat, 0]
def k0_off45 (k0_t6 : Fin k0_t6_loop.trips) : Fin 3 → Nat :=
  let c22_1065 : Index := 22#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1132 : Index := Scalar.indexCast v1087
  let c0_1066 : Index := 0#32
  ![22, v1132.toNat, 0]
def k0_off46 (k0_t6 : Fin k0_t6_loop.trips) : Fin 3 → Nat :=
  let c54_1067 : Index := 54#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1135 : Index := Scalar.indexCast v1087
  let c0_1068 : Index := 0#32
  ![54, v1135.toNat, 0]
def k0_off47 (k0_t6 : Fin k0_t6_loop.trips) : Fin 3 → Nat :=
  let c23_1073 : Index := 23#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1154 : Index := Scalar.indexCast v1087
  let c0_1074 : Index := 0#32
  ![23, v1154.toNat, 0]
def k0_off48 (k0_t6 : Fin k0_t6_loop.trips) : Fin 3 → Nat :=
  let c55_1075 : Index := 55#32
  let c0_i32_616 : BitVec 32 := 0#32
  let c1_i32_618 : BitVec 32 := 1#32
  let arg13 : BitVec 32 := Scf.iv c0_i32_616 c1_i32_618 k0_t6
  let c8_i32_1048 : BitVec 32 := 8#32
  let v1086 : BitVec 32 := Scalar.muli arg13 c8_i32_1048
  let v1087 : BitVec 32 := v1086
  let v1157 : Index := Scalar.indexCast v1087
  let c0_1076 : Index := 0#32
  ![55, v1157.toNat, 0]
@[reducible] def k0_t7_loop : Scf.Loop 32 :=
  let c0_i32_692 : BitVec 32 := 0#32
  let c4_i32_693 : BitVec 32 := 4#32
  let v775 : BitVec 32 := Scalar.addi c0_i32_692 c4_i32_693
  let c1_i32_694 : BitVec 32 := 1#32
  ⟨c0_i32_692, v775, c1_i32_694⟩
def k0_mult7 (k0_t7 : Fin k0_t7_loop.trips) : BitVec 32 :=
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  v1086
def k0_off49 (k0_t7 : Fin k0_t7_loop.trips) : Fin 3 → Nat :=
  let c24_1049 : Index := 24#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1088 : Index := Scalar.indexCast v1087
  let c0_1050 : Index := 0#32
  ![24, v1088.toNat, 0]
def k0_off50 (k0_t7 : Fin k0_t7_loop.trips) : Fin 3 → Nat :=
  let c56_1051 : Index := 56#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1091 : Index := Scalar.indexCast v1087
  let c0_1052 : Index := 0#32
  ![56, v1091.toNat, 0]
def k0_off51 (k0_t7 : Fin k0_t7_loop.trips) : Fin 3 → Nat :=
  let c25_1057 : Index := 25#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1110 : Index := Scalar.indexCast v1087
  let c0_1058 : Index := 0#32
  ![25, v1110.toNat, 0]
def k0_off52 (k0_t7 : Fin k0_t7_loop.trips) : Fin 3 → Nat :=
  let c57_1059 : Index := 57#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1113 : Index := Scalar.indexCast v1087
  let c0_1060 : Index := 0#32
  ![57, v1113.toNat, 0]
def k0_off53 (k0_t7 : Fin k0_t7_loop.trips) : Fin 3 → Nat :=
  let c26_1065 : Index := 26#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1132 : Index := Scalar.indexCast v1087
  let c0_1066 : Index := 0#32
  ![26, v1132.toNat, 0]
def k0_off54 (k0_t7 : Fin k0_t7_loop.trips) : Fin 3 → Nat :=
  let c58_1067 : Index := 58#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1135 : Index := Scalar.indexCast v1087
  let c0_1068 : Index := 0#32
  ![58, v1135.toNat, 0]
def k0_off55 (k0_t7 : Fin k0_t7_loop.trips) : Fin 3 → Nat :=
  let c27_1073 : Index := 27#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1154 : Index := Scalar.indexCast v1087
  let c0_1074 : Index := 0#32
  ![27, v1154.toNat, 0]
def k0_off56 (k0_t7 : Fin k0_t7_loop.trips) : Fin 3 → Nat :=
  let c59_1075 : Index := 59#32
  let c0_i32_692 : BitVec 32 := 0#32
  let c1_i32_694 : BitVec 32 := 1#32
  let arg13 : BitVec 32 := Scf.iv c0_i32_692 c1_i32_694 k0_t7
  let c8_i32_1048 : BitVec 32 := 8#32
  let v1086 : BitVec 32 := Scalar.muli arg13 c8_i32_1048
  let v1087 : BitVec 32 := v1086
  let v1157 : Index := Scalar.indexCast v1087
  let c0_1076 : Index := 0#32
  ![59, v1157.toNat, 0]
@[reducible] def k0_t8_loop : Scf.Loop 32 :=
  let c0_i32_768 : BitVec 32 := 0#32
  let c4_i32_769 : BitVec 32 := 4#32
  let v833 : BitVec 32 := Scalar.addi c0_i32_768 c4_i32_769
  let c1_i32_770 : BitVec 32 := 1#32
  ⟨c0_i32_768, v833, c1_i32_770⟩
def k0_mult8 (k0_t8 : Fin k0_t8_loop.trips) : BitVec 32 :=
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  v1086
def k0_off57 (k0_t8 : Fin k0_t8_loop.trips) : Fin 3 → Nat :=
  let c28_1049 : Index := 28#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1088 : Index := Scalar.indexCast v1087
  let c0_1050 : Index := 0#32
  ![28, v1088.toNat, 0]
def k0_off58 (k0_t8 : Fin k0_t8_loop.trips) : Fin 3 → Nat :=
  let c60_1051 : Index := 60#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1091 : Index := Scalar.indexCast v1087
  let c0_1052 : Index := 0#32
  ![60, v1091.toNat, 0]
def k0_off59 (k0_t8 : Fin k0_t8_loop.trips) : Fin 3 → Nat :=
  let c29_1057 : Index := 29#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1110 : Index := Scalar.indexCast v1087
  let c0_1058 : Index := 0#32
  ![29, v1110.toNat, 0]
def k0_off60 (k0_t8 : Fin k0_t8_loop.trips) : Fin 3 → Nat :=
  let c61_1059 : Index := 61#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1113 : Index := Scalar.indexCast v1087
  let c0_1060 : Index := 0#32
  ![61, v1113.toNat, 0]
def k0_off61 (k0_t8 : Fin k0_t8_loop.trips) : Fin 3 → Nat :=
  let c30_1065 : Index := 30#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1132 : Index := Scalar.indexCast v1087
  let c0_1066 : Index := 0#32
  ![30, v1132.toNat, 0]
def k0_off62 (k0_t8 : Fin k0_t8_loop.trips) : Fin 3 → Nat :=
  let c62_1067 : Index := 62#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1135 : Index := Scalar.indexCast v1087
  let c0_1068 : Index := 0#32
  ![62, v1135.toNat, 0]
def k0_off63 (k0_t8 : Fin k0_t8_loop.trips) : Fin 3 → Nat :=
  let c31_1073 : Index := 31#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1154 : Index := Scalar.indexCast v1087
  let c0_1074 : Index := 0#32
  ![31, v1154.toNat, 0]
def k0_off64 (k0_t8 : Fin k0_t8_loop.trips) : Fin 3 → Nat :=
  let c63_1075 : Index := 63#32
  let c0_i32_768 : BitVec 32 := 0#32
  let c1_i32_770 : BitVec 32 := 1#32
  let arg13 : BitVec 32 := Scf.iv c0_i32_768 c1_i32_770 k0_t8
  let c8_i32_1048 : BitVec 32 := 8#32
  let v1086 : BitVec 32 := Scalar.muli arg13 c8_i32_1048
  let v1087 : BitVec 32 := v1086
  let v1157 : Index := Scalar.indexCast v1087
  let c0_1076 : Index := 0#32
  ![63, v1157.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== SsmRefIdeal.lean ====
abbrev S32x13312 : Shape := ⟨2, ![32, 13312]⟩
abbrev S8x64x64 : Shape := ⟨3, ![8, 64, 64]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S1024x2048 : Shape := ⟨2, ![1024, 2048]⟩
abbrev S32x1024 : Shape := ⟨2, ![32, 1024]⟩
abbrev S8x4x64x16 : Shape := ⟨4, ![8, 4, 64, 16]⟩
abbrev S64x8x4x64 : Shape := ⟨4, ![64, 8, 4, 64]⟩
abbrev S8x4x64x64 : Shape := ⟨4, ![8, 4, 64, 64]⟩
abbrev S1x64x64 : Shape := ⟨3, ![1, 64, 64]⟩
abbrev S8x1x64x64 : Shape := ⟨4, ![8, 1, 64, 64]⟩
abbrev S8x32x128 : Shape := ⟨3, ![8, 32, 128]⟩
abbrev S8x64x128 : Shape := ⟨3, ![8, 64, 128]⟩
abbrev S64x8x128 : Shape := ⟨3, ![64, 8, 128]⟩

abbrev nBuf : Space → Nat
  | .hbm => 101
  | .vmem => 0
  | .smem => 0
  | _ => 0

abbrev bufTy : (tb : Table) → Fin (tcTables nBuf tb) → BufTy
  | .hbm, ⟨0, _⟩ => ⟨S32x13312, .f32⟩
  | .hbm, ⟨1, _⟩ => ⟨S8x64x64, .f32⟩
  | .hbm, ⟨2, _⟩ => ⟨S8x64x64, .f32⟩
  | .hbm, ⟨3, _⟩ => ⟨S64x64, .f32⟩
  | .hbm, ⟨4, _⟩ => ⟨S64x64, .f32⟩
  | .hbm, ⟨5, _⟩ => ⟨S64x64x16, .f32⟩
  | .hbm, ⟨6, _⟩ => ⟨S64x64x16, .f32⟩
  | .hbm, ⟨7, _⟩ => ⟨S64x16x64, .f32⟩
  | .hbm, ⟨8, _⟩ => ⟨S64x16x64, .f32⟩
  | .hbm, ⟨9, _⟩ => ⟨S1024, .f32⟩
  | .hbm, ⟨10, _⟩ => ⟨S1024x2048, .f32⟩
  | .hbm, ⟨11, _⟩ => ⟨S32x1024, .f32⟩
  | .hbm, ⟨12, _⟩ => ⟨S8x4x64x16, .f32⟩
  | .hbm, ⟨13, _⟩ => ⟨S64x8x4x64, .f32⟩
  | .hbm, ⟨14, _⟩ => ⟨S8x4x64x64, .f32⟩
  | .hbm, ⟨15, _⟩ => ⟨S64x8x4x64, .f32⟩
  | .hbm, ⟨16, _⟩ => ⟨S8x4x64x64, .f32⟩
  | .hbm, ⟨17, _⟩ => ⟨S1x64x64, .f32⟩
  | .hbm, ⟨18, _⟩ => ⟨S8x64x64, .f32⟩
  | .hbm, ⟨19, _⟩ => ⟨S8x64x64, .f32⟩
  | .hbm, ⟨20, _⟩ => ⟨S1x64x64, .f32⟩
  | .hbm, ⟨21, _⟩ => ⟨S8x64x64, .f32⟩
  | .hbm, ⟨22, _⟩ => ⟨S8x64x64, .f32⟩
  | .hbm, ⟨23, _⟩ => ⟨S8x64x64, .f32⟩
  | .hbm, ⟨24, _⟩ => ⟨S8x1x64x64, .f32⟩
  | .hbm, ⟨25, _⟩ => ⟨S8x64x64, .f32⟩
  | .hbm, ⟨26, _⟩ => ⟨S8x64x64, .f32⟩
  | .hbm, ⟨27, _⟩ => ⟨S1x64x64, .f32⟩
  | .hbm, ⟨28, _⟩ => ⟨S8x64x64, .f32⟩
  | .hbm, ⟨29, _⟩ => ⟨S8x64x64, .f32⟩
  | .hbm, ⟨30, _⟩ => ⟨S1x64x64, .f32⟩
  | .hbm, ⟨31, _⟩ => ⟨S8x64x64, .f32⟩
  | .hbm, ⟨32, _⟩ => ⟨S8x64x64, .f32⟩
  | .hbm, ⟨33, _⟩ => ⟨S8x64x64, .f32⟩
  | .hbm, ⟨34, _⟩ => ⟨S8x1x64x64, .f32⟩
  | .hbm, ⟨35, _⟩ => ⟨S8x64x64, .f32⟩
  | .hbm, ⟨36, _⟩ => ⟨S8x64x64, .f32⟩
  | .hbm, ⟨37, _⟩ => ⟨S1x64x64, .f32⟩
  | .hbm, ⟨38, _⟩ => ⟨S8x64x64, .f32⟩
  | .hbm, ⟨39, _⟩ => ⟨S8x64x64, .f32⟩
  | .hbm, ⟨40, _⟩ => ⟨S1x64x64, .f32⟩
  | .hbm, ⟨41, _⟩ => ⟨S8x64x64, .f32⟩
  | .hbm, ⟨42, _⟩ => ⟨S8x64x64, .f32⟩
  | .hbm, ⟨43, _⟩ => ⟨S8x64x64, .f32⟩
  | .hbm, ⟨44, _⟩ => ⟨S8x1x64x64, .f32⟩
  | .hbm, ⟨45, _⟩ => ⟨S8x64x64, .f32⟩
  | .hbm, ⟨46, _⟩ => ⟨S8x64x64, .f32⟩
  | .hbm, ⟨47, _⟩ => ⟨S1x64x64, .f32⟩
  | .hbm, ⟨48, _⟩ => ⟨S8x64x64, .f32⟩
  | .hbm, ⟨49, _⟩ => ⟨S8x64x64, .f32⟩
  | .hbm, ⟨50, _⟩ => ⟨S1x64x64, .f32⟩
  | .hbm, ⟨51, _⟩ => ⟨S8x64x64, .f32⟩
  | .hbm, ⟨52, _⟩ => ⟨S8x64x64, .f32⟩
  | .hbm, ⟨53, _⟩ => ⟨S8x64x64, .f32⟩
  | .hbm, ⟨54, _⟩ => ⟨S8x1x64x64, .f32⟩
  | .hbm, ⟨55, _⟩ => ⟨S8x64x64, .f32⟩
  | .hbm, ⟨56, _⟩ => ⟨S8x64x64, .f32⟩
  | .hbm, ⟨57, _⟩ => ⟨S1x64x64, .f32⟩
  | .hbm, ⟨58, _⟩ => ⟨S8x64x64, .f32⟩
  | .hbm, ⟨59, _⟩ => ⟨S8x64x64, .f32⟩
  | .hbm, ⟨60, _⟩ => ⟨S1x64x64, .f32⟩
  | .hbm, ⟨61, _⟩ => ⟨S8x64x64, .f32⟩
  | .hbm, ⟨62, _⟩ => ⟨S8x64x64, .f32⟩
  | .hbm, ⟨63, _⟩ => ⟨S8x64x64, .f32⟩
  | .hbm, ⟨64, _⟩ => ⟨S8x1x64x64, .f32⟩
  | .hbm, ⟨65, _⟩ => ⟨S8x64x64, .f32⟩
  | .hbm, ⟨66, _⟩ => ⟨S8x64x64, .f32⟩
  | .hbm, ⟨67, _⟩ => ⟨S1x64x64, .f32⟩
  | .hbm, ⟨68, _⟩ => ⟨S8x64x64, .f32⟩
  | .hbm, ⟨69, _⟩ => ⟨S8x64x64, .f32⟩
  | .hbm, ⟨70, _⟩ => ⟨S1x64x64, .f32⟩
  | .hbm, ⟨71, _⟩ => ⟨S8x64x64, .f32⟩
  | .hbm, ⟨72, _⟩ => ⟨S8x64x64, .f32⟩
  | .hbm, ⟨73, _⟩ => ⟨S8x64x64, .f32⟩
  | .hbm, ⟨74, _⟩ => ⟨S8x1x64x64, .f32⟩
  | .hbm, ⟨75, _⟩ => ⟨S8x64x64, .f32⟩
  | .hbm, ⟨76, _⟩ => ⟨S8x64x64, .f32⟩
  | .hbm, ⟨77, _⟩ => ⟨S1x64x64, .f32⟩
  | .hbm, ⟨78, _⟩ => ⟨S8x64x64, .f32⟩
  | .hbm, ⟨79, _⟩ => ⟨S8x64x64, .f32⟩
  | .hbm, ⟨80, _⟩ => ⟨S1x64x64, .f32⟩
  | .hbm, ⟨81, _⟩ => ⟨S8x64x64, .f32⟩
  | .hbm, ⟨82, _⟩ => ⟨S8x64x64, .f32⟩
  | .hbm, ⟨83, _⟩ => ⟨S8x64x64, .f32⟩
  | .hbm, ⟨84, _⟩ => ⟨S8x1x64x64, .f32⟩
  | .hbm, ⟨85, _⟩ => ⟨S8x64x64, .f32⟩
  | .hbm, ⟨86, _⟩ => ⟨S8x64x64, .f32⟩
  | .hbm, ⟨87, _⟩ => ⟨S1x64x64, .f32⟩
  | .hbm, ⟨88, _⟩ => ⟨S8x64x64, .f32⟩
  | .hbm, ⟨89, _⟩ => ⟨S8x64x64, .f32⟩
  | .hbm, ⟨90, _⟩ => ⟨S1x64x64, .f32⟩
  | .hbm, ⟨91, _⟩ => ⟨S8x64x64, .f32⟩
  | .hbm, ⟨92, _⟩ => ⟨S8x64x64, .f32⟩
  | .hbm, ⟨93, _⟩ => ⟨S8x64x64, .f32⟩
  | .hbm, ⟨94, _⟩ => ⟨S8x1x64x64, .f32⟩
  | .hbm, ⟨95, _⟩ => ⟨S8x64x64, .f32⟩
  | .hbm, ⟨96, _⟩ => ⟨S8x64x64, .f32⟩
  | .hbm, ⟨97, _⟩ => ⟨S8x32x128, .f32⟩
  | .hbm, ⟨98, _⟩ => ⟨S8x32x128, .f32⟩
  | .hbm, ⟨99, _⟩ => ⟨S8x64x128, .f32⟩
  | .hbm, ⟨100, _⟩ => ⟨S64x8x128, .f32⟩
  | _, _ => ⟨S32x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjRefIdeal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Merge.lean ====
abbrev S8192x1024 : Shape := ⟨2, ![8192, 1024]⟩
abbrev S8192x512 : Shape := ⟨2, ![8192, 512]⟩
abbrev S8192x13312 : Shape := ⟨2, ![8192, 13312]⟩
abbrev S1024x2048 : Shape := ⟨2, ![1024, 2048]⟩
abbrev S512x2048 : Shape := ⟨2, ![512, 2048]⟩
abbrev S8192x2048 : Shape := ⟨2, ![8192, 2048]⟩
abbrev S512x1024 : Shape := ⟨2, ![512, 1024]⟩
abbrev S512x512 : Shape := ⟨2, ![512, 512]⟩
abbrev S1024x1024 : Shape := ⟨2, ![1024, 1024]⟩

abbrev nBuf : Space → Nat
  | .hbm => 11
  | .vmem => 20
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x13312, .f32⟩
  | .hbm, ⟨4, _⟩ => ⟨S1024x2048, .f32⟩
  | .hbm, ⟨5, _⟩ => ⟨S1024x2048, .f32⟩
  | .hbm, ⟨6, _⟩ => ⟨S512x2048, .f32⟩
  | .hbm, ⟨7, _⟩ => ⟨S1024x2048, .bf16⟩
  | .hbm, ⟨8, _⟩ => ⟨S1024x2048, .bf16⟩
  | .hbm, ⟨9, _⟩ => ⟨S512x2048, .bf16⟩
  | .hbm, ⟨10, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8192x1024 : Shape := ⟨2, ![8192, 1024]⟩
abbrev S8192x512 : Shape := ⟨2, ![8192, 512]⟩
abbrev S8192x13312 : Shape := ⟨2, ![8192, 13312]⟩
abbrev S1024x2048 : Shape := ⟨2, ![1024, 2048]⟩
abbrev S512x2048 : Shape := ⟨2, ![512, 2048]⟩
abbrev S8192x6144 : Shape := ⟨2, ![8192, 6144]⟩
abbrev S_ : Shape := ⟨0, ![]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x512, .bf16⟩
  | .hbm, ⟨3, _⟩ => ⟨S8192x13312, .f32⟩
  | .hbm, ⟨4, _⟩ => ⟨S1024x2048, .f32⟩
  | .hbm, ⟨5, _⟩ => ⟨S1024x2048, .f32⟩
  | .hbm, ⟨6, _⟩ => ⟨S512x2048, .f32⟩
  | .hbm, ⟨7, _⟩ => ⟨S8192x6144, .f32⟩
  | .hbm, ⟨8, _⟩ => ⟨S8192x6144, .f32⟩
  | .hbm, ⟨9, _⟩ => ⟨S8192x6144, .f32⟩
  | .hbm, ⟨10, _⟩ => ⟨S_, .f32⟩
  | .hbm, ⟨11, _⟩ => ⟨S8192x6144, .f32⟩
  | .hbm, ⟨12, _⟩ => ⟨S8192x6144, .f32⟩
  | .hbm, ⟨13, _⟩ => ⟨S_, .f32⟩
  | .hbm, ⟨14, _⟩ => ⟨S8192x6144, .f32⟩
  | .hbm, ⟨15, _⟩ => ⟨S8192x6144, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x2048, .f32⟩
  | .hbm, ⟨21, _⟩ => ⟨S8192x2048, .f32⟩
  | .hbm, ⟨22, _⟩ => ⟨S8192x1024, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x512, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Proj.lean ====
abbrev S8192x2048 : Shape := ⟨2, ![8192, 2048]⟩
abbrev S2048 : Shape := ⟨1, ![2048]⟩
abbrev S2048x13312 : Shape := ⟨2, ![2048, 13312]⟩
abbrev S2048x64 : Shape := ⟨2, ![2048, 64]⟩
abbrev S2048x32 : Shape := ⟨2, ![2048, 32]⟩
abbrev S2048x128 : Shape := ⟨2, ![2048, 128]⟩
abbrev S1x2048 : Shape := ⟨2, ![1, 2048]⟩
abbrev S8192x13312 : Shape := ⟨2, ![8192, 13312]⟩
abbrev S1024x2048 : Shape := ⟨2, ![1024, 2048]⟩
abbrev S2048x1024 : Shape := ⟨2, ![2048, 1024]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1024x512 : Shape := ⟨2, ![1024, 512]⟩
abbrev S1x128 : Shape := ⟨2, ![1, 128]⟩

abbrev nBuf : Space → Nat
  | .hbm => 17
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x13312, .f32⟩
  | .hbm, ⟨3, _⟩ => ⟨S2048x64, .f32⟩
  | .hbm, ⟨4, _⟩ => ⟨S2048x64, .f32⟩
  | .hbm, ⟨5, _⟩ => ⟨S2048x32, .f32⟩
  | .hbm, ⟨6, _⟩ => ⟨S2048x32, .f32⟩
  | .hbm, ⟨7, _⟩ => ⟨S2048x13312, .bf16⟩
  | .hbm, ⟨8, _⟩ => ⟨S2048x128, .f32⟩
  | .hbm, ⟨9, _⟩ => ⟨S2048x64, .f32⟩
  | .hbm, ⟨10, _⟩ => ⟨S2048x128, .f32⟩
  | .hbm, ⟨11, _⟩ => ⟨S2048x128, .f32⟩
  | .hbm, ⟨12, _⟩ => ⟨S2048x32, .f32⟩
  | .hbm, ⟨13, _⟩ => ⟨S2048x32, .f32⟩
  | .hbm, ⟨14, _⟩ => ⟨S2048x128, .f32⟩
  | .hbm, ⟨15, _⟩ => ⟨S1x2048, .f32⟩
  | .hbm, ⟨16, _⟩ => ⟨S8192x13312, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1024, .f32⟩
  | .local _ .vmem, ⟨14, _⟩ => ⟨S1024x1024, .f32⟩
  | .local _ .vmem, ⟨15, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 13], ![false, false]⟩

def k0_cond2 (i : grid0.Coords) : BitVec 1 :=
  let arg1 : BitVec 32 := BitVec.ofNat 32 (i 1).val
  let c2_i32 : BitVec 32 := 2#32
  let v3 : BitVec 1 := Scalar.cmpi .eq arg1 c2_i32
  let v5 : BitVec 32 := Scalar.extui v3
  let c0_i32_1 : BitVec 32 := 0#32
  let v6 : BitVec 1 := Scalar.cmpi .ne v5 c0_i32_1
  v6

def k0_cond3 (i : grid0.Coords) : BitVec 1 :=
  let arg1 : BitVec 32 := BitVec.ofNat 32 (i 1).val
  let c11_i32 : BitVec 32 := 11#32
  let v7 : BitVec 1 := Scalar.cmpi .eq arg1 c11_i32
  let v10 : BitVec 32 := Scalar.extui v7
  let c0_i32_3 : BitVec 32 := 0#32
  let v11 : BitVec 1 := Scalar.cmpi .ne v10 c0_i32_3
  v11

def k0_cond4 (i : grid0.Coords) : BitVec 1 :=
  let arg1 : BitVec 32 := BitVec.ofNat 32 (i 1).val
  let c4_i32 : BitVec 32 := 4#32
  let v12 : BitVec 1 := Scalar.cmpi .eq arg1 c4_i32
  let v15 : BitVec 32 := Scalar.extui v12
  let c0_i32_5 : BitVec 32 := 0#32
  let v16 : BitVec 1 := Scalar.cmpi .ne v15 c0_i32_5
  v16

def k0_cond5 (i : grid0.Coords) : BitVec 1 :=
  let arg1 : BitVec 32 := BitVec.ofNat 32 (i 1).val
  let c2_i32 : BitVec 32 := 2#32
  let v3 : BitVec 1 := Scalar.cmpi .eq arg1 c2_i32
  let v_true : BitVec 1 := 1#1
  let v4 : BitVec 1 := Scalar.xori v3 v_true
  let c11_i32 : BitVec 32 := 11#32
  let v7 : BitVec 1 := Scalar.cmpi .eq arg1 c11_i32
  let true_2 : BitVec 1 := 1#1
  let v8 : BitVec 1 := Scalar.xori v7 true_2
  let v9 : BitVec 1 := Scalar.andi v4 v8
  let c4_i32 : BitVec 32 := 4#32
  let v12 : BitVec 1 := Scalar.cmpi .eq arg1 c4_i32
  let true_4 : BitVec 1 := 1#1
  let v13 : BitVec 1 := Scalar.xori v12 true_4
  let v14 : BitVec 1 := Scalar.andi v9 v13
  let v17 : BitVec 32 := Scalar.extui v14
  let c0_i32_6 : BitVec 32 := 0#32
  let v18 : BitVec 1 := Scalar.cmpi .ne v17 c0_i32_6
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ProjRefIdeal.lean ====
abbrev S8192x2048 : Shape := ⟨2, ![8192, 2048]⟩
abbrev S2048 : Shape := ⟨1, ![2048]⟩
abbrev S2048x13312 : Shape := ⟨2, ![2048, 13312]⟩
abbrev S2048x64 : Shape := ⟨2, ![2048, 64]⟩
abbrev S2048x32 : Shape := ⟨2, ![2048, 32]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x13312 : Shape := ⟨2, ![8192, 13312]⟩
abbrev S4x2048x13312 : Shape := ⟨3, ![4, 2048, 13312]⟩
abbrev S4x2048x1024 : Shape := ⟨3, ![4, 2048, 1024]⟩
abbrev S4x2048x8x128 : Shape := ⟨4, ![4, 2048, 8, 128]⟩
abbrev S4x2048x8x64 : Shape := ⟨4, ![4, 2048, 8, 64]⟩
abbrev S2048x1x64 : Shape := ⟨3, ![2048, 1, 64]⟩
abbrev S1x2048x1x64 : Shape := ⟨4, ![1, 2048, 1, 64]⟩
abbrev S4x2048x16x64 : Shape := ⟨4, ![4, 2048, 16, 64]⟩
abbrev S4x2048x16x32 : Shape := ⟨4, ![4, 2048, 16, 32]⟩
abbrev S2048x1x32 : Shape := ⟨3, ![2048, 1, 32]⟩
abbrev S1x2048x1x32 : Shape := ⟨4, ![1, 2048, 1, 32]⟩
abbrev S4x2048x512 : Shape := ⟨3, ![4, 2048, 512]⟩
abbrev S4x2048x4x128 : Shape := ⟨4, ![4, 2048, 4, 128]⟩
abbrev S4x2048x4x64 : Shape := ⟨4, ![4, 2048, 4, 64]⟩
abbrev S4x2048x2048 : Shape := ⟨3, ![4, 2048, 2048]⟩
abbrev S4x2048x6144 : Shape := ⟨3, ![4, 2048, 6144]⟩
abbrev S4x2048x1536 : Shape := ⟨3, ![4, 2048, 1536]⟩

abbrev nBuf : Space → Nat
  | .hbm => 97
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x13312, .f32⟩
  | .hbm, ⟨3, _⟩ => ⟨S2048x64, .f32⟩
  | .hbm, ⟨4, _⟩ => ⟨S2048x64, .f32⟩
  | .hbm, ⟨5, _⟩ => ⟨S2048x32, .f32⟩
  | .hbm, ⟨6, _⟩ => ⟨S2048x32, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x13312, .f32⟩
  | .hbm, ⟨24, _⟩ => ⟨S4x2048x13312, .f32⟩
  | .hbm, ⟨25, _⟩ => ⟨S4x2048x1024, .f32⟩
  | .hbm, ⟨26, _⟩ => ⟨S4x2048x8x128, .f32⟩
  | .hbm, ⟨27, _⟩ => ⟨S4x2048x8x64, .f32⟩
  | .hbm, ⟨28, _⟩ => ⟨S4x2048x8x64, .f32⟩
  | .hbm, ⟨29, _⟩ => ⟨S2048x1x64, .f32⟩
  | .hbm, ⟨30, _⟩ => ⟨S2048x1x64, .f32⟩
  | .hbm, ⟨31, _⟩ => ⟨S1x2048x1x64, .f32⟩
  | .hbm, ⟨32, _⟩ => ⟨S4x2048x8x64, .f32⟩
  | .hbm, ⟨33, _⟩ => ⟨S4x2048x8x64, .f32⟩
  | .hbm, ⟨34, _⟩ => ⟨S1x2048x1x64, .f32⟩
  | .hbm, ⟨35, _⟩ => ⟨S4x2048x8x64, .f32⟩
  | .hbm, ⟨36, _⟩ => ⟨S4x2048x8x64, .f32⟩
  | .hbm, ⟨37, _⟩ => ⟨S4x2048x8x64, .f32⟩
  | .hbm, ⟨38, _⟩ => ⟨S1x2048x1x64, .f32⟩
  | .hbm, ⟨39, _⟩ => ⟨S4x2048x8x64, .f32⟩
  | .hbm, ⟨40, _⟩ => ⟨S4x2048x8x64, .f32⟩
  | .hbm, ⟨41, _⟩ => ⟨S1x2048x1x64, .f32⟩
  | .hbm, ⟨42, _⟩ => ⟨S4x2048x8x64, .f32⟩
  | .hbm, ⟨43, _⟩ => ⟨S4x2048x8x64, .f32⟩
  | .hbm, ⟨44, _⟩ => ⟨S4x2048x8x64, .f32⟩
  | .hbm, ⟨45, _⟩ => ⟨S4x2048x8x128, .f32⟩
  | .hbm, ⟨46, _⟩ => ⟨S4x2048x1024, .f32⟩
  | .hbm, ⟨47, _⟩ => ⟨S4x2048x1024, .f32⟩
  | .hbm, ⟨48, _⟩ => ⟨S4x2048x16x64, .f32⟩
  | .hbm, ⟨49, _⟩ => ⟨S4x2048x16x32, .f32⟩
  | .hbm, ⟨50, _⟩ => ⟨S4x2048x16x32, .f32⟩
  | .hbm, ⟨51, _⟩ => ⟨S2048x1x32, .f32⟩
  | .hbm, ⟨52, _⟩ => ⟨S2048x1x32, .f32⟩
  | .hbm, ⟨53, _⟩ => ⟨S1x2048x1x32, .f32⟩
  | .hbm, ⟨54, _⟩ => ⟨S4x2048x16x32, .f32⟩
  | .hbm, ⟨55, _⟩ => ⟨S4x2048x16x32, .f32⟩
  | .hbm, ⟨56, _⟩ => ⟨S1x2048x1x32, .f32⟩
  | .hbm, ⟨57, _⟩ => ⟨S4x2048x16x32, .f32⟩
  | .hbm, ⟨58, _⟩ => ⟨S4x2048x16x32, .f32⟩
  | .hbm, ⟨59, _⟩ => ⟨S4x2048x16x32, .f32⟩
  | .hbm, ⟨60, _⟩ => ⟨S1x2048x1x32, .f32⟩
  | .hbm, ⟨61, _⟩ => ⟨S4x2048x16x32, .f32⟩
  | .hbm, ⟨62, _⟩ => ⟨S4x2048x16x32, .f32⟩
  | .hbm, ⟨63, _⟩ => ⟨S1x2048x1x32, .f32⟩
  | .hbm, ⟨64, _⟩ => ⟨S4x2048x16x32, .f32⟩
  | .hbm, ⟨65, _⟩ => ⟨S4x2048x16x32, .f32⟩
  | .hbm, ⟨66, _⟩ => ⟨S4x2048x16x32, .f32⟩
  | .hbm, ⟨67, _⟩ => ⟨S4x2048x16x64, .f32⟩
  | .hbm, ⟨68, _⟩ => ⟨S4x2048x1024, .f32⟩
  | .hbm, ⟨69, _⟩ => ⟨S4x2048x512, .f32⟩
  | .hbm, ⟨70, _⟩ => ⟨S4x2048x4x128, .f32⟩
  | .hbm, ⟨71, _⟩ => ⟨S4x2048x4x64, .f32⟩
  | .hbm, ⟨72, _⟩ => ⟨S4x2048x4x64, .f32⟩
  | .hbm, ⟨73, _⟩ => ⟨S2048x1x64, .f32⟩
  | .hbm, ⟨74, _⟩ => ⟨S2048x1x64, .f32⟩
  | .hbm, ⟨75, _⟩ => ⟨S1x2048x1x64, .f32⟩
  | .hbm, ⟨76, _⟩ => ⟨S4x2048x4x64, .f32⟩
  | .hbm, ⟨77, _⟩ => ⟨S4x2048x4x64, .f32⟩
  | .hbm, ⟨78, _⟩ => ⟨S1x2048x1x64, .f32⟩
  | .hbm, ⟨79, _⟩ => ⟨S4x2048x4x64, .f32⟩
  | .hbm, ⟨80, _⟩ => ⟨S4x2048x4x64, .f32⟩
  | .hbm, ⟨81, _⟩ => ⟨S4x2048x4x64, .f32⟩
  | .hbm, ⟨82, _⟩ => ⟨S1x2048x1x64, .f32⟩
  | .hbm, ⟨83, _⟩ => ⟨S4x2048x4x64, .f32⟩
  | .hbm, ⟨84, _⟩ => ⟨S4x2048x4x64, .f32⟩
  | .hbm, ⟨85, _⟩ => ⟨S1x2048x1x64, .f32⟩
  | .hbm, ⟨86, _⟩ => ⟨S4x2048x4x64, .f32⟩
  | .hbm, ⟨87, _⟩ => ⟨S4x2048x4x64, .f32⟩
  | .hbm, ⟨88, _⟩ => ⟨S4x2048x4x64, .f32⟩
  | .hbm, ⟨89, _⟩ => ⟨S4x2048x4x128, .f32⟩
  | .hbm, ⟨90, _⟩ => ⟨S4x2048x512, .f32⟩
  | .hbm, ⟨91, _⟩ => ⟨S4x2048x2048, .f32⟩
  | .hbm, ⟨92, _⟩ => ⟨S4x2048x1024, .f32⟩
  | .hbm, ⟨93, _⟩ => ⟨S4x2048x6144, .f32⟩
  | .hbm, ⟨94, _⟩ => ⟨S4x2048x1536, .f32⟩
  | .hbm, ⟨95, _⟩ => ⟨S4x2048x13312, .f32⟩
  | .hbm, ⟨96, _⟩ => ⟨S8192x13312, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩

abbrev nD : Nat := 1
abbrev τ : Topo := Topo.v7x

variable {F : FTy → Type} [FloatOps F]
-- ==== OutMid.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S2048x2048, .bf16⟩
  | .hbm, ⟨5, _⟩ => ⟨S1x2048, .f32⟩
  | .hbm, ⟨6, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutMidRefIdeal.lean ====
abbrev S8192x2048 : Shape := ⟨2, ![8192, 2048]⟩
abbrev S2048x2048 : Shape := ⟨2, ![2048, 2048]⟩
abbrev S2048 : Shape := ⟨1, ![2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.SsmLoops.lean ====
/- The state loops of the recurrence kernel: what one trip of each of the eight loops computes and stores, and what each loop leaves
   after its four trips. -/
module

public import proofs.«01_k».proof.Proof.Gen.SsmIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem Idealize.ShloMosaic.Tactic

namespace Cert.SsmIdeal.Val

open Cert.SsmIdeal Cert.SsmIdeal.Gen

/-- One tile of the state: eight sequences by 128 lanes. -/
abbrev Tile := FVec Ideal S8x128 .f32
/-- What a loop carries: the real parts of four tiles, then the imaginary parts. -/
abbrev T8 := Tile × Tile × Tile × Tile × Tile × Tile × Tile × Tile

/-- The carried real parts. -/
def re4 (a : T8) (j : Fin 4) : Tile := match j with
  | 0 => a.1
  | 1 => a.2.1
  | 2 => a.2.2.1
  | 3 => a.2.2.2.1
/-- The carried imaginary parts. -/
def im4 (a : T8) (j : Fin 4) : Tile := match j with
  | 0 => a.2.2.2.2.1
  | 1 => a.2.2.2.2.2.1
  | 2 => a.2.2.2.2.2.2.1
  | 3 => a.2.2.2.2.2.2.2

/-- Four tiles as a family. -/
def fam4 (x0 x1 x2 x3 : Tile) (j : Fin 4) : Tile := match j with
  | 0 => x0
  | 1 => x1
  | 2 => x2
  | 3 => x3

/-- One complex cell of the recurrence `h ↦ a h + b`, `t` steps on. -/
def hst (aR aI r0 i0 : EReal) (bR bI : ℕ → EReal) : ℕ → EReal × EReal
  | 0 => (r0, i0)
  | t + 1 => (aR * (hst aR aI r0 i0 bR bI t).1 - aI * (hst aR aI r0 i0 bR bI t).2 + bR t,
      aR * (hst aR aI r0 i0 bR bI t).2 + aI * (hst aR aI r0 i0 bR bI t).1 + bI t)

/-- Row `t` of sequence `s` in the time-major order of the scratch. -/
def rowOf (t : ℕ) (s : Fin 8) : Fin 32 := ⟨(8 * t + s.val) % 32, Nat.mod_lt _ (by decide)⟩

theorem rowOf_val (t : ℕ) (s : Fin 8) (ht : t < 4) : (rowOf t s).val = 8 * t + s.val := by
  have := s.isLt
  simp only [rowOf]; omega

/-- What trip `k` of the loop over the tiles `q0 …` does to the carried value and to the scratch. -/
structure TripSpec (q0 : ℕ) (hq : q0 + 4 ≤ 32) (aR aI : Fin 4 → Tile) (k : ℕ) (acc acc' : T8) (X X' : S64x32x128.Idx → EReal) : Prop where
  re : ∀ (j : Fin 4) (s : Fin 8) (l : Fin 128), re4 acc' j (ix2 s l) = aR j (ix2 s l) * re4 acc j (ix2 s l) - aI j (ix2 s l) * im4 acc j (ix2 s l)
    + X (ix3 (⟨q0 + j.val, by omega⟩ : Fin 64) (rowOf k s) l)
  im : ∀ (j : Fin 4) (s : Fin 8) (l : Fin 128), im4 acc' j (ix2 s l) = aR j (ix2 s l) * im4 acc j (ix2 s l) + aI j (ix2 s l) * re4 acc j (ix2 s l)
    + X (ix3 (⟨32 + (q0 + j.val), by omega⟩ : Fin 64) (rowOf k s) l)
  wr : ∀ (j : Fin 4) (s : Fin 8) (l : Fin 128), X' (ix3 (⟨q0 + j.val, by omega⟩ : Fin 64) (rowOf k s) l) = re4 acc' j (ix2 s l)
  wi : ∀ (j : Fin 4) (s : Fin 8) (l : Fin 128), X' (ix3 (⟨32 + (q0 + j.val), by omega⟩ : Fin 64) (rowOf k s) l) = im4 acc' j (ix2 s l)
  keep : ∀ (a : Fin 64) (b : Fin 32) (c : Fin 128), (b.val < 8 * k ∨ 8 * k + 8 ≤ b.val) ∨ (∀ j : Fin 4, a.val ≠ q0 + j.val ∧ a.val ≠ 32 + (q0 + j.val)) →
    X' (ix3 a b c) = X (ix3 a b c)

/-- Where the rectangle of one tile's eight rows places an index, coordinate by coordinate. -/
theorem rect_coord (q k : ℕ) (inb : ∀ a, (![q, 8 * k, 0] : Fin 3 → ℕ) a + S1x8x128.size a ≤ S64x32x128.size a) (x : Fin 3)
    (p : Fin 1) (r : Fin 8) (c : Fin 128) (y : S64x32x128.Idx) (h0 : (y 0).val = q) (h1 : (y 1).val = 8 * k + r.val) (h2 : (y 2).val = c.val) :
    (y x).val = (Rect.unit (s := S64x32x128) ![q, 8 * k, 0] S1x8x128.size inb).off x
      + (Rect.unit (s := S64x32x128) ![q, 8 * k, 0] S1x8x128.size inb).stride x * ((ix3 p r c : S1x8x128.Idx) x).val := by
  match x with
  | 0 => rw [h0]; have := p.isLt; simp [Rect.unit]
  | 1 => rw [h1]; simp [Rect.unit]
  | 2 => rw [h2]; simp [Rect.unit]

/-- The rows of one tile hold a place exactly when its coordinates say so. -/
theorem rect_mem (q k : ℕ) (inb : ∀ a, (![q, 8 * k, 0] : Fin 3 → ℕ) a + S1x8x128.size a ≤ S64x32x128.size a) (y : S64x32x128.Idx)
    (hm : y ∈ (Rect.unit (s := S64x32x128) ![q, 8 * k, 0] S1x8x128.size inb).set) :
    (y 0).val = q ∧ 8 * k ≤ (y 1).val ∧ (y 1).val < 8 * k + 8 := by
  have h := (Rect.unit (s := S64x32x128) ![q, 8 * k, 0] S1x8x128.size inb).mem_set.mp hm
  obtain ⟨j0, g0, e0⟩ := h 0
  obtain ⟨j1, g1, e1⟩ := h 1
  simp [Rect.unit] at g0 g1 e0 e1
  omega

/-- A store of one tile's eight rows, read anywhere. -/
theorem tile_write {sig : RefSig} {κ : Kind} {sp : Space} (v : View sig κ sp S64x32x128 .f32) (f : v.ty.Contents (Elt Ideal))
    (L : List (View.Piece (Elt Ideal) S64x32x128 .f32)) (q k : ℕ) {off : Fin 3 → ℕ} (ho : off = ![q, 8 * k, 0])
    (inb : ∀ a, off a + S1x8x128.size a ≤ S64x32x128.size a) (w : S1x8x128.Idx → EReal) (a : Fin 64) (b : Fin 32) (c : Fin 128) :
    v.read (Elt Ideal) (v.writes (Elt Ideal) f (⟨Rect.unit (s := S64x32x128) off S1x8x128.size inb, w⟩ :: L)) (ix3 a b c)
      = if h : a.val = q ∧ 8 * k ≤ b.val ∧ b.val < 8 * k + 8 then w (ix3 (0 : Fin 1) (⟨b.val - 8 * k, by omega⟩ : Fin 8) c)
        else v.read (Elt Ideal) (v.writes (Elt Ideal) f L) (ix3 a b c) := by
  subst ho
  by_cases h : a.val = q ∧ 8 * k ≤ b.val ∧ b.val < 8 * k + 8
  · rw [dif_pos h]
    have hb : b.val - 8 * k < 8 := by omega
    have e : (Rect.unit (s := S64x32x128) ![q, 8 * k, 0] S1x8x128.size inb).emb (ix3 (0 : Fin 1) (⟨b.val - 8 * k, hb⟩ : Fin 8) c) = ix3 a b c :=
      Rect.emb_eq_of_coords _ _ _ fun x => rect_coord q k inb x 0 ⟨b.val - 8 * k, hb⟩ c (ix3 a b c) h.1 (show b.val = 8 * k + (b.val - 8 * k) by omega) rfl
    exact View.read_writes_cons_hit v f (Rect.unit (s := S64x32x128) ![q, 8 * k, 0] S1x8x128.size inb) w L _ (ix3 a b c) e
  · rw [dif_neg h]
    exact View.read_writes_cons_miss v f _ L (ix3 a b c) fun hm => h (rect_mem q k inb _ hm)

/-- A tile stripped of its leading unit axis, at an index. -/
theorem down_cast (Y : S1x8x128.Idx → EReal) (h : S8x128.numel = S1x8x128.numel) (s : Fin 8) (l : Fin 128) :
    shapeCast S8x128 Y h (ix2 s l) = Y (ix3 (0 : Fin 1) s l) := by
  pointwise

/-- A load of one tile's eight rows, at an index. -/
theorem tile_read {sig : RefSig} {κ : Kind} {sp : Space} (v : View sig κ sp S64x32x128 .f32) (f : v.ty.Contents (Elt Ideal))
    (q k : ℕ) (hq : q < 64) (hk : k < 4) {off : Fin 3 → ℕ} (ho : off = ![q, 8 * k, 0])
    (inb : ∀ a, off a + S1x8x128.size a ≤ S64x32x128.size a) (h : S8x128.numel = S1x8x128.numel) (s : Fin 8) (l : Fin 128) :
    shapeCast S8x128 (v.readAt (Elt Ideal) (Rect.unit (s := S64x32x128) off S1x8x128.size inb).toLoadRect f) h (ix2 s l)
      = v.read (Elt Ideal) f (ix3 (⟨q, hq⟩ : Fin 64) (rowOf k s) l) := by
  subst ho
  refine (down_cast _ h s l).trans ?_
  have e : (Rect.unit (s := S64x32x128) ![q, 8 * k, 0] S1x8x128.size inb).emb (ix3 (0 : Fin 1) s l) = ix3 (⟨q, hq⟩ : Fin 64) (rowOf k s) l :=
    Rect.emb_eq_of_coords _ _ _ fun x => rect_coord q k inb x 0 s l (ix3 (⟨q, hq⟩ : Fin 64) (rowOf k s) l) rfl (rowOf_val k s hk) rfl
  exact congrArg (v.read (Elt Ideal) f) e

/-- The real part of one step at an index, over a load of the scratch. -/
theorem re_pay {sig : RefSig} {κ : Kind} {sp : Space} (v : View sig κ sp S64x32x128 .f32) (f : v.ty.Contents (Elt Ideal))
    (q k : ℕ) (hq : q < 64) (hk : k < 4) {off : Fin 3 → ℕ} (ho : off = ![q, 8 * k, 0])
    (inb : ∀ a, off a + S1x8x128.size a ≤ S64x32x128.size a) (h : S8x128.numel = S1x8x128.numel) (aR aI r i : Tile) (s : Fin 8) (l : Fin 128) :
    addf (subf (mulf aR r) (mulf aI i)) (shapeCast S8x128 (v.readAt (Elt Ideal) (Rect.unit (s := S64x32x128) off S1x8x128.size inb).toLoadRect f) h) (ix2 s l)
      = aR (ix2 s l) * r (ix2 s l) - aI (ix2 s l) * i (ix2 s l) + v.read (Elt Ideal) f (ix3 (⟨q, hq⟩ : Fin 64) (rowOf k s) l) := by
  rw [← tile_read v f q k hq hk ho inb h s l]; rfl

/-- The imaginary part likewise. -/
theorem im_pay {sig : RefSig} {κ : Kind} {sp : Space} (v : View sig κ sp S64x32x128 .f32) (f : v.ty.Contents (Elt Ideal))
    (q k : ℕ) (hq : q < 64) (hk : k < 4) {off : Fin 3 → ℕ} (ho : off = ![q, 8 * k, 0])
    (inb : ∀ a, off a + S1x8x128.size a ≤ S64x32x128.size a) (h : S8x128.numel = S1x8x128.numel) (aR aI r i : Tile) (s : Fin 8) (l : Fin 128) :
    addf (addf (mulf aR i) (mulf aI r)) (shapeCast S8x128 (v.readAt (Elt Ideal) (Rect.unit (s := S64x32x128) off S1x8x128.size inb).toLoadRect f) h) (ix2 s l)
      = aR (ix2 s l) * i (ix2 s l) + aI (ix2 s l) * r (ix2 s l) + v.read (Elt Ideal) f (ix3 (⟨q, hq⟩ : Fin 64) (rowOf k s) l) := by
  rw [← tile_read v f q k hq hk ho inb h s l]; rfl

/-- A tile under a new leading unit axis, at the row that `rowOf` names. -/
theorem up_cast (w : S1x8x128.Idx → EReal) (v : Tile) (h : S1x8x128.numel = S8x128.numel) (k : ℕ) (hk : k < 4) (s : Fin 8) (l : Fin 128)
    (hb : (rowOf k s).val - 8 * k < 8) (hw : w = shapeCast S1x8x128 v h) :
    w (ix3 (0 : Fin 1) (⟨(rowOf k s).val - 8 * k, hb⟩ : Fin 8) l) = v (ix2 s l) := by
  subst hw
  pointwise
  refine congrArg (fun z => v (ix2 z l)) (Fin.ext ?_)
  have := rowOf_val k s hk
  show (rowOf k s).val - 8 * k = s.val
  omega

/-- One cell of a loop over the tiles `q0 …`, from what the loop finds in the carried value and in the scratch. -/
def cellOf (q0 : ℕ) (hq : q0 + 4 ≤ 32) (aR aI : Fin 4 → Tile) (init : T8) (X : S64x32x128.Idx → EReal) (j : Fin 4) (s : Fin 8) (l : Fin 128) :
    ℕ → EReal × EReal :=
  hst (aR j (ix2 s l)) (aI j (ix2 s l)) (re4 init j (ix2 s l)) (im4 init j (ix2 s l))
    (fun t => X (ix3 (⟨q0 + j.val, by omega⟩ : Fin 64) (rowOf t s) l)) (fun t => X (ix3 (⟨32 + (q0 + j.val), by omega⟩ : Fin 64) (rowOf t s) l))

/-- What a loop over the tiles `q0 …` leaves: the cells after four steps carried, every step's cells in the scratch. -/
structure LoopSpec (q0 : ℕ) (hq : q0 + 4 ≤ 32) (aR aI : Fin 4 → Tile) (init acc' : T8) (X X' : S64x32x128.Idx → EReal) : Prop where
  re : ∀ (j : Fin 4) (s : Fin 8) (l : Fin 128), re4 acc' j (ix2 s l) = (cellOf q0 hq aR aI init X j s l 4).1
  im : ∀ (j : Fin 4) (s : Fin 8) (l : Fin 128), im4 acc' j (ix2 s l) = (cellOf q0 hq aR aI init X j s l 4).2
  wr : ∀ (j : Fin 4) (t : ℕ) (ht : t < 4) (s : Fin 8) (l : Fin 128),
    X' (ix3 (⟨q0 + j.val, by omega⟩ : Fin 64) (rowOf t s) l) = (cellOf q0 hq aR aI init X j s l (t + 1)).1
  wi : ∀ (j : Fin 4) (t : ℕ) (ht : t < 4) (s : Fin 8) (l : Fin 128),
    X' (ix3 (⟨32 + (q0 + j.val), by omega⟩ : Fin 64) (rowOf t s) l) = (cellOf q0 hq aR aI init X j s l (t + 1)).2
  keep : ∀ (a : Fin 64) (b : Fin 32) (c : Fin 128), (∀ j : Fin 4, a.val ≠ q0 + j.val ∧ a.val ≠ 32 + (q0 + j.val)) → X' (ix3 a b c) = X (ix3 a b c)

/-- Four trips make a loop. -/
theorem loop_of_trips (q0 : ℕ) (hq : q0 + 4 ≤ 32) (aR aI : Fin 4 → Tile) (init : T8) (X : S64x32x128.Idx → EReal) (S : ℕ → T8)
    (Y : ℕ → S64x32x128.Idx → EReal) (h0 : S 0 = init) (hY : Y 0 = X)
    (hs : ∀ k, k < 4 → TripSpec q0 hq aR aI k (S k) (S (k + 1)) (Y k) (Y (k + 1))) :
    LoopSpec q0 hq aR aI init (S 4) X (Y 4) := by
  have inv : ∀ k, k ≤ 4 →
      (∀ (j : Fin 4) (s : Fin 8) (l : Fin 128), re4 (S k) j (ix2 s l) = (cellOf q0 hq aR aI init X j s l k).1
        ∧ im4 (S k) j (ix2 s l) = (cellOf q0 hq aR aI init X j s l k).2)
      ∧ (∀ (j : Fin 4) (t : ℕ) (ht : t < k) (s : Fin 8) (l : Fin 128),
        Y k (ix3 (⟨q0 + j.val, by omega⟩ : Fin 64) (rowOf t s) l) = (cellOf q0 hq aR aI init X j s l (t + 1)).1
        ∧ Y k (ix3 (⟨32 + (q0 + j.val), by omega⟩ : Fin 64) (rowOf t s) l) = (cellOf q0 hq aR aI init X j s l (t + 1)).2)
      ∧ (∀ (a : Fin 64) (b : Fin 32) (c : Fin 128), (8 * k ≤ b.val) ∨ (∀ j : Fin 4, a.val ≠ q0 + j.val ∧ a.val ≠ 32 + (q0 + j.val)) →
        Y k (ix3 a b c) = X (ix3 a b c)) := by
    intro k
    induction k with
    | zero =>
      intro _
      refine ⟨fun j s l => ?_, fun j t ht => absurd ht (Nat.not_lt_zero _), fun a b c _ => by rw [hY]⟩
      rw [h0]; exact ⟨rfl, rfl⟩
    | succ k ih =>
      intro hk
      have hk' : k < 4 := hk
      obtain ⟨hc, hw, hx⟩ := ih (by omega)
      have tr := hs k hk'
      have row : ∀ s : Fin 8, 8 * k ≤ (rowOf k s).val := fun s => by rw [rowOf_val k s hk']; omega
      have new : ∀ (j : Fin 4) (s : Fin 8) (l : Fin 128), re4 (S (k + 1)) j (ix2 s l) = (cellOf q0 hq aR aI init X j s l (k + 1)).1
          ∧ im4 (S (k + 1)) j (ix2 s l) = (cellOf q0 hq aR aI init X j s l (k + 1)).2 := by
        intro j s l
        rw [tr.re, tr.im, (hc j s l).1, (hc j s l).2, hx _ _ l (Or.inl (row s)), hx _ _ l (Or.inl (row s))]
        exact ⟨rfl, rfl⟩
      refine ⟨new, fun j t ht s l => ?_, fun a b c h => ?_⟩
      · by_cases e : t = k
        · subst e
          rw [tr.wr, tr.wi]; exact new j s l
        · have htk : t < k := by omega
          have hr := rowOf_val t s (by omega)
          have hs' := s.isLt
          rw [tr.keep _ _ _ (Or.inl (Or.inl (by omega))), tr.keep _ _ _ (Or.inl (Or.inl (by omega)))]
          exact hw j t htk s l
      · rcases h with h | h
        · rw [tr.keep a b c (Or.inl (Or.inr (by omega)))]
          exact hx a b c (Or.inl (by omega))
        · rw [tr.keep a b c (Or.inr h)]
          exact hx a b c (Or.inr h)
  obtain ⟨hc, hw, hx⟩ := inv 4 le_rfl
  exact ⟨fun j s l => (hc j s l).1, fun j s l => (hc j s l).2, fun j t ht s l => (hw j t ht s l).1, fun j t ht s l => (hw j t ht s l).2,
    fun a b c h => hx a b c (Or.inr h)⟩

/-- One trip of loop 1. -/
theorem trip1_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v396 : FVec Ideal S8x128 .f32) (v398 : FVec Ideal S8x128 .f32) (v400 : FVec Ideal S8x128 .f32) (v402 : FVec Ideal S8x128 .f32) (v404 : FVec Ideal S8x128 .f32) (v406 : FVec Ideal S8x128 .f32) (v408 : FVec Ideal S8x128 .f32) (v410 : FVec Ideal S8x128 .f32) (v412 : FVec Ideal S8x128 .f32) (v414 : FVec Ideal S8x128 .f32) (v416 : FVec Ideal S8x128 .f32) (v418 : FVec Ideal S8x128 .f32) (k : Fin k0_t1_loop.trips) (acc : T8) (f : arg11.view.ty.Contents (Elt Ideal)) :
    TripSpec 0 (by decide) (fam4 v396 v398 v400 v402) (fam4 v404 v406 v408 v410) k.val acc
      ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 k).1 acc f) (arg11.view.read (Elt Ideal) f)
      (arg11.view.read (Elt Ideal) (arg11.view.writes (Elt Ideal) f ((trip_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 k).2.1 acc f))) := by
  have hk : k.val < 4 := Nat.lt_of_lt_of_le k.isLt k0_t1_abs.2.1
  refine ⟨fun j s l => ?_, fun j s l => ?_, fun j s l => ?_, fun j s l => ?_, fun a b c h => ?_⟩ <;> unfold trip_k0_t1 <;> dsimp only
  · match j with
    | 0 => exact re_pay arg11.view f 0 k.val (by decide) hk (k0_off1_eq k) _ _ _ _ _ _ s l
    | 1 => exact re_pay arg11.view f 1 k.val (by decide) hk (k0_off3_eq k) _ _ _ _ _ _ s l
    | 2 => exact re_pay arg11.view f 2 k.val (by decide) hk (k0_off5_eq k) _ _ _ _ _ _ s l
    | 3 => exact re_pay arg11.view f 3 k.val (by decide) hk (k0_off7_eq k) _ _ _ _ _ _ s l
  · match j with
    | 0 => exact im_pay arg11.view f 32 k.val (by decide) hk (k0_off2_eq k) _ _ _ _ _ _ s l
    | 1 => exact im_pay arg11.view f 33 k.val (by decide) hk (k0_off4_eq k) _ _ _ _ _ _ s l
    | 2 => exact im_pay arg11.view f 34 k.val (by decide) hk (k0_off6_eq k) _ _ _ _ _ _ s l
    | 3 => exact im_pay arg11.view f 35 k.val (by decide) hk (k0_off8_eq k) _ _ _ _ _ _ s l
  · have hs := s.isLt
    have hr := rowOf_val k.val s hk
    match j with
    | 0 =>
      show arg11.view.read (Elt Ideal) _ (ix3 (⟨0, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_neg (fun h => absurd h.1 (by decide)),
        tile_write arg11.view f _ 2 k.val (k0_off5_eq k),
        dif_neg (fun h => absurd h.1 (by decide)),
        tile_write arg11.view f _ 33 k.val (k0_off4_eq k),
        dif_neg (fun h => absurd h.1 (by decide)),
        tile_write arg11.view f _ 1 k.val (k0_off3_eq k),
        dif_neg (fun h => absurd h.1 (by decide)),
        tile_write arg11.view f _ 32 k.val (k0_off2_eq k),
        dif_neg (fun h => absurd h.1 (by decide)),
        tile_write arg11.view f _ 0 k.val (k0_off1_eq k),
        dif_pos ⟨rfl, by omega, by omega⟩]
      refine up_cast _ _ shapeCasts_S8x128_S1x8x128 k.val hk s l _ ?_
      rfl
    | 1 =>
      show arg11.view.read (Elt Ideal) _ (ix3 (⟨1, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_neg (fun h => absurd h.1 (by decide)),
        tile_write arg11.view f _ 2 k.val (k0_off5_eq k),
        dif_neg (fun h => absurd h.1 (by decide)),
        tile_write arg11.view f _ 33 k.val (k0_off4_eq k),
        dif_neg (fun h => absurd h.1 (by decide)),
        tile_write arg11.view f _ 1 k.val (k0_off3_eq k),
        dif_pos ⟨rfl, by omega, by omega⟩]
      refine up_cast _ _ shapeCasts_S8x128_S1x8x128 k.val hk s l _ ?_
      rfl
    | 2 =>
      show arg11.view.read (Elt Ideal) _ (ix3 (⟨2, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_neg (fun h => absurd h.1 (by decide)),
        tile_write arg11.view f _ 2 k.val (k0_off5_eq k),
        dif_pos ⟨rfl, by omega, by omega⟩]
      refine up_cast _ _ shapeCasts_S8x128_S1x8x128 k.val hk s l _ ?_
      rfl
    | 3 =>
      show arg11.view.read (Elt Ideal) _ (ix3 (⟨3, by decide⟩ : Fin 64) (rowOf k.val s) l) = _
      rw [tile_write arg11.view f _ 35 k.val (k0_off8_eq k),
        dif_neg (fun h => absurd h.1 (by decide)),
        tile_write arg11.view f _ 3 k.val (k0_off7_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨32, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_neg (fun h => absurd h.1 (by decide)),
        tile_write arg11.view f _ 2 k.val (k0_off5_eq k),
        dif_neg (fun h => absurd h.1 (by decide)),
        tile_write arg11.view f _ 33 k.val (k0_off4_eq k),
        dif_neg (fun h => absurd h.1 (by decide)),
        tile_write arg11.view f _ 1 k.val (k0_off3_eq k),
        dif_neg (fun h => absurd h.1 (by decide)),
        tile_write arg11.view f _ 32 k.val (k0_off2_eq k),
        dif_pos ⟨rfl, by omega, by omega⟩]
      refine up_cast _ _ shapeCasts_S8x128_S1x8x128 k.val hk s l _ ?_
      rfl
    | 1 =>
      show arg11.view.read (Elt Ideal) _ (ix3 (⟨33, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_neg (fun h => absurd h.1 (by decide)),
        tile_write arg11.view f _ 2 k.val (k0_off5_eq k),
        dif_neg (fun h => absurd h.1 (by decide)),
        tile_write arg11.view f _ 33 k.val (k0_off4_eq k),
        dif_pos ⟨rfl, by omega, by omega⟩]
      refine up_cast _ _ shapeCasts_S8x128_S1x8x128 k.val hk s l _ ?_
      rfl
    | 2 =>
      show arg11.view.read (Elt Ideal) _ (ix3 (⟨34, by decide⟩ : Fin 64) (rowOf k.val s) l) = _
      rw [tile_write arg11.view f _ 35 k.val (k0_off8_eq k),
        dif_neg (fun h => absurd h.1 (by decide)),
        tile_write arg11.view f _ 3 k.val (k0_off7_eq k),
        dif_neg (fun h => absurd h.1 (by decide)),
        tile_write arg11.view f _ 34 k.val (k0_off6_eq k),
        dif_pos ⟨rfl, by omega, by omega⟩]
      refine up_cast _ _ shapeCasts_S8x128_S1x8x128 k.val hk s l _ ?_
      rfl
    | 3 =>
      show arg11.view.read (Elt Ideal) _ (ix3 (⟨35, by decide⟩ : Fin 64) (rowOf k.val s) l) = _
      rw [tile_write arg11.view f _ 35 k.val (k0_off8_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 0 ∧ a.val ≠ 32 ∧ a.val ≠ 1 ∧ a.val ≠ 33 ∧ a.val ≠ 2 ∧ a.val ≠ 34 ∧ a.val ≠ 3 ∧ a.val ≠ 35) := by
      rcases h with h | h
      · exact Or.inl h
      · exact Or.inr ⟨(h 0).1, (h 0).2, (h 1).1, (h 1).2, (h 2).1, (h 2).2, (h 3).1, (h 3).2⟩
    rw [tile_write arg11.view f _ 35 k.val (k0_off8_eq k), dif_neg (by omega),
      tile_write arg11.view f _ 3 k.val (k0_off7_eq k), dif_neg (by omega),
      tile_write arg11.view f _ 34 k.val (k0_off6_eq k), dif_neg (by omega),
      tile_write arg11.view f _ 2 k.val (k0_off5_eq k), dif_neg (by omega),
      tile_write arg11.view f _ 33 k.val (k0_off4_eq k), dif_neg (by omega),
      tile_write arg11.view f _ 1 k.val (k0_off3_eq k), dif_neg (by omega),
      tile_write arg11.view f _ 32 k.val (k0_off2_eq k), dif_neg (by omega),
      tile_write arg11.view f _ 0 k.val (k0_off1_eq k), dif_neg (by omega)]
    rfl

theorem trips1 : k0_t1_loop.trips = 4 := by decide +kernel

/-- Loop 1, whole. -/
theorem loop1_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v396 : FVec Ideal S8x128 .f32) (v398 : FVec Ideal S8x128 .f32) (v400 : FVec Ideal S8x128 .f32) (v402 : FVec Ideal S8x128 .f32) (v404 : FVec Ideal S8x128 .f32) (v406 : FVec Ideal S8x128 .f32) (v408 : FVec Ideal S8x128 .f32) (v410 : FVec Ideal S8x128 .f32) (v412 : FVec Ideal S8x128 .f32) (v414 : FVec Ideal S8x128 .f32) (v416 : FVec Ideal S8x128 .f32) (v418 : FVec Ideal S8x128 .f32) (G : arg11.view.ty.Contents (Elt Ideal)) (init : T8) :
    LoopSpec 0 (by decide) (fam4 v396 v398 v400 v402) (fam4 v404 v406 v408 v410) init
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init (Scf.trips k0_t1_loop.lb k0_t1_loop.ub k0_t1_loop.st)).1 (arg11.view.read (Elt Ideal) G)
      (arg11.view.read (Elt Ideal) (arg11.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init (Scf.trips k0_t1_loop.lb k0_t1_loop.ub k0_t1_loop.st)).2)) := by
  have h4 : Scf.trips k0_t1_loop.lb k0_t1_loop.ub k0_t1_loop.st = 4 := trips1
  rw [h4]
  refine loop_of_trips _ _ _ _ init (arg11.view.read (Elt Ideal) G) (fun k => (st_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init k).1)
    (fun k => arg11.view.read (Elt Ideal) (arg11.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init k).2)) rfl rfl fun k hk => ?_
  have hk' : k < k0_t1_loop.trips := by rw [trips1]; exact hk
  have e := st_k0_t1_succ (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init ⟨k, hk'⟩
  rw [show (st_k0_t1 (F := Ideal) 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 G init (k + 1)) = _ from e, View.writes_append]
  exact trip1_spec 𝒱 c bd i arg1 harg1 arg2 harg2 arg3 harg3 arg4 harg4 arg5 harg5 arg6 harg6 arg7 harg7 arg8 harg8 arg9 harg9 arg10 harg10 arg11 harg11 arg12 harg12 v396 v398 v400 v402 v404 v406 v408 v410 v412 v414 v416 v418 ⟨k, hk'⟩ _ _

/-- One trip of loop 2. -/
theorem trip2_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v454 : FVec Ideal S8x128 .f32) (v456 : FVec Ideal S8x128 .f32) (v458 : FVec Ideal S8x128 .f32) (v460 : FVec Ideal S8x128 .f32) (v462 : FVec Ideal S8x128 .f32) (v464 : FVec Ideal S8x128 .f32) (v466 : FVec Ideal S8x128 .f32) (v468 : FVec Ideal S8x128 .f32) (k : Fin k0_t2_loop.trips) (acc : T8) (f : arg11.view.ty.Contents (Elt Ideal)) :
    TripSpec 4 (by decide) (fam4 v454 v456 v458 v460) (fam4 v462 v464 v466 v468) k.val acc
      ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 k).1 acc f) (arg11.view.read (Elt Ideal) f)
      (arg11.view.read (Elt Ideal) (arg11.view.writes (Elt Ideal) f ((trip_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 k).2.1 acc f))) := by
  have hk : k.val < 4 := Nat.lt_of_lt_of_le k.isLt k0_t2_abs.2.1
  refine ⟨fun j s l => ?_, fun j s l => ?_, fun j s l => ?_, fun j s l => ?_, fun a b c h => ?_⟩ <;> unfold trip_k0_t2 <;> dsimp only
  · match j with
    | 0 => exact re_pay arg11.view f 4 k.val (by decide) hk (k0_off9_eq k) _ _ _ _ _ _ s l
    | 1 => exact re_pay arg11.view f 5 k.val (by decide) hk (k0_off11_eq k) _ _ _ _ _ _ s l
    | 2 => exact re_pay arg11.view f 6 k.val (by decide) hk (k0_off13_eq k) _ _ _ _ _ _ s l
    | 3 => exact re_pay arg11.view f 7 k.val (by decide) hk (k0_off15_eq k) _ _ _ _ _ _ s l
  · match j with
    | 0 => exact im_pay arg11.view f 36 k.val (by decide) hk (k0_off10_eq k) _ _ _ _ _ _ s l
    | 1 => exact im_pay arg11.view f 37 k.val (by decide) hk (k0_off12_eq k) _ _ _ _ _ _ s l
    | 2 => exact im_pay arg11.view f 38 k.val (by decide) hk (k0_off14_eq k) _ _ _ _ _ _ s l
    | 3 => exact im_pay arg11.view f 39 k.val (by decide) hk (k0_off16_eq k) _ _ _ _ _ _ s l
  · have hs := s.isLt
    have hr := rowOf_val k.val s hk
    match j with
    | 0 =>
      show arg11.view.read (Elt Ideal) _ (ix3 (⟨4, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_neg (fun h => absurd h.1 (by decide)),
        tile_write arg11.view f _ 6 k.val (k0_off13_eq k),
        dif_neg (fun h => absurd h.1 (by decide)),
        tile_write arg11.view f _ 37 k.val (k0_off12_eq k),
        dif_neg (fun h => absurd h.1 (by decide)),
        tile_write arg11.view f _ 5 k.val (k0_off11_eq k),
        dif_neg (fun h => absurd h.1 (by decide)),
        tile_write arg11.view f _ 36 k.val (k0_off10_eq k),
        dif_neg (fun h => absurd h.1 (by decide)),
        tile_write arg11.view f _ 4 k.val (k0_off9_eq k),
        dif_pos ⟨rfl, by omega, by omega⟩]
      refine up_cast _ _ shapeCasts_S8x128_S1x8x128 k.val hk s l _ ?_
      rfl
    | 1 =>
      show arg11.view.read (Elt Ideal) _ (ix3 (⟨5, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_neg (fun h => absurd h.1 (by decide)),
        tile_write arg11.view f _ 6 k.val (k0_off13_eq k),
        dif_neg (fun h => absurd h.1 (by decide)),
        tile_write arg11.view f _ 37 k.val (k0_off12_eq k),
        dif_neg (fun h => absurd h.1 (by decide)),
        tile_write arg11.view f _ 5 k.val (k0_off11_eq k),
        dif_pos ⟨rfl, by omega, by omega⟩]
      refine up_cast _ _ shapeCasts_S8x128_S1x8x128 k.val hk s l _ ?_
      rfl
    | 2 =>
      show arg11.view.read (Elt Ideal) _ (ix3 (⟨6, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_neg (fun h => absurd h.1 (by decide)),
        tile_write arg11.view f _ 6 k.val (k0_off13_eq k),
        dif_pos ⟨rfl, by omega, by omega⟩]
      refine up_cast _ _ shapeCasts_S8x128_S1x8x128 k.val hk s l _ ?_
      rfl
    | 3 =>
      show arg11.view.read (Elt Ideal) _ (ix3 (⟨7, by decide⟩ : Fin 64) (rowOf k.val s) l) = _
      rw [tile_write arg11.view f _ 39 k.val (k0_off16_eq k),
        dif_neg (fun h => absurd h.1 (by decide)),
        tile_write arg11.view f _ 7 k.val (k0_off15_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨36, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_neg (fun h => absurd h.1 (by decide)),
        tile_write arg11.view f _ 6 k.val (k0_off13_eq k),
        dif_neg (fun h => absurd h.1 (by decide)),
        tile_write arg11.view f _ 37 k.val (k0_off12_eq k),
        dif_neg (fun h => absurd h.1 (by decide)),
        tile_write arg11.view f _ 5 k.val (k0_off11_eq k),
        dif_neg (fun h => absurd h.1 (by decide)),
        tile_write arg11.view f _ 36 k.val (k0_off10_eq k),
        dif_pos ⟨rfl, by omega, by omega⟩]
      refine up_cast _ _ shapeCasts_S8x128_S1x8x128 k.val hk s l _ ?_
      rfl
    | 1 =>
      show arg11.view.read (Elt Ideal) _ (ix3 (⟨37, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_neg (fun h => absurd h.1 (by decide)),
        tile_write arg11.view f _ 6 k.val (k0_off13_eq k),
        dif_neg (fun h => absurd h.1 (by decide)),
        tile_write arg11.view f _ 37 k.val (k0_off12_eq k),
        dif_pos ⟨rfl, by omega, by omega⟩]
      refine up_cast _ _ shapeCasts_S8x128_S1x8x128 k.val hk s l _ ?_
      rfl
    | 2 =>
      show arg11.view.read (Elt Ideal) _ (ix3 (⟨38, by decide⟩ : Fin 64) (rowOf k.val s) l) = _
      rw [tile_write arg11.view f _ 39 k.val (k0_off16_eq k),
        dif_neg (fun h => absurd h.1 (by decide)),
        tile_write arg11.view f _ 7 k.val (k0_off15_eq k),
        dif_neg (fun h => absurd h.1 (by decide)),
        tile_write arg11.view f _ 38 k.val (k0_off14_eq k),
        dif_pos ⟨rfl, by omega, by omega⟩]
      refine up_cast _ _ shapeCasts_S8x128_S1x8x128 k.val hk s l _ ?_
      rfl
    | 3 =>
      show arg11.view.read (Elt Ideal) _ (ix3 (⟨39, by decide⟩ : Fin 64) (rowOf k.val s) l) = _
      rw [tile_write arg11.view f _ 39 k.val (k0_off16_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 4 ∧ a.val ≠ 36 ∧ a.val ≠ 5 ∧ a.val ≠ 37 ∧ a.val ≠ 6 ∧ a.val ≠ 38 ∧ a.val ≠ 7 ∧ a.val ≠ 39) := by
      rcases h with h | h
      · exact Or.inl h
      · exact Or.inr ⟨(h 0).1, (h 0).2, (h 1).1, (h 1).2, (h 2).1, (h 2).2, (h 3).1, (h 3).2⟩
    rw [tile_write arg11.view f _ 39 k.val (k0_off16_eq k), dif_neg (by omega),
      tile_write arg11.view f _ 7 k.val (k0_off15_eq k), dif_neg (by omega),
      tile_write arg11.view f _ 38 k.val (k0_off14_eq k), dif_neg (by omega),
      tile_write arg11.view f _ 6 k.val (k0_off13_eq k), dif_neg (by omega),
      tile_write arg11.view f _ 37 k.val (k0_off12_eq k), dif_neg (by omega),
      tile_write arg11.view f _ 5 k.val (k0_off11_eq k), dif_neg (by omega),
      tile_write arg11.view f _ 36 k.val (k0_off10_eq k), dif_neg (by omega),
      tile_write arg11.view f _ 4 k.val (k0_off9_eq k), dif_neg (by omega)]
    rfl

theorem trips2 : k0_t2_loop.trips = 4 := by decide +kernel

/-- Loop 2, whole. -/
theorem loop2_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v454 : FVec Ideal S8x128 .f32) (v456 : FVec Ideal S8x128 .f32) (v458 : FVec Ideal S8x128 .f32) (v460 : FVec Ideal S8x128 .f32) (v462 : FVec Ideal S8x128 .f32) (v464 : FVec Ideal S8x128 .f32) (v466 : FVec Ideal S8x128 .f32) (v468 : FVec Ideal S8x128 .f32) (G : arg11.view.ty.Contents (Elt Ideal)) (init : T8) :
    LoopSpec 4 (by decide) (fam4 v454 v456 v458 v460) (fam4 v462 v464 v466 v468) init
      (st_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init (Scf.trips k0_t2_loop.lb k0_t2_loop.ub k0_t2_loop.st)).1 (arg11.view.read (Elt Ideal) G)
      (arg11.view.read (Elt Ideal) (arg11.view.writes (Elt Ideal) G (st_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init (Scf.trips k0_t2_loop.lb k0_t2_loop.ub k0_t2_loop.st)).2)) := by
  have h4 : Scf.trips k0_t2_loop.lb k0_t2_loop.ub k0_t2_loop.st = 4 := trips2
  rw [h4]
  refine loop_of_trips _ _ _ _ init (arg11.view.read (Elt Ideal) G) (fun k => (st_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init k).1)
    (fun k => arg11.view.read (Elt Ideal) (arg11.view.writes (Elt Ideal) G (st_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init k).2)) rfl rfl fun k hk => ?_
  have hk' : k < k0_t2_loop.trips := by rw [trips2]; exact hk
  have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init ⟨k, hk'⟩
  rw [show (st_k0_t2 (F := Ideal) 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 G init (k + 1)) = _ from e, View.writes_append]
  exact trip2_spec 𝒱 c bd i arg1 harg1 arg2 harg2 arg3 harg3 arg4 harg4 arg5 harg5 arg6 harg6 arg7 harg7 arg8 harg8 arg9 harg9 arg10 harg10 arg11 harg11 arg12 harg12 v454 v456 v458 v460 v462 v464 v466 v468 ⟨k, hk'⟩ _ _

/-- One trip of loop 3. -/
theorem trip3_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v512 : FVec Ideal S8x128 .f32) (v514 : FVec Ideal S8x128 .f32) (v516 : FVec Ideal S8x128 .f32) (v518 : FVec Ideal S8x128 .f32) (v520 : FVec Ideal S8x128 .f32) (v522 : FVec Ideal S8x128 .f32) (v524 : FVec Ideal S8x128 .f32) (v526 : FVec Ideal S8x128 .f32) (v528 : FVec Ideal S8x128 .f32) (v530 : FVec Ideal S8x128 .f32) (v532 : FVec Ideal S8x128 .f32) (v534 : FVec Ideal S8x128 .f32) (v536 : FVec Ideal S8x128 .f32) (v538 : FVec Ideal S8x128 .f32) (v540 : FVec Ideal S8x128 .f32) (k : Fin k0_t3_loop.trips) (acc : T8) (f : arg11.view.ty.Contents (Elt Ideal)) :
    TripSpec 8 (by decide) (fam4 v512 v514 v516 v518) (fam4 v520 v522 v524 v526) k.val acc
      ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 k).1 acc f) (arg11.view.read (Elt Ideal) f)
      (arg11.view.read (Elt Ideal) (arg11.view.writes (Elt Ideal) f ((trip_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 k).2.1 acc f))) := by
  have hk : k.val < 4 := Nat.lt_of_lt_of_le k.isLt k0_t3_abs.2.1
  refine ⟨fun j s l => ?_, fun j s l => ?_, fun j s l => ?_, fun j s l => ?_, fun a b c h => ?_⟩ <;> unfold trip_k0_t3 <;> dsimp only
  · match j with
    | 0 => exact re_pay arg11.view f 8 k.val (by decide) hk (k0_off17_eq k) _ _ _ _ _ _ s l
    | 1 => exact re_pay arg11.view f 9 k.val (by decide) hk (k0_off19_eq k) _ _ _ _ _ _ s l
    | 2 => exact re_pay arg11.view f 10 k.val (by decide) hk (k0_off21_eq k) _ _ _ _ _ _ s l
    | 3 => exact re_pay arg11.view f 11 k.val (by decide) hk (k0_off23_eq k) _ _ _ _ _ _ s l
  · match j with
    | 0 => exact im_pay arg11.view f 40 k.val (by decide) hk (k0_off18_eq k) _ _ _ _ _ _ s l
    | 1 => exact im_pay arg11.view f 41 k.val (by decide) hk (k0_off20_eq k) _ _ _ _ _ _ s l
    | 2 => exact im_pay arg11.view f 42 k.val (by decide) hk (k0_off22_eq k) _ _ _ _ _ _ s l
    | 3 => exact im_pay arg11.view f 43 k.val (by decide) hk (k0_off24_eq k) _ _ _ _ _ _ s l
  · have hs := s.isLt
    have hr := rowOf_val k.val s hk
    match j with
    | 0 =>
      show arg11.view.read (Elt Ideal) _ (ix3 (⟨8, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_neg (fun h => absurd h.1 (by decide)),
        tile_write arg11.view f _ 10 k.val (k0_off21_eq k),
        dif_neg (fun h => absurd h.1 (by decide)),
        tile_write arg11.view f _ 41 k.val (k0_off20_eq k),
        dif_neg (fun h => absurd h.1 (by decide)),
        tile_write arg11.view f _ 9 k.val (k0_off19_eq k),
        dif_neg (fun h => absurd h.1 (by decide)),
        tile_write arg11.view f _ 40 k.val (k0_off18_eq k),
        dif_neg (fun h => absurd h.1 (by decide)),
        tile_write arg11.view f _ 8 k.val (k0_off17_eq k),
        dif_pos ⟨rfl, by omega, by omega⟩]
      refine up_cast _ _ shapeCasts_S8x128_S1x8x128 k.val hk s l _ ?_
      rfl
    | 1 =>
      show arg11.view.read (Elt Ideal) _ (ix3 (⟨9, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_neg (fun h => absurd h.1 (by decide)),
        tile_write arg11.view f _ 10 k.val (k0_off21_eq k),
        dif_neg (fun h => absurd h.1 (by decide)),
        tile_write arg11.view f _ 41 k.val (k0_off20_eq k),
        dif_neg (fun h => absurd h.1 (by decide)),
        tile_write arg11.view f _ 9 k.val (k0_off19_eq k),
        dif_pos ⟨rfl, by omega, by omega⟩]
      refine up_cast _ _ shapeCasts_S8x128_S1x8x128 k.val hk s l _ ?_
      rfl
    | 2 =>
      show arg11.view.read (Elt Ideal) _ (ix3 (⟨10, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_neg (fun h => absurd h.1 (by decide)),
        tile_write arg11.view f _ 10 k.val (k0_off21_eq k),
        dif_pos ⟨rfl, by omega, by omega⟩]
      refine up_cast _ _ shapeCasts_S8x128_S1x8x128 k.val hk s l _ ?_
      rfl
    | 3 =>
      show arg11.view.read (Elt Ideal) _ (ix3 (⟨11, by decide⟩ : Fin 64) (rowOf k.val s) l) = _
      rw [tile_write arg11.view f _ 43 k.val (k0_off24_eq k),
        dif_neg (fun h => absurd h.1 (by decide)),
        tile_write arg11.view f _ 11 k.val (k0_off23_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨40, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_neg (fun h => absurd h.1 (by decide)),
        tile_write arg11.view f _ 10 k.val (k0_off21_eq k),
        dif_neg (fun h => absurd h.1 (by decide)),
        tile_write arg11.view f _ 41 k.val (k0_off20_eq k),
        dif_neg (fun h => absurd h.1 (by decide)),
        tile_write arg11.view f _ 9 k.val (k0_off19_eq k),
        dif_neg (fun h => absurd h.1 (by decide)),
        tile_write arg11.view f _ 40 k.val (k0_off18_eq k),
        dif_pos ⟨rfl, by omega, by omega⟩]
      refine up_cast _ _ shapeCasts_S8x128_S1x8x128 k.val hk s l _ ?_
      rfl
    | 1 =>
      show arg11.view.read (Elt Ideal) _ (ix3 (⟨41, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_neg (fun h => absurd h.1 (by decide)),
        tile_write arg11.view f _ 10 k.val (k0_off21_eq k),
        dif_neg (fun h => absurd h.1 (by decide)),
        tile_write arg11.view f _ 41 k.val (k0_off20_eq k),
        dif_pos ⟨rfl, by omega, by omega⟩]
      refine up_cast _ _ shapeCasts_S8x128_S1x8x128 k.val hk s l _ ?_
      rfl
    | 2 =>
      show arg11.view.read (Elt Ideal) _ (ix3 (⟨42, by decide⟩ : Fin 64) (rowOf k.val s) l) = _
      rw [tile_write arg11.view f _ 43 k.val (k0_off24_eq k),
        dif_neg (fun h => absurd h.1 (by decide)),
        tile_write arg11.view f _ 11 k.val (k0_off23_eq k),
        dif_neg (fun h => absurd h.1 (by decide)),
        tile_write arg11.view f _ 42 k.val (k0_off22_eq k),
        dif_pos ⟨rfl, by omega, by omega⟩]
      refine up_cast _ _ shapeCasts_S8x128_S1x8x128 k.val hk s l _ ?_
      rfl
    | 3 =>
      show arg11.view.read (Elt Ideal) _ (ix3 (⟨43, by decide⟩ : Fin 64) (rowOf k.val s) l) = _
      rw [tile_write arg11.view f _ 43 k.val (k0_off24_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 8 ∧ a.val ≠ 40 ∧ a.val ≠ 9 ∧ a.val ≠ 41 ∧ a.val ≠ 10 ∧ a.val ≠ 42 ∧ a.val ≠ 11 ∧ a.val ≠ 43) := by
      rcases h with h | h
      · exact Or.inl h
      · exact Or.inr ⟨(h 0).1, (h 0).2, (h 1).1, (h 1).2, (h 2).1, (h 2).2, (h 3).1, (h 3).2⟩
    rw [tile_write arg11.view f _ 43 k.val (k0_off24_eq k), dif_neg (by omega),
      tile_write arg11.view f _ 11 k.val (k0_off23_eq k), dif_neg (by omega),
      tile_write arg11.view f _ 42 k.val (k0_off22_eq k), dif_neg (by omega),
      tile_write arg11.view f _ 10 k.val (k0_off21_eq k), dif_neg (by omega),
      tile_write arg11.view f _ 41 k.val (k0_off20_eq k), dif_neg (by omega),
      tile_write arg11.view f _ 9 k.val (k0_off19_eq k), dif_neg (by omega),
      tile_write arg11.view f _ 40 k.val (k0_off18_eq k), dif_neg (by omega),
      tile_write arg11.view f _ 8 k.val (k0_off17_eq k), dif_neg (by omega)]
    rfl

theorem trips3 : k0_t3_loop.trips = 4 := by decide +kernel

/-- Loop 3, whole. -/
theorem loop3_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v512 : FVec Ideal S8x128 .f32) (v514 : FVec Ideal S8x128 .f32) (v516 : FVec Ideal S8x128 .f32) (v518 : FVec Ideal S8x128 .f32) (v520 : FVec Ideal S8x128 .f32) (v522 : FVec Ideal S8x128 .f32) (v524 : FVec Ideal S8x128 .f32) (v526 : FVec Ideal S8x128 .f32) (v528 : FVec Ideal S8x128 .f32) (v530 : FVec Ideal S8x128 .f32) (v532 : FVec Ideal S8x128 .f32) (v534 : FVec Ideal S8x128 .f32) (v536 : FVec Ideal S8x128 .f32) (v538 : FVec Ideal S8x128 .f32) (v540 : FVec Ideal S8x128 .f32) (G : arg11.view.ty.Contents (Elt Ideal)) (init : T8) :
    LoopSpec 8 (by decide) (fam4 v512 v514 v516 v518) (fam4 v520 v522 v524 v526) init
      (st_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init (Scf.trips k0_t3_loop.lb k0_t3_loop.ub k0_t3_loop.st)).1 (arg11.view.read (Elt Ideal) G)
      (arg11.view.read (Elt Ideal) (arg11.view.writes (Elt Ideal) G (st_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init (Scf.trips k0_t3_loop.lb k0_t3_loop.ub k0_t3_loop.st)).2)) := by
  have h4 : Scf.trips k0_t3_loop.lb k0_t3_loop.ub k0_t3_loop.st = 4 := trips3
  rw [h4]
  refine loop_of_trips _ _ _ _ init (arg11.view.read (Elt Ideal) G) (fun k => (st_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init k).1)
    (fun k => arg11.view.read (Elt Ideal) (arg11.view.writes (Elt Ideal) G (st_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init k).2)) rfl rfl fun k hk => ?_
  have hk' : k < k0_t3_loop.trips := by rw [trips3]; exact hk
  have e := st_k0_t3_succ (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init ⟨k, hk'⟩
  rw [show (st_k0_t3 (F := Ideal) 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 G init (k + 1)) = _ from e, View.writes_append]
  exact trip3_spec 𝒱 c bd i arg1 harg1 arg2 harg2 arg3 harg3 arg4 harg4 arg5 harg5 arg6 harg6 arg7 harg7 arg8 harg8 arg9 harg9 arg10 harg10 arg11 harg11 arg12 harg12 v512 v514 v516 v518 v520 v522 v524 v526 v528 v530 v532 v534 v536 v538 v540 ⟨k, hk'⟩ _ _

/-- One trip of loop 4. -/
theorem trip4_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v570 : FVec Ideal S8x128 .f32) (v572 : FVec Ideal S8x128 .f32) (v574 : FVec Ideal S8x128 .f32) (v576 : FVec Ideal S8x128 .f32) (v578 : FVec Ideal S8x128 .f32) (v580 : FVec Ideal S8x128 .f32) (v582 : FVec Ideal S8x128 .f32) (v584 : FVec Ideal S8x128 .f32) (v586 : FVec Ideal S8x128 .f32) (v588 : FVec Ideal S8x128 .f32) (v590 : FVec Ideal S8x128 .f32) (k : Fin k0_t4_loop.trips) (acc : T8) (f : arg11.view.ty.Contents (Elt Ideal)) :
    TripSpec 12 (by decide) (fam4 v570 v572 v574 v576) (fam4 v578 v580 v582 v584) k.val acc
      ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 k).1 acc f) (arg11.view.read (Elt Ideal) f)
      (arg11.view.read (Elt Ideal) (arg11.view.writes (Elt Ideal) f ((trip_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 k).2.1 acc f))) := by
  have hk : k.val < 4 := Nat.lt_of_lt_of_le k.isLt k0_t4_abs.2.1
  refine ⟨fun j s l => ?_, fun j s l => ?_, fun j s l => ?_, fun j s l => ?_, fun a b c h => ?_⟩ <;> unfold trip_k0_t4 <;> dsimp only
  · match j with
    | 0 => exact re_pay arg11.view f 12 k.val (by decide) hk (k0_off25_eq k) _ _ _ _ _ _ s l
    | 1 => exact re_pay arg11.view f 13 k.val (by decide) hk (k0_off27_eq k) _ _ _ _ _ _ s l
    | 2 => exact re_pay arg11.view f 14 k.val (by decide) hk (k0_off29_eq k) _ _ _ _ _ _ s l
    | 3 => exact re_pay arg11.view f 15 k.val (by decide) hk (k0_off31_eq k) _ _ _ _ _ _ s l
  · match j with
    | 0 => exact im_pay arg11.view f 44 k.val (by decide) hk (k0_off26_eq k) _ _ _ _ _ _ s l
    | 1 => exact im_pay arg11.view f 45 k.val (by decide) hk (k0_off28_eq k) _ _ _ _ _ _ s l
    | 2 => exact im_pay arg11.view f 46 k.val (by decide) hk (k0_off30_eq k) _ _ _ _ _ _ s l
    | 3 => exact im_pay arg11.view f 47 k.val (by decide) hk (k0_off32_eq k) _ _ _ _ _ _ s l
  · have hs := s.isLt
    have hr := rowOf_val k.val s hk
    match j with
    | 0 =>
      show arg11.view.read (Elt Ideal) _ (ix3 (⟨12, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_neg (fun h => absurd h.1 (by decide)),
        tile_write arg11.view f _ 14 k.val (k0_off29_eq k),
        dif_neg (fun h => absurd h.1 (by decide)),
        tile_write arg11.view f _ 45 k.val (k0_off28_eq k),
        dif_neg (fun h => absurd h.1 (by decide)),
        tile_write arg11.view f _ 13 k.val (k0_off27_eq k),
        dif_neg (fun h => absurd h.1 (by decide)),
        tile_write arg11.view f _ 44 k.val (k0_off26_eq k),
        dif_neg (fun h => absurd h.1 (by decide)),
        tile_write arg11.view f _ 12 k.val (k0_off25_eq k),
        dif_pos ⟨rfl, by omega, by omega⟩]
      refine up_cast _ _ shapeCasts_S8x128_S1x8x128 k.val hk s l _ ?_
      rfl
    | 1 =>
      show arg11.view.read (Elt Ideal) _ (ix3 (⟨13, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_neg (fun h => absurd h.1 (by decide)),
        tile_write arg11.view f _ 14 k.val (k0_off29_eq k),
        dif_neg (fun h => absurd h.1 (by decide)),
        tile_write arg11.view f _ 45 k.val (k0_off28_eq k),
        dif_neg (fun h => absurd h.1 (by decide)),
        tile_write arg11.view f _ 13 k.val (k0_off27_eq k),
        dif_pos ⟨rfl, by omega, by omega⟩]
      refine up_cast _ _ shapeCasts_S8x128_S1x8x128 k.val hk s l _ ?_
      rfl
    | 2 =>
      show arg11.view.read (Elt Ideal) _ (ix3 (⟨14, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_neg (fun h => absurd h.1 (by decide)),
        tile_write arg11.view f _ 14 k.val (k0_off29_eq k),
        dif_pos ⟨rfl, by omega, by omega⟩]
      refine up_cast _ _ shapeCasts_S8x128_S1x8x128 k.val hk s l _ ?_
      rfl
    | 3 =>
      show arg11.view.read (Elt Ideal) _ (ix3 (⟨15, by decide⟩ : Fin 64) (rowOf k.val s) l) = _
      rw [tile_write arg11.view f _ 47 k.val (k0_off32_eq k),
        dif_neg (fun h => absurd h.1 (by decide)),
        tile_write arg11.view f _ 15 k.val (k0_off31_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨44, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_neg (fun h => absurd h.1 (by decide)),
        tile_write arg11.view f _ 14 k.val (k0_off29_eq k),
        dif_neg (fun h => absurd h.1 (by decide)),
        tile_write arg11.view f _ 45 k.val (k0_off28_eq k),
        dif_neg (fun h => absurd h.1 (by decide)),
        tile_write arg11.view f _ 13 k.val (k0_off27_eq k),
        dif_neg (fun h => absurd h.1 (by decide)),
        tile_write arg11.view f _ 44 k.val (k0_off26_eq k),
        dif_pos ⟨rfl, by omega, by omega⟩]
      refine up_cast _ _ shapeCasts_S8x128_S1x8x128 k.val hk s l _ ?_
      rfl
    | 1 =>
      show arg11.view.read (Elt Ideal) _ (ix3 (⟨45, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_neg (fun h => absurd h.1 (by decide)),
        tile_write arg11.view f _ 14 k.val (k0_off29_eq k),
        dif_neg (fun h => absurd h.1 (by decide)),
        tile_write arg11.view f _ 45 k.val (k0_off28_eq k),
        dif_pos ⟨rfl, by omega, by omega⟩]
      refine up_cast _ _ shapeCasts_S8x128_S1x8x128 k.val hk s l _ ?_
      rfl
    | 2 =>
      show arg11.view.read (Elt Ideal) _ (ix3 (⟨46, by decide⟩ : Fin 64) (rowOf k.val s) l) = _
      rw [tile_write arg11.view f _ 47 k.val (k0_off32_eq k),
        dif_neg (fun h => absurd h.1 (by decide)),
        tile_write arg11.view f _ 15 k.val (k0_off31_eq k),
        dif_neg (fun h => absurd h.1 (by decide)),
        tile_write arg11.view f _ 46 k.val (k0_off30_eq k),
        dif_pos ⟨rfl, by omega, by omega⟩]
      refine up_cast _ _ shapeCasts_S8x128_S1x8x128 k.val hk s l _ ?_
      rfl
    | 3 =>
      show arg11.view.read (Elt Ideal) _ (ix3 (⟨47, by decide⟩ : Fin 64) (rowOf k.val s) l) = _
      rw [tile_write arg11.view f _ 47 k.val (k0_off32_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 12 ∧ a.val ≠ 44 ∧ a.val ≠ 13 ∧ a.val ≠ 45 ∧ a.val ≠ 14 ∧ a.val ≠ 46 ∧ a.val ≠ 15 ∧ a.val ≠ 47) := by
      rcases h with h | h
      · exact Or.inl h
      · exact Or.inr ⟨(h 0).1, (h 0).2, (h 1).1, (h 1).2, (h 2).1, (h 2).2, (h 3).1, (h 3).2⟩
    rw [tile_write arg11.view f _ 47 k.val (k0_off32_eq k), dif_neg (by omega),
      tile_write arg11.view f _ 15 k.val (k0_off31_eq k), dif_neg (by omega),
      tile_write arg11.view f _ 46 k.val (k0_off30_eq k), dif_neg (by omega),
      tile_write arg11.view f _ 14 k.val (k0_off29_eq k), dif_neg (by omega),
      tile_write arg11.view f _ 45 k.val (k0_off28_eq k), dif_neg (by omega),
      tile_write arg11.view f _ 13 k.val (k0_off27_eq k), dif_neg (by omega),
      tile_write arg11.view f _ 44 k.val (k0_off26_eq k), dif_neg (by omega),
      tile_write arg11.view f _ 12 k.val (k0_off25_eq k), dif_neg (by omega)]
    rfl

theorem trips4 : k0_t4_loop.trips = 4 := by decide +kernel

/-- Loop 4, whole. -/
theorem loop4_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v570 : FVec Ideal S8x128 .f32) (v572 : FVec Ideal S8x128 .f32) (v574 : FVec Ideal S8x128 .f32) (v576 : FVec Ideal S8x128 .f32) (v578 : FVec Ideal S8x128 .f32) (v580 : FVec Ideal S8x128 .f32) (v582 : FVec Ideal S8x128 .f32) (v584 : FVec Ideal S8x128 .f32) (v586 : FVec Ideal S8x128 .f32) (v588 : FVec Ideal S8x128 .f32) (v590 : FVec Ideal S8x128 .f32) (G : arg11.view.ty.Contents (Elt Ideal)) (init : T8) :
    LoopSpec 12 (by decide) (fam4 v570 v572 v574 v576) (fam4 v578 v580 v582 v584) init
      (st_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init (Scf.trips k0_t4_loop.lb k0_t4_loop.ub k0_t4_loop.st)).1 (arg11.view.read (Elt Ideal) G)
      (arg11.view.read (Elt Ideal) (arg11.view.writes (Elt Ideal) G (st_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init (Scf.trips k0_t4_loop.lb k0_t4_loop.ub k0_t4_loop.st)).2)) := by
  have h4 : Scf.trips k0_t4_loop.lb k0_t4_loop.ub k0_t4_loop.st = 4 := trips4
  rw [h4]
  refine loop_of_trips _ _ _ _ init (arg11.view.read (Elt Ideal) G) (fun k => (st_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init k).1)
    (fun k => arg11.view.read (Elt Ideal) (arg11.view.writes (Elt Ideal) G (st_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init k).2)) rfl rfl fun k hk => ?_
  have hk' : k < k0_t4_loop.trips := by rw [trips4]; exact hk
  have e := st_k0_t4_succ (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init ⟨k, hk'⟩
  rw [show (st_k0_t4 (F := Ideal) 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 G init (k + 1)) = _ from e, View.writes_append]
  exact trip4_spec 𝒱 c bd i arg1 harg1 arg2 harg2 arg3 harg3 arg4 harg4 arg5 harg5 arg6 harg6 arg7 harg7 arg8 harg8 arg9 harg9 arg10 harg10 arg11 harg11 arg12 harg12 v570 v572 v574 v576 v578 v580 v582 v584 v586 v588 v590 ⟨k, hk'⟩ _ _

/-- One trip of loop 5. -/
theorem trip5_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v628 : FVec Ideal S8x128 .f32) (v630 : FVec Ideal S8x128 .f32) (v632 : FVec Ideal S8x128 .f32) (v634 : FVec Ideal S8x128 .f32) (v636 : FVec Ideal S8x128 .f32) (v638 : FVec Ideal S8x128 .f32) (v639 : Vec Ideal S1x8x128 .f32) (v641 : Vec Ideal S1x8x128 .f32) (k : Fin k0_t5_loop.trips) (acc : T8) (f : arg11.view.ty.Contents (Elt Ideal)) :
    TripSpec 16 (by decide) (fam4 v628 v630 v632 v634) (fam4 v636 v638 (shapeCast S8x128 v639 shapeCasts_S1x8x128_S8x128) (shapeCast S8x128 v641 shapeCasts_S1x8x128_S8x128)) k.val acc
      ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 k).1 acc f) (arg11.view.read (Elt Ideal) f)
      (arg11.view.read (Elt Ideal) (arg11.view.writes (Elt Ideal) f ((trip_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 k).2.1 acc f))) := by
  have hk : k.val < 4 := Nat.lt_of_lt_of_le k.isLt k0_t5_abs.2.1
  refine ⟨fun j s l => ?_, fun j s l => ?_, fun j s l => ?_, fun j s l => ?_, fun a b c h => ?_⟩ <;> unfold trip_k0_t5 <;> dsimp only
  · match j with
    | 0 => exact re_pay arg11.view f 16 k.val (by decide) hk (k0_off33_eq k) _ _ _ _ _ _ s l
    | 1 => exact re_pay arg11.view f 17 k.val (by decide) hk (k0_off35_eq k) _ _ _ _ _ _ s l
    | 2 => exact re_pay arg11.view f 18 k.val (by decide) hk (k0_off37_eq k) _ _ _ _ _ _ s l
    | 3 => exact re_pay arg11.view f 19 k.val (by decide) hk (k0_off39_eq k) _ _ _ _ _ _ s l
  · match j with
    | 0 => exact im_pay arg11.view f 48 k.val (by decide) hk (k0_off34_eq k) _ _ _ _ _ _ s l
    | 1 => exact im_pay arg11.view f 49 k.val (by decide) hk (k0_off36_eq k) _ _ _ _ _ _ s l
    | 2 => exact im_pay arg11.view f 50 k.val (by decide) hk (k0_off38_eq k) _ _ _ _ _ _ s l
    | 3 => exact im_pay arg11.view f 51 k.val (by decide) hk (k0_off40_eq k) _ _ _ _ _ _ s l
  · have hs := s.isLt
    have hr := rowOf_val k.val s hk
    match j with
    | 0 =>
      show arg11.view.read (Elt Ideal) _ (ix3 (⟨16, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_neg (fun h => absurd h.1 (by decide)),
        tile_write arg11.view f _ 18 k.val (k0_off37_eq k),
        dif_neg (fun h => absurd h.1 (by decide)),
        tile_write arg11.view f _ 49 k.val (k0_off36_eq k),
        dif_neg (fun h => absurd h.1 (by decide)),
        tile_write arg11.view f _ 17 k.val (k0_off35_eq k),
        dif_neg (fun h => absurd h.1 (by decide)),
        tile_write arg11.view f _ 48 k.val (k0_off34_eq k),
        dif_neg (fun h => absurd h.1 (by decide)),
        tile_write arg11.view f _ 16 k.val (k0_off33_eq k),
        dif_pos ⟨rfl, by omega, by omega⟩]
      refine up_cast _ _ shapeCasts_S8x128_S1x8x128 k.val hk s l _ ?_
      rfl
    | 1 =>
      show arg11.view.read (Elt Ideal) _ (ix3 (⟨17, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_neg (fun h => absurd h.1 (by decide)),
        tile_write arg11.view f _ 18 k.val (k0_off37_eq k),
        dif_neg (fun h => absurd h.1 (by decide)),
        tile_write arg11.view f _ 49 k.val (k0_off36_eq k),
        dif_neg (fun h => absurd h.1 (by decide)),
        tile_write arg11.view f _ 17 k.val (k0_off35_eq k),
        dif_pos ⟨rfl, by omega, by omega⟩]
      refine up_cast _ _ shapeCasts_S8x128_S1x8x128 k.val hk s l _ ?_
      rfl
    | 2 =>
      show arg11.view.read (Elt Ideal) _ (ix3 (⟨18, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_neg (fun h => absurd h.1 (by decide)),
        tile_write arg11.view f _ 18 k.val (k0_off37_eq k),
        dif_pos ⟨rfl, by omega, by omega⟩]
      refine up_cast _ _ shapeCasts_S8x128_S1x8x128 k.val hk s l _ ?_
      rfl
    | 3 =>
      show arg11.view.read (Elt Ideal) _ (ix3 (⟨19, by decide⟩ : Fin 64) (rowOf k.val s) l) = _
      rw [tile_write arg11.view f _ 51 k.val (k0_off40_eq k),
        dif_neg (fun h => absurd h.1 (by decide)),
        tile_write arg11.view f _ 19 k.val (k0_off39_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨48, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_neg (fun h => absurd h.1 (by decide)),
        tile_write arg11.view f _ 18 k.val (k0_off37_eq k),
        dif_neg (fun h => absurd h.1 (by decide)),
        tile_write arg11.view f _ 49 k.val (k0_off36_eq k),
        dif_neg (fun h => absurd h.1 (by decide)),
        tile_write arg11.view f _ 17 k.val (k0_off35_eq k),
        dif_neg (fun h => absurd h.1 (by decide)),
        tile_write arg11.view f _ 48 k.val (k0_off34_eq k),
        dif_pos ⟨rfl, by omega, by omega⟩]
      refine up_cast _ _ shapeCasts_S8x128_S1x8x128 k.val hk s l _ ?_
      rfl
    | 1 =>
      show arg11.view.read (Elt Ideal) _ (ix3 (⟨49, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_neg (fun h => absurd h.1 (by decide)),
        tile_write arg11.view f _ 18 k.val (k0_off37_eq k),
        dif_neg (fun h => absurd h.1 (by decide)),
        tile_write arg11.view f _ 49 k.val (k0_off36_eq k),
        dif_pos ⟨rfl, by omega, by omega⟩]
      refine up_cast _ _ shapeCasts_S8x128_S1x8x128 k.val hk s l _ ?_
      rfl
    | 2 =>
      show arg11.view.read (Elt Ideal) _ (ix3 (⟨50, by decide⟩ : Fin 64) (rowOf k.val s) l) = _
      rw [tile_write arg11.view f _ 51 k.val (k0_off40_eq k),
        dif_neg (fun h => absurd h.1 (by decide)),
        tile_write arg11.view f _ 19 k.val (k0_off39_eq k),
        dif_neg (fun h => absurd h.1 (by decide)),
        tile_write arg11.view f _ 50 k.val (k0_off38_eq k),
        dif_pos ⟨rfl, by omega, by omega⟩]
      refine up_cast _ _ shapeCasts_S8x128_S1x8x128 k.val hk s l _ ?_
      rfl
    | 3 =>
      show arg11.view.read (Elt Ideal) _ (ix3 (⟨51, by decide⟩ : Fin 64) (rowOf k.val s) l) = _
      rw [tile_write arg11.view f _ 51 k.val (k0_off40_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 16 ∧ a.val ≠ 48 ∧ a.val ≠ 17 ∧ a.val ≠ 49 ∧ a.val ≠ 18 ∧ a.val ≠ 50 ∧ a.val ≠ 19 ∧ a.val ≠ 51) := by
      rcases h with h | h
      · exact Or.inl h
      · exact Or.inr ⟨(h 0).1, (h 0).2, (h 1).1, (h 1).2, (h 2).1, (h 2).2, (h 3).1, (h 3).2⟩
    rw [tile_write arg11.view f _ 51 k.val (k0_off40_eq k), dif_neg (by omega),
      tile_write arg11.view f _ 19 k.val (k0_off39_eq k), dif_neg (by omega),
      tile_write arg11.view f _ 50 k.val (k0_off38_eq k), dif_neg (by omega),
      tile_write arg11.view f _ 18 k.val (k0_off37_eq k), dif_neg (by omega),
      tile_write arg11.view f _ 49 k.val (k0_off36_eq k), dif_neg (by omega),
      tile_write arg11.view f _ 17 k.val (k0_off35_eq k), dif_neg (by omega),
      tile_write arg11.view f _ 48 k.val (k0_off34_eq k), dif_neg (by omega),
      tile_write arg11.view f _ 16 k.val (k0_off33_eq k), dif_neg (by omega)]
    rfl

theorem trips5 : k0_t5_loop.trips = 4 := by decide +kernel

/-- Loop 5, whole. -/
theorem loop5_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v628 : FVec Ideal S8x128 .f32) (v630 : FVec Ideal S8x128 .f32) (v632 : FVec Ideal S8x128 .f32) (v634 : FVec Ideal S8x128 .f32) (v636 : FVec Ideal S8x128 .f32) (v638 : FVec Ideal S8x128 .f32) (v639 : Vec Ideal S1x8x128 .f32) (v641 : Vec Ideal S1x8x128 .f32) (G : arg11.view.ty.Contents (Elt Ideal)) (init : T8) :
    LoopSpec 16 (by decide) (fam4 v628 v630 v632 v634) (fam4 v636 v638 (shapeCast S8x128 v639 shapeCasts_S1x8x128_S8x128) (shapeCast S8x128 v641 shapeCasts_S1x8x128_S8x128)) init
      (st_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init (Scf.trips k0_t5_loop.lb k0_t5_loop.ub k0_t5_loop.st)).1 (arg11.view.read (Elt Ideal) G)
      (arg11.view.read (Elt Ideal) (arg11.view.writes (Elt Ideal) G (st_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init (Scf.trips k0_t5_loop.lb k0_t5_loop.ub k0_t5_loop.st)).2)) := by
  have h4 : Scf.trips k0_t5_loop.lb k0_t5_loop.ub k0_t5_loop.st = 4 := trips5
  rw [h4]
  refine loop_of_trips _ _ _ _ init (arg11.view.read (Elt Ideal) G) (fun k => (st_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init k).1)
    (fun k => arg11.view.read (Elt Ideal) (arg11.view.writes (Elt Ideal) G (st_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init k).2)) rfl rfl fun k hk => ?_
  have hk' : k < k0_t5_loop.trips := by rw [trips5]; exact hk
  have e := st_k0_t5_succ (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init ⟨k, hk'⟩
  rw [show (st_k0_t5 (F := Ideal) 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 G init (k + 1)) = _ from e, View.writes_append]
  exact trip5_spec 𝒱 c bd i arg1 harg1 arg2 harg2 arg3 harg3 arg4 harg4 arg5 harg5 arg6 harg6 arg7 harg7 arg8 harg8 arg9 harg9 arg10 harg10 arg11 harg11 arg12 harg12 v628 v630 v632 v634 v636 v638 v639 v641 ⟨k, hk'⟩ _ _

/-- One trip of loop 6. -/
theorem trip6_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v686 : FVec Ideal S8x128 .f32) (v688 : FVec Ideal S8x128 .f32) (v690 : FVec Ideal S8x128 .f32) (v692 : FVec Ideal S8x128 .f32) (v694 : FVec Ideal S8x128 .f32) (v696 : FVec Ideal S8x128 .f32) (v698 : FVec Ideal S8x128 .f32) (v700 : FVec Ideal S8x128 .f32) (v702 : FVec Ideal S8x128 .f32) (v704 : FVec Ideal S8x128 .f32) (v706 : FVec Ideal S8x128 .f32) (v708 : FVec Ideal S8x128 .f32) (v710 : FVec Ideal S8x128 .f32) (v712 : FVec Ideal S8x128 .f32) (k : Fin k0_t6_loop.trips) (acc : T8) (f : arg11.view.ty.Contents (Elt Ideal)) :
    TripSpec 20 (by decide) (fam4 v686 v688 v690 v692) (fam4 v694 v696 v698 v700) k.val acc
      ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 k).1 acc f) (arg11.view.read (Elt Ideal) f)
      (arg11.view.read (Elt Ideal) (arg11.view.writes (Elt Ideal) f ((trip_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 k).2.1 acc f))) := by
  have hk : k.val < 4 := Nat.lt_of_lt_of_le k.isLt k0_t6_abs.2.1
  refine ⟨fun j s l => ?_, fun j s l => ?_, fun j s l => ?_, fun j s l => ?_, fun a b c h => ?_⟩ <;> unfold trip_k0_t6 <;> dsimp only
  · match j with
    | 0 => exact re_pay arg11.view f 20 k.val (by decide) hk (k0_off41_eq k) _ _ _ _ _ _ s l
    | 1 => exact re_pay arg11.view f 21 k.val (by decide) hk (k0_off43_eq k) _ _ _ _ _ _ s l
    | 2 => exact re_pay arg11.view f 22 k.val (by decide) hk (k0_off45_eq k) _ _ _ _ _ _ s l
    | 3 => exact re_pay arg11.view f 23 k.val (by decide) hk (k0_off47_eq k) _ _ _ _ _ _ s l
  · match j with
    | 0 => exact im_pay arg11.view f 52 k.val (by decide) hk (k0_off42_eq k) _ _ _ _ _ _ s l
    | 1 => exact im_pay arg11.view f 53 k.val (by decide) hk (k0_off44_eq k) _ _ _ _ _ _ s l
    | 2 => exact im_pay arg11.view f 54 k.val (by decide) hk (k0_off46_eq k) _ _ _ _ _ _ s l
    | 3 => exact im_pay arg11.view f 55 k.val (by decide) hk (k0_off48_eq k) _ _ _ _ _ _ s l
  · have hs := s.isLt
    have hr := rowOf_val k.val s hk
    match j with
    | 0 =>
      show arg11.view.read (Elt Ideal) _ (ix3 (⟨20, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_neg (fun h => absurd h.1 (by decide)),
        tile_write arg11.view f _ 22 k.val (k0_off45_eq k),
        dif_neg (fun h => absurd h.1 (by decide)),
        tile_write arg11.view f _ 53 k.val (k0_off44_eq k),
        dif_neg (fun h => absurd h.1 (by decide)),
        tile_write arg11.view f _ 21 k.val (k0_off43_eq k),
        dif_neg (fun h => absurd h.1 (by decide)),
        tile_write arg11.view f _ 52 k.val (k0_off42_eq k),
        dif_neg (fun h => absurd h.1 (by decide)),
        tile_write arg11.view f _ 20 k.val (k0_off41_eq k),
        dif_pos ⟨rfl, by omega, by omega⟩]
      refine up_cast _ _ shapeCasts_S8x128_S1x8x128 k.val hk s l _ ?_
      rfl
    | 1 =>
      show arg11.view.read (Elt Ideal) _ (ix3 (⟨21, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_neg (fun h => absurd h.1 (by decide)),
        tile_write arg11.view f _ 22 k.val (k0_off45_eq k),
        dif_neg (fun h => absurd h.1 (by decide)),
        tile_write arg11.view f _ 53 k.val (k0_off44_eq k),
        dif_neg (fun h => absurd h.1 (by decide)),
        tile_write arg11.view f _ 21 k.val (k0_off43_eq k),
        dif_pos ⟨rfl, by omega, by omega⟩]
      refine up_cast _ _ shapeCasts_S8x128_S1x8x128 k.val hk s l _ ?_
      rfl
    | 2 =>
      show arg11.view.read (Elt Ideal) _ (ix3 (⟨22, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_neg (fun h => absurd h.1 (by decide)),
        tile_write arg11.view f _ 22 k.val (k0_off45_eq k),
        dif_pos ⟨rfl, by omega, by omega⟩]
      refine up_cast _ _ shapeCasts_S8x128_S1x8x128 k.val hk s l _ ?_
      rfl
    | 3 =>
      show arg11.view.read (Elt Ideal) _ (ix3 (⟨23, by decide⟩ : Fin 64) (rowOf k.val s) l) = _
      rw [tile_write arg11.view f _ 55 k.val (k0_off48_eq k),
        dif_neg (fun h => absurd h.1 (by decide)),
        tile_write arg11.view f _ 23 k.val (k0_off47_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨52, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_neg (fun h => absurd h.1 (by decide)),
        tile_write arg11.view f _ 22 k.val (k0_off45_eq k),
        dif_neg (fun h => absurd h.1 (by decide)),
        tile_write arg11.view f _ 53 k.val (k0_off44_eq k),
        dif_neg (fun h => absurd h.1 (by decide)),
        tile_write arg11.view f _ 21 k.val (k0_off43_eq k),
        dif_neg (fun h => absurd h.1 (by decide)),
        tile_write arg11.view f _ 52 k.val (k0_off42_eq k),
        dif_pos ⟨rfl, by omega, by omega⟩]
      refine up_cast _ _ shapeCasts_S8x128_S1x8x128 k.val hk s l _ ?_
      rfl
    | 1 =>
      show arg11.view.read (Elt Ideal) _ (ix3 (⟨53, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_neg (fun h => absurd h.1 (by decide)),
        tile_write arg11.view f _ 22 k.val (k0_off45_eq k),
        dif_neg (fun h => absurd h.1 (by decide)),
        tile_write arg11.view f _ 53 k.val (k0_off44_eq k),
        dif_pos ⟨rfl, by omega, by omega⟩]
      refine up_cast _ _ shapeCasts_S8x128_S1x8x128 k.val hk s l _ ?_
      rfl
    | 2 =>
      show arg11.view.read (Elt Ideal) _ (ix3 (⟨54, by decide⟩ : Fin 64) (rowOf k.val s) l) = _
      rw [tile_write arg11.view f _ 55 k.val (k0_off48_eq k),
        dif_neg (fun h => absurd h.1 (by decide)),
        tile_write arg11.view f _ 23 k.val (k0_off47_eq k),
        dif_neg (fun h => absurd h.1 (by decide)),
        tile_write arg11.view f _ 54 k.val (k0_off46_eq k),
        dif_pos ⟨rfl, by omega, by omega⟩]
      refine up_cast _ _ shapeCasts_S8x128_S1x8x128 k.val hk s l _ ?_
      rfl
    | 3 =>
      show arg11.view.read (Elt Ideal) _ (ix3 (⟨55, by decide⟩ : Fin 64) (rowOf k.val s) l) = _
      rw [tile_write arg11.view f _ 55 k.val (k0_off48_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 20 ∧ a.val ≠ 52 ∧ a.val ≠ 21 ∧ a.val ≠ 53 ∧ a.val ≠ 22 ∧ a.val ≠ 54 ∧ a.val ≠ 23 ∧ a.val ≠ 55) := by
      rcases h with h | h
      · exact Or.inl h
      · exact Or.inr ⟨(h 0).1, (h 0).2, (h 1).1, (h 1).2, (h 2).1, (h 2).2, (h 3).1, (h 3).2⟩
    rw [tile_write arg11.view f _ 55 k.val (k0_off48_eq k), dif_neg (by omega),
      tile_write arg11.view f _ 23 k.val (k0_off47_eq k), dif_neg (by omega),
      tile_write arg11.view f _ 54 k.val (k0_off46_eq k), dif_neg (by omega),
      tile_write arg11.view f _ 22 k.val (k0_off45_eq k), dif_neg (by omega),
      tile_write arg11.view f _ 53 k.val (k0_off44_eq k), dif_neg (by omega),
      tile_write arg11.view f _ 21 k.val (k0_off43_eq k), dif_neg (by omega),
      tile_write arg11.view f _ 52 k.val (k0_off42_eq k), dif_neg (by omega),
      tile_write arg11.view f _ 20 k.val (k0_off41_eq k), dif_neg (by omega)]
    rfl

theorem trips6 : k0_t6_loop.trips = 4 := by decide +kernel

/-- Loop 6, whole. -/
theorem loop6_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v686 : FVec Ideal S8x128 .f32) (v688 : FVec Ideal S8x128 .f32) (v690 : FVec Ideal S8x128 .f32) (v692 : FVec Ideal S8x128 .f32) (v694 : FVec Ideal S8x128 .f32) (v696 : FVec Ideal S8x128 .f32) (v698 : FVec Ideal S8x128 .f32) (v700 : FVec Ideal S8x128 .f32) (v702 : FVec Ideal S8x128 .f32) (v704 : FVec Ideal S8x128 .f32) (v706 : FVec Ideal S8x128 .f32) (v708 : FVec Ideal S8x128 .f32) (v710 : FVec Ideal S8x128 .f32) (v712 : FVec Ideal S8x128 .f32) (G : arg11.view.ty.Contents (Elt Ideal)) (init : T8) :
    LoopSpec 20 (by decide) (fam4 v686 v688 v690 v692) (fam4 v694 v696 v698 v700) init
      (st_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init (Scf.trips k0_t6_loop.lb k0_t6_loop.ub k0_t6_loop.st)).1 (arg11.view.read (Elt Ideal) G)
      (arg11.view.read (Elt Ideal) (arg11.view.writes (Elt Ideal) G (st_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init (Scf.trips k0_t6_loop.lb k0_t6_loop.ub k0_t6_loop.st)).2)) := by
  have h4 : Scf.trips k0_t6_loop.lb k0_t6_loop.ub k0_t6_loop.st = 4 := trips6
  rw [h4]
  refine loop_of_trips _ _ _ _ init (arg11.view.read (Elt Ideal) G) (fun k => (st_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init k).1)
    (fun k => arg11.view.read (Elt Ideal) (arg11.view.writes (Elt Ideal) G (st_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init k).2)) rfl rfl fun k hk => ?_
  have hk' : k < k0_t6_loop.trips := by rw [trips6]; exact hk
  have e := st_k0_t6_succ (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init ⟨k, hk'⟩
  rw [show (st_k0_t6 (F := Ideal) 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 G init (k + 1)) = _ from e, View.writes_append]
  exact trip6_spec 𝒱 c bd i arg1 harg1 arg2 harg2 arg3 harg3 arg4 harg4 arg5 harg5 arg6 harg6 arg7 harg7 arg8 harg8 arg9 harg9 arg10 harg10 arg11 harg11 arg12 harg12 v686 v688 v690 v692 v694 v696 v698 v700 v702 v704 v706 v708 v710 v712 ⟨k, hk'⟩ _ _

/-- One trip of loop 7. -/
theorem trip7_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v744 : FVec Ideal S8x128 .f32) (v746 : FVec Ideal S8x128 .f32) (v748 : FVec Ideal S8x128 .f32) (v750 : FVec Ideal S8x128 .f32) (v752 : FVec Ideal S8x128 .f32) (v754 : FVec Ideal S8x128 .f32) (v756 : FVec Ideal S8x128 .f32) (v758 : FVec Ideal S8x128 .f32) (v760 : FVec Ideal S8x128 .f32) (v762 : FVec Ideal S8x128 .f32) (k : Fin k0_t7_loop.trips) (acc : T8) (f : arg11.view.ty.Contents (Elt Ideal)) :
    TripSpec 24 (by decide) (fam4 v744 v746 v748 v750) (fam4 v752 v754 v756 v758) k.val acc
      ((trip_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 k).1 acc f) (arg11.view.read (Elt Ideal) f)
      (arg11.view.read (Elt Ideal) (arg11.view.writes (Elt Ideal) f ((trip_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 k).2.1 acc f))) := by
  have hk : k.val < 4 := Nat.lt_of_lt_of_le k.isLt k0_t7_abs.2.1
  refine ⟨fun j s l => ?_, fun j s l => ?_, fun j s l => ?_, fun j s l => ?_, fun a b c h => ?_⟩ <;> unfold trip_k0_t7 <;> dsimp only
  · match j with
    | 0 => exact re_pay arg11.view f 24 k.val (by decide) hk (k0_off49_eq k) _ _ _ _ _ _ s l
    | 1 => exact re_pay arg11.view f 25 k.val (by decide) hk (k0_off51_eq k) _ _ _ _ _ _ s l
    | 2 => exact re_pay arg11.view f 26 k.val (by decide) hk (k0_off53_eq k) _ _ _ _ _ _ s l
    | 3 => exact re_pay arg11.view f 27 k.val (by decide) hk (k0_off55_eq k) _ _ _ _ _ _ s l
  · match j with
    | 0 => exact im_pay arg11.view f 56 k.val (by decide) hk (k0_off50_eq k) _ _ _ _ _ _ s l
    | 1 => exact im_pay arg11.view f 57 k.val (by decide) hk (k0_off52_eq k) _ _ _ _ _ _ s l
    | 2 => exact im_pay arg11.view f 58 k.val (by decide) hk (k0_off54_eq k) _ _ _ _ _ _ s l
    | 3 => exact im_pay arg11.view f 59 k.val (by decide) hk (k0_off56_eq k) _ _ _ _ _ _ s l
  · have hs := s.isLt
    have hr := rowOf_val k.val s hk
    match j with
    | 0 =>
      show arg11.view.read (Elt Ideal) _ (ix3 (⟨24, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_neg (fun h => absurd h.1 (by decide)),
        tile_write arg11.view f _ 26 k.val (k0_off53_eq k),
        dif_neg (fun h => absurd h.1 (by decide)),
        tile_write arg11.view f _ 57 k.val (k0_off52_eq k),
        dif_neg (fun h => absurd h.1 (by decide)),
        tile_write arg11.view f _ 25 k.val (k0_off51_eq k),
        dif_neg (fun h => absurd h.1 (by decide)),
        tile_write arg11.view f _ 56 k.val (k0_off50_eq k),
        dif_neg (fun h => absurd h.1 (by decide)),
        tile_write arg11.view f _ 24 k.val (k0_off49_eq k),
        dif_pos ⟨rfl, by omega, by omega⟩]
      refine up_cast _ _ shapeCasts_S8x128_S1x8x128 k.val hk s l _ ?_
      rfl
    | 1 =>
      show arg11.view.read (Elt Ideal) _ (ix3 (⟨25, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_neg (fun h => absurd h.1 (by decide)),
        tile_write arg11.view f _ 26 k.val (k0_off53_eq k),
        dif_neg (fun h => absurd h.1 (by decide)),
        tile_write arg11.view f _ 57 k.val (k0_off52_eq k),
        dif_neg (fun h => absurd h.1 (by decide)),
        tile_write arg11.view f _ 25 k.val (k0_off51_eq k),
        dif_pos ⟨rfl, by omega, by omega⟩]
      refine up_cast _ _ shapeCasts_S8x128_S1x8x128 k.val hk s l _ ?_
      rfl
    | 2 =>
      show arg11.view.read (Elt Ideal) _ (ix3 (⟨26, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_neg (fun h => absurd h.1 (by decide)),
        tile_write arg11.view f _ 26 k.val (k0_off53_eq k),
        dif_pos ⟨rfl, by omega, by omega⟩]
      refine up_cast _ _ shapeCasts_S8x128_S1x8x128 k.val hk s l _ ?_
      rfl
    | 3 =>
      show arg11.view.read (Elt Ideal) _ (ix3 (⟨27, by decide⟩ : Fin 64) (rowOf k.val s) l) = _
      rw [tile_write arg11.view f _ 59 k.val (k0_off56_eq k),
        dif_neg (fun h => absurd h.1 (by decide)),
        tile_write arg11.view f _ 27 k.val (k0_off55_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨56, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_neg (fun h => absurd h.1 (by decide)),
        tile_write arg11.view f _ 26 k.val (k0_off53_eq k),
        dif_neg (fun h => absurd h.1 (by decide)),
        tile_write arg11.view f _ 57 k.val (k0_off52_eq k),
        dif_neg (fun h => absurd h.1 (by decide)),
        tile_write arg11.view f _ 25 k.val (k0_off51_eq k),
        dif_neg (fun h => absurd h.1 (by decide)),
        tile_write arg11.view f _ 56 k.val (k0_off50_eq k),
        dif_pos ⟨rfl, by omega, by omega⟩]
      refine up_cast _ _ shapeCasts_S8x128_S1x8x128 k.val hk s l _ ?_
      rfl
    | 1 =>
      show arg11.view.read (Elt Ideal) _ (ix3 (⟨57, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_neg (fun h => absurd h.1 (by decide)),
        tile_write arg11.view f _ 26 k.val (k0_off53_eq k),
        dif_neg (fun h => absurd h.1 (by decide)),
        tile_write arg11.view f _ 57 k.val (k0_off52_eq k),
        dif_pos ⟨rfl, by omega, by omega⟩]
      refine up_cast _ _ shapeCasts_S8x128_S1x8x128 k.val hk s l _ ?_
      rfl
    | 2 =>
      show arg11.view.read (Elt Ideal) _ (ix3 (⟨58, by decide⟩ : Fin 64) (rowOf k.val s) l) = _
      rw [tile_write arg11.view f _ 59 k.val (k0_off56_eq k),
        dif_neg (fun h => absurd h.1 (by decide)),
        tile_write arg11.view f _ 27 k.val (k0_off55_eq k),
        dif_neg (fun h => absurd h.1 (by decide)),
        tile_write arg11.view f _ 58 k.val (k0_off54_eq k),
        dif_pos ⟨rfl, by omega, by omega⟩]
      refine up_cast _ _ shapeCasts_S8x128_S1x8x128 k.val hk s l _ ?_
      rfl
    | 3 =>
      show arg11.view.read (Elt Ideal) _ (ix3 (⟨59, by decide⟩ : Fin 64) (rowOf k.val s) l) = _
      rw [tile_write arg11.view f _ 59 k.val (k0_off56_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 24 ∧ a.val ≠ 56 ∧ a.val ≠ 25 ∧ a.val ≠ 57 ∧ a.val ≠ 26 ∧ a.val ≠ 58 ∧ a.val ≠ 27 ∧ a.val ≠ 59) := by
      rcases h with h | h
      · exact Or.inl h
      · exact Or.inr ⟨(h 0).1, (h 0).2, (h 1).1, (h 1).2, (h 2).1, (h 2).2, (h 3).1, (h 3).2⟩
    rw [tile_write arg11.view f _ 59 k.val (k0_off56_eq k), dif_neg (by omega),
      tile_write arg11.view f _ 27 k.val (k0_off55_eq k), dif_neg (by omega),
      tile_write arg11.view f _ 58 k.val (k0_off54_eq k), dif_neg (by omega),
      tile_write arg11.view f _ 26 k.val (k0_off53_eq k), dif_neg (by omega),
      tile_write arg11.view f _ 57 k.val (k0_off52_eq k), dif_neg (by omega),
      tile_write arg11.view f _ 25 k.val (k0_off51_eq k), dif_neg (by omega),
      tile_write arg11.view f _ 56 k.val (k0_off50_eq k), dif_neg (by omega),
      tile_write arg11.view f _ 24 k.val (k0_off49_eq k), dif_neg (by omega)]
    rfl

theorem trips7 : k0_t7_loop.trips = 4 := by decide +kernel

/-- Loop 7, whole. -/
theorem loop7_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v744 : FVec Ideal S8x128 .f32) (v746 : FVec Ideal S8x128 .f32) (v748 : FVec Ideal S8x128 .f32) (v750 : FVec Ideal S8x128 .f32) (v752 : FVec Ideal S8x128 .f32) (v754 : FVec Ideal S8x128 .f32) (v756 : FVec Ideal S8x128 .f32) (v758 : FVec Ideal S8x128 .f32) (v760 : FVec Ideal S8x128 .f32) (v762 : FVec Ideal S8x128 .f32) (G : arg11.view.ty.Contents (Elt Ideal)) (init : T8) :
    LoopSpec 24 (by decide) (fam4 v744 v746 v748 v750) (fam4 v752 v754 v756 v758) init
      (st_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init (Scf.trips k0_t7_loop.lb k0_t7_loop.ub k0_t7_loop.st)).1 (arg11.view.read (Elt Ideal) G)
      (arg11.view.read (Elt Ideal) (arg11.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init (Scf.trips k0_t7_loop.lb k0_t7_loop.ub k0_t7_loop.st)).2)) := by
  have h4 : Scf.trips k0_t7_loop.lb k0_t7_loop.ub k0_t7_loop.st = 4 := trips7
  rw [h4]
  refine loop_of_trips _ _ _ _ init (arg11.view.read (Elt Ideal) G) (fun k => (st_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init k).1)
    (fun k => arg11.view.read (Elt Ideal) (arg11.view.writes (Elt Ideal) G (st_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init k).2)) rfl rfl fun k hk => ?_
  have hk' : k < k0_t7_loop.trips := by rw [trips7]; exact hk
  have e := st_k0_t7_succ (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init ⟨k, hk'⟩
  rw [show (st_k0_t7 (F := Ideal) 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 G init (k + 1)) = _ from e, View.writes_append]
  exact trip7_spec 𝒱 c bd i arg1 harg1 arg2 harg2 arg3 harg3 arg4 harg4 arg5 harg5 arg6 harg6 arg7 harg7 arg8 harg8 arg9 harg9 arg10 harg10 arg11 harg11 arg12 harg12 v744 v746 v748 v750 v752 v754 v756 v758 v760 v762 ⟨k, hk'⟩ _ _

/-- One trip of loop 8. -/
theorem trip8_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v802 : FVec Ideal S8x128 .f32) (v804 : FVec Ideal S8x128 .f32) (v806 : FVec Ideal S8x128 .f32) (v808 : FVec Ideal S8x128 .f32) (v810 : FVec Ideal S8x128 .f32) (v811 : Vec Ideal S1x8x128 .f32) (v813 : Vec Ideal S1x8x128 .f32) (v815 : Vec Ideal S1x8x128 .f32) (k : Fin k0_t8_loop.trips) (acc : T8) (f : arg11.view.ty.Contents (Elt Ideal)) :
    TripSpec 28 (by decide) (fam4 v802 v804 v806 v808) (fam4 v810 (shapeCast S8x128 v811 shapeCasts_S1x8x128_S8x128) (shapeCast S8x128 v813 shapeCasts_S1x8x128_S8x128) (shapeCast S8x128 v815 shapeCasts_S1x8x128_S8x128)) k.val acc
      ((trip_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 k).1 acc f) (arg11.view.read (Elt Ideal) f)
      (arg11.view.read (Elt Ideal) (arg11.view.writes (Elt Ideal) f ((trip_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 k).2.1 acc f))) := by
  have hk : k.val < 4 := Nat.lt_of_lt_of_le k.isLt k0_t8_abs.2.1
  refine ⟨fun j s l => ?_, fun j s l => ?_, fun j s l => ?_, fun j s l => ?_, fun a b c h => ?_⟩ <;> unfold trip_k0_t8 <;> dsimp only
  · match j with
    | 0 => exact re_pay arg11.view f 28 k.val (by decide) hk (k0_off57_eq k) _ _ _ _ _ _ s l
    | 1 => exact re_pay arg11.view f 29 k.val (by decide) hk (k0_off59_eq k) _ _ _ _ _ _ s l
    | 2 => exact re_pay arg11.view f 30 k.val (by decide) hk (k0_off61_eq k) _ _ _ _ _ _ s l
    | 3 => exact re_pay arg11.view f 31 k.val (by decide) hk (k0_off63_eq k) _ _ _ _ _ _ s l
  · match j with
    | 0 => exact im_pay arg11.view f 60 k.val (by decide) hk (k0_off58_eq k) _ _ _ _ _ _ s l
    | 1 => exact im_pay arg11.view f 61 k.val (by decide) hk (k0_off60_eq k) _ _ _ _ _ _ s l
    | 2 => exact im_pay arg11.view f 62 k.val (by decide) hk (k0_off62_eq k) _ _ _ _ _ _ s l
    | 3 => exact im_pay arg11.view f 63 k.val (by decide) hk (k0_off64_eq k) _ _ _ _ _ _ s l
  · have hs := s.isLt
    have hr := rowOf_val k.val s hk
    match j with
    | 0 =>
      show arg11.view.read (Elt Ideal) _ (ix3 (⟨28, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_neg (fun h => absurd h.1 (by decide)),
        tile_write arg11.view f _ 30 k.val (k0_off61_eq k),
        dif_neg (fun h => absurd h.1 (by decide)),
        tile_write arg11.view f _ 61 k.val (k0_off60_eq k),
        dif_neg (fun h => absurd h.1 (by decide)),
        tile_write arg11.view f _ 29 k.val (k0_off59_eq k),
        dif_neg (fun h => absurd h.1 (by decide)),
        tile_write arg11.view f _ 60 k.val (k0_off58_eq k),
        dif_neg (fun h => absurd h.1 (by decide)),
        tile_write arg11.view f _ 28 k.val (k0_off57_eq k),
        dif_pos ⟨rfl, by omega, by omega⟩]
      refine up_cast _ _ shapeCasts_S8x128_S1x8x128 k.val hk s l _ ?_
      rfl
    | 1 =>
      show arg11.view.read (Elt Ideal) _ (ix3 (⟨29, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_neg (fun h => absurd h.1 (by decide)),
        tile_write arg11.view f _ 30 k.val (k0_off61_eq k),
        dif_neg (fun h => absurd h.1 (by decide)),
        tile_write arg11.view f _ 61 k.val (k0_off60_eq k),
        dif_neg (fun h => absurd h.1 (by decide)),
        tile_write arg11.view f _ 29 k.val (k0_off59_eq k),
        dif_pos ⟨rfl, by omega, by omega⟩]
      refine up_cast _ _ shapeCasts_S8x128_S1x8x128 k.val hk s l _ ?_
      rfl
    | 2 =>
      show arg11.view.read (Elt Ideal) _ (ix3 (⟨30, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_neg (fun h => absurd h.1 (by decide)),
        tile_write arg11.view f _ 30 k.val (k0_off61_eq k),
        dif_pos ⟨rfl, by omega, by omega⟩]
      refine up_cast _ _ shapeCasts_S8x128_S1x8x128 k.val hk s l _ ?_
      rfl
    | 3 =>
      show arg11.view.read (Elt Ideal) _ (ix3 (⟨31, by decide⟩ : Fin 64) (rowOf k.val s) l) = _
      rw [tile_write arg11.view f _ 63 k.val (k0_off64_eq k),
        dif_neg (fun h => absurd h.1 (by decide)),
        tile_write arg11.view f _ 31 k.val (k0_off63_eq k),
        dif_pos ⟨rfl, by omega, by omega⟩]
      refine up_cast _ _ shapeCasts_S8x128_S1x8x128 k.val hk s l _ ?_
      rfl
  · have hs := s.isLt
    have hr := rowOf_val k.val s hk
    match j with
    | 0 =>
      show arg11.view.read (Elt Ideal) _ (ix3 (⟨60, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_neg (fun h => absurd h.1 (by decide)),
        tile_write arg11.view f _ 30 k.val (k0_off61_eq k),
        dif_neg (fun h => absurd h.1 (by decide)),
        tile_write arg11.view f _ 61 k.val (k0_off60_eq k),
        dif_neg (fun h => absurd h.1 (by decide)),
        tile_write arg11.view f _ 29 k.val (k0_off59_eq k),
        dif_neg (fun h => absurd h.1 (by decide)),
        tile_write arg11.view f _ 60 k.val (k0_off58_eq k),
        dif_pos ⟨rfl, by omega, by omega⟩]
      refine up_cast _ _ shapeCasts_S8x128_S1x8x128 k.val hk s l _ ?_
      rfl
    | 1 =>
      show arg11.view.read (Elt Ideal) _ (ix3 (⟨61, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_neg (fun h => absurd h.1 (by decide)),
        tile_write arg11.view f _ 30 k.val (k0_off61_eq k),
        dif_neg (fun h => absurd h.1 (by decide)),
        tile_write arg11.view f _ 61 k.val (k0_off60_eq k),
        dif_pos ⟨rfl, by omega, by omega⟩]
      refine up_cast _ _ shapeCasts_S8x128_S1x8x128 k.val hk s l _ ?_
      rfl
    | 2 =>
      show arg11.view.read (Elt Ideal) _ (ix3 (⟨62, by decide⟩ : Fin 64) (rowOf k.val s) l) = _
      rw [tile_write arg11.view f _ 63 k.val (k0_off64_eq k),
        dif_neg (fun h => absurd h.1 (by decide)),
        tile_write arg11.view f _ 31 k.val (k0_off63_eq k),
        dif_neg (fun h => absurd h.1 (by decide)),
        tile_write arg11.view f _ 62 k.val (k0_off62_eq k),
        dif_pos ⟨rfl, by omega, by omega⟩]
      refine up_cast _ _ shapeCasts_S8x128_S1x8x128 k.val hk s l _ ?_
      rfl
    | 3 =>
      show arg11.view.read (Elt Ideal) _ (ix3 (⟨63, by decide⟩ : Fin 64) (rowOf k.val s) l) = _
      rw [tile_write arg11.view f _ 63 k.val (k0_off64_eq k),
        dif_pos ⟨rfl, by omega, by omega⟩]
      refine up_cast _ _ shapeCasts_S8x128_S1x8x128 k.val hk s l _ ?_
      rfl
  · have H : (b.val < 8 * k.val ∨ 8 * k.val + 8 ≤ b.val) ∨ (a.val ≠ 28 ∧ a.val ≠ 60 ∧ a.val ≠ 29 ∧ a.val ≠ 61 ∧ a.val ≠ 30 ∧ a.val ≠ 62 ∧ a.val ≠ 31 ∧ a.val ≠ 63) := by
      rcases h with h | h
      · exact Or.inl h
      · exact Or.inr ⟨(h 0).1, (h 0).2, (h 1).1, (h 1).2, (h 2).1, (h 2).2, (h 3).1, (h 3).2⟩
    rw [tile_write arg11.view f _ 63 k.val (k0_off64_eq k), dif_neg (by omega),
      tile_write arg11.view f _ 31 k.val (k0_off63_eq k), dif_neg (by omega),
      tile_write arg11.view f _ 62 k.val (k0_off62_eq k), dif_neg (by omega),
      tile_write arg11.view f _ 30 k.val (k0_off61_eq k), dif_neg (by omega),
      tile_write arg11.view f _ 61 k.val (k0_off60_eq k), dif_neg (by omega),
      tile_write arg11.view f _ 29 k.val (k0_off59_eq k), dif_neg (by omega),
      tile_write arg11.view f _ 60 k.val (k0_off58_eq k), dif_neg (by omega),
      tile_write arg11.view f _ 28 k.val (k0_off57_eq k), dif_neg (by omega)]
    rfl

theorem trips8 : k0_t8_loop.trips = 4 := by decide +kernel

/-- Loop 8, whole. -/
theorem loop8_spec (𝒱 : Variants) (c : Dev nD) (bd : Option 𝒱.V) (i : grid0.Coords) (arg1 : Memref sig .tc .vmem S32x1024 .f32) (harg1 : arg1.IsWhole) (arg2 : Memref sig .tc .vmem S32x1024 .f32) (harg2 : arg2.IsWhole) (arg3 : Memref sig .tc .vmem S64x8x128 .f32) (harg3 : arg3.IsWhole) (arg4 : Memref sig .tc .vmem S64x8x128 .f32) (harg4 : arg4.IsWhole) (arg5 : Memref sig .tc .vmem S8x128x1024 .bf16) (harg5 : arg5.IsWhole) (arg6 : Memref sig .tc .vmem S8x1024x128 .bf16) (harg6 : arg6.IsWhole) (arg7 : Memref sig .tc .vmem S1x1024 .f32) (harg7 : arg7.IsWhole) (arg8 : Memref sig .tc .vmem S1024x2048 .bf16) (harg8 : arg8.IsWhole) (arg9 : Memref sig .tc .vmem S32x1024 .bf16) (harg9 : arg9.IsWhole) (arg10 : Memref sig .tc .vmem S64x8x128 .f32) (harg10 : arg10.IsWhole) (arg11 : Memref sig .tc .vmem S64x32x128 .f32) (harg11 : arg11.IsWhole) (arg12 : Memref sig .tc .vmem S64x8x128 .f32) (harg12 : arg12.IsWhole) (v802 : FVec Ideal S8x128 .f32) (v804 : FVec Ideal S8x128 .f32) (v806 : FVec Ideal S8x128 .f32) (v808 : FVec Ideal S8x128 .f32) (v810 : FVec Ideal S8x128 .f32) (v811 : Vec Ideal S1x8x128 .f32) (v813 : Vec Ideal S1x8x128 .f32) (v815 : Vec Ideal S1x8x128 .f32) (G : arg11.view.ty.Contents (Elt Ideal)) (init : T8) :
    LoopSpec 28 (by decide) (fam4 v802 v804 v806 v808) (fam4 v810 (shapeCast S8x128 v811 shapeCasts_S1x8x128_S8x128) (shapeCast S8x128 v813 shapeCasts_S1x8x128_S8x128) (shapeCast S8x128 v815 shapeCasts_S1x8x128_S8x128)) init
      (st_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init (Scf.trips k0_t8_loop.lb k0_t8_loop.ub k0_t8_loop.st)).1 (arg11.view.read (Elt Ideal) G)
      (arg11.view.read (Elt Ideal) (arg11.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init (Scf.trips k0_t8_loop.lb k0_t8_loop.ub k0_t8_loop.st)).2)) := by
  have h4 : Scf.trips k0_t8_loop.lb k0_t8_loop.ub k0_t8_loop.st = 4 := trips8
  rw [h4]
  refine loop_of_trips _ _ _ _ init (arg11.view.read (Elt Ideal) G) (fun k => (st_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init k).1)
    (fun k => arg11.view.read (Elt Ideal) (arg11.view.writes (Elt Ideal) G (st_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init k).2)) rfl rfl fun k hk => ?_
  have hk' : k < k0_t8_loop.trips := by rw [trips8]; exact hk
  have e := st_k0_t8_succ (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init ⟨k, hk'⟩
  rw [show (st_k0_t8 (F := Ideal) 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 G init (k + 1)) = _ from e, View.writes_append]
  exact trip8_spec 𝒱 c bd i arg1 harg1 arg2 harg2 arg3 harg3 arg4 harg4 arg5 harg5 arg6 harg6 arg7 harg7 arg8 harg8 arg9 harg9 arg10 harg10 arg11 harg11 arg12 harg12 v802 v804 v806 v808 v810 v811 v813 v815 ⟨k, hk'⟩ _ _

end Cert.SsmIdeal.Val

end
-- ==== Proof.SsmOut.lean ====
/- The contents of the two scratch buffers of the recurrence kernel after its eight loops, from what each loop does. -/
module

public import proofs.«01_k».proof.Proof.SsmLoops

@[expose] public section

set_option maxRecDepth 16384

noncomputable section

open Idealize.ShloMosaic Idealize.ShloMosaic.TcCoe Idealize.SL.Sem Idealize.ShloMosaic.Tactic

namespace Cert.SsmIdeal.Val

open Cert.SsmIdeal Cert.SsmIdeal.Gen

/-- A store into the scratch of inputs, and a store into the scratch of states. -/
abbrev PX := View.Piece (Elt Ideal) S64x32x128 .f32
abbrev PT := View.Piece (Elt Ideal) S64x8x128 .f32

/-- Cell `(q, s, l)` of the state after `n` steps. -/
def cellA (A S0 : S64x8x128.Idx → EReal) (X : S64x32x128.Idx → EReal) (q : ℕ) (hq : q < 32) (s : Fin 8) (l : Fin 128) (n : ℕ) : EReal × EReal :=
  hst (A (ix3 (⟨q, by omega⟩ : Fin 64) s l)) (A (ix3 (⟨32 + q, by omega⟩ : Fin 64) s l))
    (S0 (ix3 (⟨q, by omega⟩ : Fin 64) s l)) (S0 (ix3 (⟨32 + q, by omega⟩ : Fin 64) s l))
    (fun t => X (ix3 (⟨q, by omega⟩ : Fin 64) (rowOf t s) l)) (fun t => X (ix3 (⟨32 + q, by omega⟩ : Fin 64) (rowOf t s) l)) n

/-- A loop over the tiles `q0 …` started from the state's tiles: what it carries out, and what the scratch holds after it. -/
structure TileSpec (A S0 : S64x8x128.Idx → EReal) (q0 : ℕ) (hq : q0 + 4 ≤ 32) (S : T8 × List PX) (L : List PX) : Prop where
  re : ∀ (j : Fin 4) (s : Fin 8) (l : Fin 128), re4 S.1 j (ix2 s l) = (cellA A S0 (View.canon L) (q0 + j.val) (by omega) s l 4).1
  im : ∀ (j : Fin 4) (s : Fin 8) (l : Fin 128), im4 S.1 j (ix2 s l) = (cellA A S0 (View.canon L) (q0 + j.val) (by omega) s l 4).2
  wr : ∀ (j : Fin 4) (s : Fin 8) (l : Fin 128) (t : ℕ), t < 4 → View.canon (S.2 ++ L) (ix3 (⟨q0 + j.val, by omega⟩ : Fin 64) (rowOf t s) l)
    = (cellA A S0 (View.canon L) (q0 + j.val) (by omega) s l (t + 1)).1
  wi : ∀ (j : Fin 4) (s : Fin 8) (l : Fin 128) (t : ℕ), t < 4 → View.canon (S.2 ++ L) (ix3 (⟨32 + (q0 + j.val), by omega⟩ : Fin 64) (rowOf t s) l)
    = (cellA A S0 (View.canon L) (q0 + j.val) (by omega) s l (t + 1)).2
  keep : ∀ (a : Fin 64) (b : Fin 32) (c : Fin 128), (∀ j : Fin 4, a.val ≠ q0 + j.val ∧ a.val ≠ 32 + (q0 + j.val)) →
    View.canon (S.2 ++ L) (ix3 a b c) = View.canon L (ix3 a b c)

/-- A loop's result in terms of the arrays its tiles are cut from. -/
theorem tileSpec_of_loop {sig : RefSig} {κ : Kind} {sp : Space} (v : View sig κ sp S64x32x128 .f32) (A S0 : S64x8x128.Idx → EReal) (q0 : ℕ) (hq : q0 + 4 ≤ 32)
    (S : T8 × List PX) (L : List PX) (aR aI : Fin 4 → Tile) (init : T8) (G : v.ty.Contents (Elt Ideal))
    (h : LoopSpec q0 hq aR aI init S.1 (v.read (Elt Ideal) G) (v.read (Elt Ideal) (v.writes (Elt Ideal) G S.2)))
    (hG : G = v.writes (Elt Ideal) v.junk L)
    (haR : ∀ (j : Fin 4) (s : Fin 8) (l : Fin 128), aR j (ix2 s l) = A (ix3 (⟨q0 + j.val, by omega⟩ : Fin 64) s l))
    (haI : ∀ (j : Fin 4) (s : Fin 8) (l : Fin 128), aI j (ix2 s l) = A (ix3 (⟨32 + (q0 + j.val), by omega⟩ : Fin 64) s l))
    (hr : ∀ (j : Fin 4) (s : Fin 8) (l : Fin 128), re4 init j (ix2 s l) = S0 (ix3 (⟨q0 + j.val, by omega⟩ : Fin 64) s l))
    (hi : ∀ (j : Fin 4) (s : Fin 8) (l : Fin 128), im4 init j (ix2 s l) = S0 (ix3 (⟨32 + (q0 + j.val), by omega⟩ : Fin 64) s l)) :
    TileSpec A S0 q0 hq S L := by
  subst hG
  rw [← View.writes_append, View.read_writes_junk_eq_canon, View.read_writes_junk_eq_canon] at h
  have e : ∀ (j : Fin 4) (s : Fin 8) (l : Fin 128) (n : ℕ),
      cellOf q0 hq aR aI init (View.canon L) j s l n = cellA A S0 (View.canon L) (q0 + j.val) (by omega) s l n := by
    intro j s l n
    unfold cellOf cellA
    rw [haR, haI, hr, hi]
  exact ⟨fun j s l => (h.re j s l).trans (by rw [e]), fun j s l => (h.im j s l).trans (by rw [e]),
    fun j s l t ht => (h.wr j t ht s l).trans (by rw [e]), fun j s l t ht => (h.wi j t ht s l).trans (by rw [e]), h.keep⟩

/-- The same with the eight tiles of each operand stated one by one. -/
theorem tileSpec_of_tiles {sig : RefSig} {κ : Kind} {sp : Space} (v : View sig κ sp S64x32x128 .f32) (A S0 : S64x8x128.Idx → EReal) (q0 : ℕ) (hq : q0 + 4 ≤ 32)
    (S : T8 × List PX) (L : List PX) (a0 a1 a2 a3 b0 b1 b2 b3 r0 r1 r2 r3 i0 i1 i2 i3 : Tile) (G : v.ty.Contents (Elt Ideal))
    (h : LoopSpec q0 hq (fam4 a0 a1 a2 a3) (fam4 b0 b1 b2 b3) (r0, r1, r2, r3, i0, i1, i2, i3) S.1 (v.read (Elt Ideal) G)
      (v.read (Elt Ideal) (v.writes (Elt Ideal) G S.2)))
    (hG : G = v.writes (Elt Ideal) v.junk L)
    (ha0 : ∀ (s : Fin 8) (l : Fin 128), a0 (ix2 s l) = A (ix3 (⟨q0 + 0, by omega⟩ : Fin 64) s l))
    (ha1 : ∀ (s : Fin 8) (l : Fin 128), a1 (ix2 s l) = A (ix3 (⟨q0 + 1, by omega⟩ : Fin 64) s l))
    (ha2 : ∀ (s : Fin 8) (l : Fin 128), a2 (ix2 s l) = A (ix3 (⟨q0 + 2, by omega⟩ : Fin 64) s l))
    (ha3 : ∀ (s : Fin 8) (l : Fin 128), a3 (ix2 s l) = A (ix3 (⟨q0 + 3, by omega⟩ : Fin 64) s l))
    (hb0 : ∀ (s : Fin 8) (l : Fin 128), b0 (ix2 s l) = A (ix3 (⟨32 + (q0 + 0), by omega⟩ : Fin 64) s l))
    (hb1 : ∀ (s : Fin 8) (l : Fin 128), b1 (ix2 s l) = A (ix3 (⟨32 + (q0 + 1), by omega⟩ : Fin 64) s l))
    (hb2 : ∀ (s : Fin 8) (l : Fin 128), b2 (ix2 s l) = A (ix3 (⟨32 + (q0 + 2), by omega⟩ : Fin 64) s l))
    (hb3 : ∀ (s : Fin 8) (l : Fin 128), b3 (ix2 s l) = A (ix3 (⟨32 + (q0 + 3), by omega⟩ : Fin 64) s l))
    (hr0 : ∀ (s : Fin 8) (l : Fin 128), r0 (ix2 s l) = S0 (ix3 (⟨q0 + 0, by omega⟩ : Fin 64) s l))
    (hr1 : ∀ (s : Fin 8) (l : Fin 128), r1 (ix2 s l) = S0 (ix3 (⟨q0 + 1, by omega⟩ : Fin 64) s l))
    (hr2 : ∀ (s : Fin 8) (l : Fin 128), r2 (ix2 s l) = S0 (ix3 (⟨q0 + 2, by omega⟩ : Fin 64) s l))
    (hr3 : ∀ (s : Fin 8) (l : Fin 128), r3 (ix2 s l) = S0 (ix3 (⟨q0 + 3, by omega⟩ : Fin 64) s l))
    (hi0 : ∀ (s : Fin 8) (l : Fin 128), i0 (ix2 s l) = S0 (ix3 (⟨32 + (q0 + 0), by omega⟩ : Fin 64) s l))
    (hi1 : ∀ (s : Fin 8) (l : Fin 128), i1 (ix2 s l) = S0 (ix3 (⟨32 + (q0 + 1), by omega⟩ : Fin 64) s l))
    (hi2 : ∀ (s : Fin 8) (l : Fin 128), i2 (ix2 s l) = S0 (ix3 (⟨32 + (q0 + 2), by omega⟩ : Fin 64) s l))
    (hi3 : ∀ (s : Fin 8) (l : Fin 128), i3 (ix2 s l) = S0 (ix3 (⟨32 + (q0 + 3), by omega⟩ : Fin 64) s l)) :
    TileSpec A S0 q0 hq S L :=
  tileSpec_of_loop v A S0 q0 hq S L _ _ _ G h hG
    (fun j s l => match j with | 0 => ha0 s l | 1 => ha1 s l | 2 => ha2 s l | 3 => ha3 s l)
    (fun j s l => match j with | 0 => hb0 s l | 1 => hb1 s l | 2 => hb2 s l | 3 => hb3 s l)
    (fun j s l => match j with | 0 => hr0 s l | 1 => hr1 s l | 2 => hr2 s l | 3 => hr3 s l)
    (fun j s l => match j with | 0 => hi0 s l | 1 => hi1 s l | 2 => hi2 s l | 3 => hi3 s l)

/-- Row `b` of the scratch is the row of its step and its sequence. -/
theorem rowOf_eta (b : Fin 32) : rowOf (b.val / 8) ⟨b.val % 8, Nat.mod_lt _ (by decide)⟩ = b := by
  apply Fin.ext
  rw [rowOf_val _ _ (by omega)]
  show 8 * (b.val / 8) + b.val % 8 = b.val
  omega

/-- What the scratch of inputs holds in the end: the state after each row's step. -/
def allAt (A S0 : S64x8x128.Idx → EReal) (X : S64x32x128.Idx → EReal) (a : Fin 64) (b : Fin 32) (c : Fin 128) : EReal :=
  if h : a.val < 32 then (cellA A S0 X a.val h ⟨b.val % 8, Nat.mod_lt _ (by decide)⟩ c (b.val / 8 + 1)).1
  else (cellA A S0 X (a.val - 32) (by omega) ⟨b.val % 8, Nat.mod_lt _ (by decide)⟩ c (b.val / 8 + 1)).2

/-- What the states' array holds in the end. -/
def endAt (A S0 : S64x8x128.Idx → EReal) (X : S64x32x128.Idx → EReal) (a : Fin 64) (s : Fin 8) (c : Fin 128) : EReal :=
  if h : a.val < 32 then (cellA A S0 X a.val h s c 4).1 else (cellA A S0 X (a.val - 32) (by omega) s c 4).2

/-- The cell depends on the inputs of its own two tiles alone. -/
theorem cellA_congr (A S0 : S64x8x128.Idx → EReal) (X Y : S64x32x128.Idx → EReal) (q : ℕ) (hq : q < 32) (s : Fin 8) (l : Fin 128) (n : ℕ)
    (h0 : ∀ b l, X (ix3 (⟨q, by omega⟩ : Fin 64) b l) = Y (ix3 (⟨q, by omega⟩ : Fin 64) b l))
    (h1 : ∀ b l, X (ix3 (⟨32 + q, by omega⟩ : Fin 64) b l) = Y (ix3 (⟨32 + q, by omega⟩ : Fin 64) b l)) :
    cellA A S0 X q hq s l n = cellA A S0 Y q hq s l n := by
  unfold cellA
  simp only [h0, h1]

/-- The eight loops one after another: the scratch after `n` of them. -/
theorem chain (A S0 : S64x8x128.Idx → EReal) (S : ℕ → T8 × List PX) (L : ℕ → List PX) (hL : ∀ n, L (n + 1) = (S n).2 ++ L n)
    (hs : ∀ n (h : n < 8), TileSpec A S0 (4 * n) (by omega) (S n) (L n)) (n : ℕ) (hn : n ≤ 8) (a : Fin 64) (b : Fin 32) (c : Fin 128) :
    View.canon (L n) (ix3 a b c) = if a.val % 32 < 4 * n then allAt A S0 (View.canon (L 0)) a b c else View.canon (L 0) (ix3 a b c) := by
  induction n generalizing a b c with
  | zero => rw [if_neg (by omega)]
  | succ n ih =>
    have sp := hs n (by omega)
    have hX : ∀ (j : Fin 4) (s : Fin 8) (l : Fin 128) (k : ℕ),
        cellA A S0 (View.canon (L n)) (4 * n + j.val) (by omega) s l k = cellA A S0 (View.canon (L 0)) (4 * n + j.val) (by omega) s l k := by
      intro j s l k
      have := j.isLt
      refine cellA_congr A S0 _ _ _ _ s l k (fun b l => ?_) (fun b l => ?_)
      · rw [ih (by omega), if_neg (by show ¬ (4 * n + j.val) % 32 < 4 * n; omega)]
      · rw [ih (by omega), if_neg (by show ¬ (32 + (4 * n + j.val)) % 32 < 4 * n; omega)]
    have ha := a.isLt
    have hb := b.isLt
    rw [hL]
    by_cases h1 : a.val % 32 < 4 * n
    · rw [sp.keep a b c (fun j => by have := j.isLt; omega), ih (by omega), if_pos h1, if_pos (by omega)]
    · by_cases h2 : a.val % 32 < 4 * (n + 1)
      · rw [if_pos h2]
        by_cases h3 : a.val < 32
        · have hw := sp.wr ⟨a.val - 4 * n, by omega⟩ ⟨b.val % 8, Nat.mod_lt _ (by decide)⟩ c (b.val / 8) (by omega)
          rw [hX, rowOf_eta] at hw
          have ea : (⟨4 * n + (a.val - 4 * n), by omega⟩ : Fin 64) = a := Fin.ext (by show 4 * n + (a.val - 4 * n) = a.val; omega)
          have en : 4 * n + (a.val - 4 * n) = a.val := by omega
          simp only [en] at hw
          unfold allAt
          rw [dif_pos h3]
          exact hw
        · have hw := sp.wi ⟨a.val - 32 - 4 * n, by omega⟩ ⟨b.val % 8, Nat.mod_lt _ (by decide)⟩ c (b.val / 8) (by omega)
          rw [hX, rowOf_eta] at hw
          have en : 4 * n + (a.val - 32 - 4 * n) = a.val - 32 := by omega
          have en' : 32 + (a.val - 32) = a.val := by omega
          simp only [en, en'] at hw
          unfold allAt
          rw [dif_neg h3]
          exact hw
      · rw [sp.keep a b c (fun j => by have := j.isLt; omega), ih (by omega), if_neg h1, if_neg h2]

/-- What loop `n` carries out, in terms of the scratch before the first loop. -/
theorem chain_carried (A S0 : S64x8x128.Idx → EReal) (S : ℕ → T8 × List PX) (L : ℕ → List PX) (hL : ∀ n, L (n + 1) = (S n).2 ++ L n)
    (hs : ∀ n (h : n < 8), TileSpec A S0 (4 * n) (by omega) (S n) (L n)) (n : ℕ) (hn : n < 8) (j : Fin 4) (s : Fin 8) (l : Fin 128) :
    re4 (S n).1 j (ix2 s l) = (cellA A S0 (View.canon (L 0)) (4 * n + j.val) (by omega) s l 4).1
      ∧ im4 (S n).1 j (ix2 s l) = (cellA A S0 (View.canon (L 0)) (4 * n + j.val) (by omega) s l 4).2 := by
  have sp := hs n hn
  have hX : cellA A S0 (View.canon (L n)) (4 * n + j.val) (by omega) s l 4 = cellA A S0 (View.canon (L 0)) (4 * n + j.val) (by omega) s l 4 := by
    have := j.isLt
    refine cellA_congr A S0 _ _ _ _ s l 4 (fun b l => ?_) (fun b l => ?_)
    · rw [chain A S0 S L hL hs n (by omega), if_neg (by show ¬ (4 * n + j.val) % 32 < 4 * n; omega)]
    · rw [chain A S0 S L hL hs n (by omega), if_neg (by show ¬ (32 + (4 * n + j.val)) % 32 < 4 * n; omega)]
  exact ⟨(sp.re j s l).trans (by rw [hX]), (sp.im j s l).trans (by rw [hX])⟩

/-- Eight things as a sequence. -/
def seq8 {α : Type} (x0 x1 x2 x3 x4 x5 x6 x7 : α) : ℕ → α
  | 0 => x0 | 1 => x1 | 2 => x2 | 3 => x3 | 4 => x4 | 5 => x5 | 6 => x6 | _ => x7

/-- The stores of the loops before loop `n`, last first. -/
def upTo (S : ℕ → T8 × List PX) (L0 : List PX) : ℕ → List PX
  | 0 => L0
  | n + 1 => (S n).2 ++ upTo S L0 n

/-- The rectangle of a whole tile holds a place exactly when its first coordinate says so. -/
theorem tile_mem (q : ℕ) (inb : ∀ a, (![q, 0, 0] : Fin 3 → ℕ) a + S1x8x128.size a ≤ S64x8x128.size a) (y : S64x8x128.Idx)
    (hm : y ∈ (Rect.unit (s := S64x8x128) ![q, 0, 0] S1x8x128.size inb).set) : (y 0).val = q := by
  obtain ⟨j0, g0, e0⟩ := (Rect.unit (s := S64x8x128) ![q, 0, 0] S1x8x128.size inb).mem_set.mp hm 0
  simp [Rect.unit] at g0 e0
  omega

theorem tile_emb (q : ℕ) (hq : q < 64) (inb : ∀ a, (![q, 0, 0] : Fin 3 → ℕ) a + S1x8x128.size a ≤ S64x8x128.size a) (s : Fin 8) (l : Fin 128) :
    (Rect.unit (s := S64x8x128) ![q, 0, 0] S1x8x128.size inb).emb (ix3 (0 : Fin 1) s l) = ix3 (⟨q, hq⟩ : Fin 64) s l :=
  Rect.emb_eq_of_coords _ _ _ fun x => by
    match x with
    | 0 => simp [Rect.unit]
    | 1 => simp [Rect.unit]
    | 2 => simp [Rect.unit]

/-- A tile just stored, read back. -/
theorem tile_hit (q : ℕ) (hq : q < 64) (inb : ∀ a, (![q, 0, 0] : Fin 3 → ℕ) a + S1x8x128.size a ≤ S64x8x128.size a) (w : S1x8x128.Idx → EReal) (L : List PT)
    (s : Fin 8) (l : Fin 128) :
    View.canon ((⟨Rect.unit (s := S64x8x128) ![q, 0, 0] S1x8x128.size inb, w⟩ : PT) :: L) (ix3 (⟨q, hq⟩ : Fin 64) s l) = w (ix3 (0 : Fin 1) s l) := by
  rw [← tile_emb q hq inb s l]
  exact View.canon_cons_emb (Val := Elt Ideal) (e := .f32) (Rect.unit (s := S64x8x128) ![q, 0, 0] S1x8x128.size inb) w L _

/-- A tile just stored does not touch another. -/
theorem tile_miss (q : ℕ) (inb : ∀ a, (![q, 0, 0] : Fin 3 → ℕ) a + S1x8x128.size a ≤ S64x8x128.size a) (w : S1x8x128.Idx → EReal) (L : List PT)
    (a : Fin 64) (s : Fin 8) (l : Fin 128) (h : a.val ≠ q) :
    View.canon ((⟨Rect.unit (s := S64x8x128) ![q, 0, 0] S1x8x128.size inb, w⟩ : PT) :: L) (ix3 a s l) = View.canon L (ix3 a s l) :=
  View.canon_cons_of_not_mem (Val := Elt Ideal) (e := .f32) (⟨Rect.unit (s := S64x8x128) ![q, 0, 0] S1x8x128.size inb, w⟩ : PT) L
    (y := ix3 a s l) fun hm => h (tile_mem q inb (ix3 a s l) hm)

/-- The places of the states' scratch that the stores so far have filled from `G`. -/
def Filled (G : Fin 64 → Fin 8 → Fin 128 → EReal) (D : Fin 64 → Prop) (L : List PT) : Prop :=
  ∀ a b c, D a → View.canon L (ix3 a b c) = G a b c

theorem filled_nil (G : Fin 64 → Fin 8 → Fin 128 → EReal) (L : List PT) : Filled G (fun _ => False) L := fun _ _ _ h => h.elim

/-- One more tile stored. -/
theorem filled_cons (G : Fin 64 → Fin 8 → Fin 128 → EReal) {D : Fin 64 → Prop} {L : List PT} (q : Fin 64) (n : ℕ) (hn : n = q.val)
    (inb : ∀ a, (![n, 0, 0] : Fin 3 → ℕ) a + S1x8x128.size a ≤ S64x8x128.size a) (w : Tile) (h : S1x8x128.numel = S8x128.numel)
    (hw : ∀ s l, w (ix2 s l) = G q s l) (hL : Filled G D L) :
    Filled G (fun a => a = q ∨ D a) (⟨Rect.unit (s := S64x8x128) ![n, 0, 0] S1x8x128.size inb, shapeCast S1x8x128 w h⟩ :: L) := by
  subst hn
  intro a b c ha
  by_cases he : a = q
  · subst he
    refine (tile_hit a.val a.isLt inb (shapeCast S1x8x128 w h) L b c).trans ?_
    rw [← hw]
    pointwise
  · refine (tile_miss q.val inb (shapeCast S1x8x128 w h) L a b c (fun e => he (Fin.ext e))).trans ?_
    exact hL a b c (ha.resolve_left he)

/-- A store of another tile does not touch a load of one tile. -/
theorem tile_skip {sig : RefSig} {κ : Kind} {sp : Space} (v : View sig κ sp S64x8x128 .f32) (q q' : ℕ) (hne : q' ≠ q)
    (inb : ∀ a, (![q, 0, 0] : Fin 3 → ℕ) a + S1x8x128.size a ≤ S64x8x128.size a)
    (inb' : ∀ a, (![q', 0, 0] : Fin 3 → ℕ) a + S1x8x128.size a ≤ S64x8x128.size a) (w : S1x8x128.Idx → EReal) (L : List PT) :
    v.readCov (⟨Rect.unit (s := S64x8x128) ![q', 0, 0] S1x8x128.size inb', w⟩ :: L) (Rect.unit (s := S64x8x128) ![q, 0, 0] S1x8x128.size inb).toLoadRect
      = v.readCov L (Rect.unit (s := S64x8x128) ![q, 0, 0] S1x8x128.size inb).toLoadRect := by
  refine View.readCov_cons_of_disjoint v _ L _ (Finset.disjoint_left.mpr fun y h1 h2 => hne ?_)
  rw [← tile_mem q' inb' y h1]
  exact tile_mem q inb y h2

theorem tile_inb (q : ℕ) (hq : q < 64) : ∀ a, (![q, 0, 0] : Fin 3 → ℕ) a + S1x8x128.size a ≤ S64x8x128.size a := by
  intro a
  match a with
  | 0 => simp [S1x8x128, S64x8x128]; omega
  | 1 => simp [S1x8x128, S64x8x128]
  | 2 => simp [S1x8x128, S64x8x128]

/-- The eight stores of the state's tiles after the loop over the tiles `q …`, last first. -/
def tilesOf (q : ℕ) (hq : q + 4 ≤ 32) (S : T8) (L : List PT) : List PT :=
  (⟨Rect.unit (s := S64x8x128) ![32 + (q + 3), 0, 0] S1x8x128.size (tile_inb _ (by omega)), shapeCast S1x8x128 S.2.2.2.2.2.2.2 shapeCasts_S8x128_S1x8x128⟩ : PT)
    :: (⟨Rect.unit (s := S64x8x128) ![q + 3, 0, 0] S1x8x128.size (tile_inb _ (by omega)), shapeCast S1x8x128 S.2.2.2.1 shapeCasts_S8x128_S1x8x128⟩ : PT)
    :: (⟨Rect.unit (s := S64x8x128) ![32 + (q + 2), 0, 0] S1x8x128.size (tile_inb _ (by omega)), shapeCast S1x8x128 S.2.2.2.2.2.2.1 shapeCasts_S8x128_S1x8x128⟩ : PT)
    :: (⟨Rect.unit (s := S64x8x128) ![q + 2, 0, 0] S1x8x128.size (tile_inb _ (by omega)), shapeCast S1x8x128 S.2.2.1 shapeCasts_S8x128_S1x8x128⟩ : PT)
    :: (⟨Rect.unit (s := S64x8x128) ![32 + (q + 1), 0, 0] S1x8x128.size (tile_inb _ (by omega)), shapeCast S1x8x128 S.2.2.2.2.2.1 shapeCasts_S8x128_S1x8x128⟩ : PT)
    :: (⟨Rect.unit (s := S64x8x128) ![q + 1, 0, 0] S1x8x128.size (tile_inb _ (by omega)), shapeCast S1x8x128 S.2.1 shapeCasts_S8x128_S1x8x128⟩ : PT)
    :: (⟨Rect.unit (s := S64x8x128) ![32 + (q + 0), 0, 0] S1x8x128.size (tile_inb _ (by omega)), shapeCast S1x8x128 S.2.2.2.2.1 shapeCasts_S8x128_S1x8x128⟩ : PT)
    :: (⟨Rect.unit (s := S64x8x128) ![q + 0, 0, 0] S1x8x128.size (tile_inb _ (by omega)), shapeCast S1x8x128 S.1 shapeCasts_S8x128_S1x8x128⟩ : PT) :: L

theorem filled_tiles (G : Fin 64 → Fin 8 → Fin 128 → EReal) (D : Fin 64 → Prop) (q : ℕ) (hq : q + 4 ≤ 32) (S : T8) (L : List PT)
    (hr : ∀ (j : Fin 4) s l, re4 S j (ix2 s l) = G ⟨q + j.val, by omega⟩ s l) (hi : ∀ (j : Fin 4) s l, im4 S j (ix2 s l) = G ⟨32 + (q + j.val), by omega⟩ s l)
    (hL : Filled G D L) : Filled G (fun a => (q ≤ a.val % 32 ∧ a.val % 32 < q + 4) ∨ D a) (tilesOf q hq S L) := by
  have h :=
    filled_cons G ⟨32 + (q + 3), by omega⟩ (32 + (q + 3)) rfl (tile_inb _ (by omega)) _ shapeCasts_S8x128_S1x8x128 (fun s l => (hi 3 s l)) <|
    filled_cons G ⟨q + 3, by omega⟩ (q + 3) rfl (tile_inb _ (by omega)) _ shapeCasts_S8x128_S1x8x128 (fun s l => (hr 3 s l)) <|
    filled_cons G ⟨32 + (q + 2), by omega⟩ (32 + (q + 2)) rfl (tile_inb _ (by omega)) _ shapeCasts_S8x128_S1x8x128 (fun s l => (hi 2 s l)) <|
    filled_cons G ⟨q + 2, by omega⟩ (q + 2) rfl (tile_inb _ (by omega)) _ shapeCasts_S8x128_S1x8x128 (fun s l => (hr 2 s l)) <|
    filled_cons G ⟨32 + (q + 1), by omega⟩ (32 + (q + 1)) rfl (tile_inb _ (by omega)) _ shapeCasts_S8x128_S1x8x128 (fun s l => (hi 1 s l)) <|
    filled_cons G ⟨q + 1, by omega⟩ (q + 1) rfl (tile_inb _ (by omega)) _ shapeCasts_S8x128_S1x8x128 (fun s l => (hr 1 s l)) <|
    filled_cons G ⟨32 + (q + 0), by omega⟩ (32 + (q + 0)) rfl (tile_inb _ (by omega)) _ shapeCasts_S8x128_S1x8x128 (fun s l => (hi 0 s l)) <|
    filled_cons G ⟨q + 0, by omega⟩ (q + 0) rfl (tile_inb _ (by omega)) _ shapeCasts_S8x128_S1x8x128 (fun s l => (hr 0 s l)) hL
  intro a b c ha
  refine h a b c ?_
  have := a.isLt
  rcases ha with ha | ha
  · simp only [Fin.ext_iff]
    omega
  · simp only [ha, or_true]

theorem tiles_skip (q : ℕ) (hq : q + 4 ≤ 32) (S : T8) (L : List PT) (a : Fin 64) (s : Fin 8) (l : Fin 128) (h : a.val % 32 < q ∨ q + 4 ≤ a.val % 32) :
    View.canon (tilesOf q hq S L) (ix3 a s l) = View.canon L (ix3 a s l) := by
  have := a.isLt
  unfold tilesOf
  refine (tile_miss _ _ _ _ a s l (by omega)).trans ?_
  refine (tile_miss _ _ _ _ a s l (by omega)).trans ?_
  refine (tile_miss _ _ _ _ a s l (by omega)).trans ?_
  refine (tile_miss _ _ _ _ a s l (by omega)).trans ?_
  refine (tile_miss _ _ _ _ a s l (by omega)).trans ?_
  refine (tile_miss _ _ _ _ a s l (by omega)).trans ?_
  refine (tile_miss _ _ _ _ a s l (by omega)).trans ?_
  refine (tile_miss _ _ _ _ a s l (by omega)).trans ?_
  rfl

/-- The states' scratch after the eight loops. -/
theorem states_end (A B : S64x8x128.Idx → EReal) (S0 S1 S2 S3 S4 S5 S6 S7 : T8 × List PX) (L0 : List PX) (T0 : List PT)
    (h0 : TileSpec A B 0 (by decide) S0 (L0))
    (h1 : TileSpec A B 4 (by decide) S1 (S0.2 ++ L0))
    (h2 : TileSpec A B 8 (by decide) S2 (S1.2 ++ (S0.2 ++ L0)))
    (h3 : TileSpec A B 12 (by decide) S3 (S2.2 ++ (S1.2 ++ (S0.2 ++ L0))))
    (h4 : TileSpec A B 16 (by decide) S4 (S3.2 ++ (S2.2 ++ (S1.2 ++ (S0.2 ++ L0)))))
    (h5 : TileSpec A B 20 (by decide) S5 (S4.2 ++ (S3.2 ++ (S2.2 ++ (S1.2 ++ (S0.2 ++ L0))))))
    (h6 : TileSpec A B 24 (by decide) S6 (S5.2 ++ (S4.2 ++ (S3.2 ++ (S2.2 ++ (S1.2 ++ (S0.2 ++ L0)))))))
    (h7 : TileSpec A B 28 (by decide) S7 (S6.2 ++ (S5.2 ++ (S4.2 ++ (S3.2 ++ (S2.2 ++ (S1.2 ++ (S0.2 ++ L0))))))))
    (a : Fin 64) (s : Fin 8) (l : Fin 128) :
    View.canon (tilesOf 28 (by decide) S7.1 (tilesOf 24 (by decide) S6.1 (tilesOf 20 (by decide) S5.1 (tilesOf 16 (by decide) S4.1 (tilesOf 12 (by decide) S3.1 (tilesOf 8 (by decide) S2.1 (tilesOf 4 (by decide) S1.1 (tilesOf 0 (by decide) S0.1 (T0))))))))) (ix3 a s l) = endAt A B (View.canon L0) a s l := by
  have hc := chain_carried A B (seq8 S0 S1 S2 S3 S4 S5 S6 S7) (upTo (seq8 S0 S1 S2 S3 S4 S5 S6 S7) L0) (fun n => rfl) (fun n hn => by
    match n, hn with
    | 0, _ => exact h0
    | 1, _ => exact h1
    | 2, _ => exact h2
    | 3, _ => exact h3
    | 4, _ => exact h4
    | 5, _ => exact h5
    | 6, _ => exact h6
    | 7, _ => exact h7)
  have hr : ∀ n (hn : n < 8) (j : Fin 4) s l, re4 (seq8 S0 S1 S2 S3 S4 S5 S6 S7 n).1 j (ix2 s l) = endAt A B (View.canon L0) ⟨4 * n + j.val, by omega⟩ s l := by
    intro n hn j s l
    have := j.isLt
    unfold endAt
    rw [dif_pos (show (4 * n + j.val) < 32 by omega)]
    exact (hc n hn j s l).1
  have hi : ∀ n (hn : n < 8) (j : Fin 4) s l, im4 (seq8 S0 S1 S2 S3 S4 S5 S6 S7 n).1 j (ix2 s l) = endAt A B (View.canon L0) ⟨32 + (4 * n + j.val), by omega⟩ s l := by
    intro n hn j s l
    have := j.isLt
    have e : 32 + (4 * n + j.val) - 32 = 4 * n + j.val := by omega
    unfold endAt
    rw [dif_neg (show ¬ (32 + (4 * n + j.val)) < 32 by omega)]
    simp only [e]
    exact (hc n hn j s l).2
  have h := filled_tiles (endAt A B (View.canon L0)) _ 28 (by decide) S7.1 _ (hr 7 (by decide)) (hi 7 (by decide)) <|
    filled_tiles _ _ 24 (by decide) S6.1 _ (hr 6 (by decide)) (hi 6 (by decide)) <|
    filled_tiles _ _ 20 (by decide) S5.1 _ (hr 5 (by decide)) (hi 5 (by decide)) <|
    filled_tiles _ _ 16 (by decide) S4.1 _ (hr 4 (by decide)) (hi 4 (by decide)) <|
    filled_tiles _ _ 12 (by decide) S3.1 _ (hr 3 (by decide)) (hi 3 (by decide)) <|
    filled_tiles _ _ 8 (by decide) S2.1 _ (hr 2 (by decide)) (hi 2 (by decide)) <|
    filled_tiles _ _ 4 (by decide) S1.1 _ (hr 1 (by decide)) (hi 1 (by decide)) <|
    filled_tiles _ _ 0 (by decide) S0.1 T0 (hr 0 (by decide)) (hi 0 (by decide)) (filled_nil _ T0)
  exact h a s l (by omega)

/-- The scratch of inputs after the eight loops. -/
theorem inputs_end (A B : S64x8x128.Idx → EReal) (S0 S1 S2 S3 S4 S5 S6 S7 : T8 × List PX) (L0 : List PX)
    (h0 : TileSpec A B 0 (by decide) S0 (L0))
    (h1 : TileSpec A B 4 (by decide) S1 (S0.2 ++ L0))
    (h2 : TileSpec A B 8 (by decide) S2 (S1.2 ++ (S0.2 ++ L0)))
    (h3 : TileSpec A B 12 (by decide) S3 (S2.2 ++ (S1.2 ++ (S0.2 ++ L0))))
    (h4 : TileSpec A B 16 (by decide) S4 (S3.2 ++ (S2.2 ++ (S1.2 ++ (S0.2 ++ L0)))))
    (h5 : TileSpec A B 20 (by decide) S5 (S4.2 ++ (S3.2 ++ (S2.2 ++ (S1.2 ++ (S0.2 ++ L0))))))
    (h6 : TileSpec A B 24 (by decide) S6 (S5.2 ++ (S4.2 ++ (S3.2 ++ (S2.2 ++ (S1.2 ++ (S0.2 ++ L0)))))))
    (h7 : TileSpec A B 28 (by decide) S7 (S6.2 ++ (S5.2 ++ (S4.2 ++ (S3.2 ++ (S2.2 ++ (S1.2 ++ (S0.2 ++ L0))))))))
    (a : Fin 64) (b : Fin 32) (l : Fin 128) :
    View.canon (S7.2 ++ (S6.2 ++ (S5.2 ++ (S4.2 ++ (S3.2 ++ (S2.2 ++ (S1.2 ++ (S0.2 ++ L0)))))))) (ix3 a b l) = allAt A B (View.canon L0) a b l := by
  have hc := chain A B (seq8 S0 S1 S2 S3 S4 S5 S6 S7) (upTo (seq8 S0 S1 S2 S3 S4 S5 S6 S7) L0) (fun n => rfl) (fun n hn => by
    match n, hn with
    | 0, _ => exact h0
    | 1, _ => exact h1
    | 2, _ => exact h2
    | 3, _ => exact h3
    | 4, _ => exact h4
    | 5, _ => exact h5
    | 6, _ => exact h6
    | 7, _ => exact h7) 8 (by decide) a b l
  rw [if_pos (by omega)] at hc
  exact hc

/-- A store of the whole states' array, read back. -/
theorem whole_hit {sig : RefSig} {κ : Kind} {sp : Space} (v : View sig κ sp S64x8x128 .f32) (f : v.ty.Contents (Elt Ideal))
    (inb : ∀ a, (![0, 0, 0] : Fin 3 → ℕ) a + S64x8x128.size a ≤ S64x8x128.size a) (w : S64x8x128.Idx → EReal) (L : List PT) (a : Fin 64) (s : Fin 8) (l : Fin 128) :
    v.read (Elt Ideal) (v.writes (Elt Ideal) f (⟨Rect.unit (s := S64x8x128) ![0, 0, 0] S64x8x128.size inb, w⟩ :: L)) (ix3 a s l) = w (ix3 a s l) :=
  View.read_writes_cons_hit v f (Rect.unit (s := S64x8x128) ![0, 0, 0] S64x8x128.size inb) w L (ix3 a s l) (ix3 a s l)
    (Rect.emb_eq_of_coords _ _ _ fun x => by
      match x with
      | 0 => simp [Rect.unit]
      | 1 => simp [Rect.unit]
      | 2 => simp [Rect.unit])

theorem whole_idx (inb : ∀ a, (![0, 0, 0] : Fin 3 → ℕ) a + S64x8x128.size a ≤ S64x8x128.size a) (a : Fin 64) (s : Fin 8) (l : Fin 128) :
    (Rect.unit (s := S64x8x128) ![0, 0, 0] S64x8x128.size inb).toLoadRect.idx (ix3 a s l) = ix3 a s l := by
  funext x; apply Fin.ext
  match x with
  | 0 => simp [Rect.unit, LoadRect.idx]
  | 1 => simp [Rect.unit, LoadRect.idx]
  | 2 => simp [Rect.unit, LoadRect.idx]

/-- A load of the whole states' scratch. -/
theorem whole_load {sig : RefSig} {κ : Kind} {sp : Space} (v : View sig κ sp S64x8x128 .f32) (L : List PT)
    (inb : ∀ a, (![0, 0, 0] : Fin 3 → ℕ) a + S64x8x128.size a ≤ S64x8x128.size a) (a : Fin 64) (s : Fin 8) (l : Fin 128) :
    v.readCov L (Rect.unit (s := S64x8x128) ![0, 0, 0] S64x8x128.size inb).toLoadRect (ix3 a s l) = View.canon L (ix3 a s l) := by
  rw [View.readCov_eq_canon']
  exact congrArg (View.canon L) (whole_idx inb a s l)

/-- A load of one tile of the states' scratch. -/
theorem tile_load {sig : RefSig} {κ : Kind} {sp : Space} (v : View sig κ sp S64x8x128 .f32) (L : List PT) (q : ℕ) (hq : q < 64)
    (inb : ∀ a, (![q, 0, 0] : Fin 3 → ℕ) a + S1x8x128.size a ≤ S64x8x128.size a) (h : S8x128.numel = S1x8x128.numel) (s : Fin 8) (l : Fin 128) :
    shapeCast S8x128 (v.readCov L (Rect.unit (s := S64x8x128) ![q, 0, 0] S1x8x128.size inb).toLoadRect) h (ix2 s l) = View.canon L (ix3 (⟨q, hq⟩ : Fin 64) s l) := by
  rw [View.readCov_eq_canon']
  refine (down_cast _ h s l).trans ?_
  exact congrArg (View.canon L) (tile_emb q hq inb s l)

/-- The states' scratch when only the states have been stored there. -/
theorem canon_fill (inb : ∀ a, (![0, 0, 0] : Fin 3 → ℕ) a + S64x8x128.size a ≤ S64x8x128.size a) (w : S64x8x128.Idx → EReal) (L : List PT) (a : Fin 64) (s : Fin 8) (l : Fin 128) :
    View.canon ((⟨Rect.unit (s := S64x8x128) ![0, 0, 0] S64x8x128.size inb, w⟩ : PT) :: L) (ix3 a s l) = w (ix3 a s l) := by
  have h := View.canon_cons_emb (Val := Elt Ideal) (e := .f32) (Rect.unit (s := S64x8x128) ![0, 0, 0] S64x8x128.size inb) w L (ix3 a s l)
  rwa [show (Rect.unit (s := S64x8x128) ![0, 0, 0] S64x8x128.size inb).emb (ix3 a s l) = ix3 a s l from whole_idx inb a s l] at h

/-- A tile of an input block, at an index. -/
theorem tile_block {sig : RefSig} {κ : Kind} {sp : Space} (v : View sig κ sp S64x8x128 .f32) (X : S64x8x128.Idx → EReal) (f : v.ty.Contents (Elt Ideal))
    (hf : v.read (Elt Ideal) f = X) (q : ℕ) (hq : q < 64)
    (inb : ∀ a, (![q, 0, 0] : Fin 3 → ℕ) a + S1x8x128.size a ≤ S64x8x128.size a) (h : S8x128.numel = S1x8x128.numel) (s : Fin 8) (l : Fin 128) :
    shapeCast S8x128 (v.readAt (Elt Ideal) (Rect.unit (s := S64x8x128) ![q, 0, 0] S1x8x128.size inb).toLoadRect f) h (ix2 s l) = X (ix3 (⟨q, hq⟩ : Fin 64) s l) := by
  subst hf
  rw [View.readAt_eq_ld]
  refine (down_cast _ h s l).trans ?_
  exact congrArg (v.read (Elt Ideal) f) (tile_emb q hq inb s l)

/-- The whole of an input block of states, at an index. -/
theorem whole_block {sig : RefSig} {κ : Kind} {sp : Space} (v : View sig κ sp S64x8x128 .f32) (X : S64x8x128.Idx → EReal) (f : v.ty.Contents (Elt Ideal))
    (hf : v.read (Elt Ideal) f = X) (inb : ∀ a, (![0, 0, 0] : Fin 3 → ℕ) a + S64x8x128.size a ≤ S64x8x128.size a) (a : Fin 64) (s : Fin 8) (l : Fin 128) :
    v.readAt (Elt Ideal) (Rect.unit (s := S64x8x128) ![0, 0, 0] S64x8x128.size inb).toLoadRect f (ix3 a s l) = X (ix3 a s l) := by
  subst hf
  rw [View.readAt_eq_ld]
  exact congrArg (v.read (Elt Ideal) f) (whole_idx inb a s l)

end Cert.SsmIdeal.Val
end
-- ==== Proof.SsmFill.lean ====
module
public import proofs.«01_k».proof.Proof.SsmOut
public import Idealize.ShloMosaic.Lib.Pointwise
@[expose] public section
set_option maxRecDepth 16384
noncomputable section
open Idealize.ShloMosaic Idealize.ShloMosaic.TcCoe Idealize.SL.Sem Idealize.ShloMosaic.Tactic
namespace Cert.SsmIdeal.Val
open Cert.SsmIdeal Cert.SsmIdeal.Gen

/-! What the products with the input matrix leave in the inputs' buffer. -/

/-- The column of a block's product at which the part of tile `q` begins: real parts first, then imaginary parts. -/
def lane (q : ℕ) : ℕ := if q < 32 then q % 4 * 128 else 512 + q % 4 * 128

theorem lane_lt (q : ℕ) (l : Fin 128) : lane q + l.val < 1024 := by
  unfold lane
  split <;> omega

/-- The tiles listed hold the given values. -/
def Fill (G : Fin 64 → Fin 32 → Fin 128 → EReal) (D : List ℕ) (L : List PX) : Prop :=
  ∀ a b l, a.val ∈ D → View.canon L (ix3 a b l) = G a b l

theorem fill_nil (G : Fin 64 → Fin 32 → Fin 128 → EReal) (L : List PX) : Fill G [] L := fun _ _ _ h => (List.not_mem_nil h).elim

theorem row_emb (q : ℕ) (hq : q < 64) (inb : ∀ a, (![q, 0, 0] : Fin 3 → ℕ) a + S1x32x128.size a ≤ S64x32x128.size a) (b : Fin 32) (l : Fin 128) :
    (Rect.unit (s := S64x32x128) ![q, 0, 0] S1x32x128.size inb).emb (ix3 (0 : Fin 1) b l) = ix3 (⟨q, hq⟩ : Fin 64) b l := by
  refine Rect.emb_eq_of_coords _ _ _ fun x => ?_
  match x with
  | 0 => simp [Rect.unit]
  | 1 => simp [Rect.unit]
  | 2 => simp [Rect.unit]

theorem row_mem (q : ℕ) (inb : ∀ a, (![q, 0, 0] : Fin 3 → ℕ) a + S1x32x128.size a ≤ S64x32x128.size a) (y : S64x32x128.Idx)
    (h : y ∈ (Rect.unit (s := S64x32x128) ![q, 0, 0] S1x32x128.size inb).set) : (y 0).val = q := by
  obtain ⟨j0, g0, e0⟩ := (Rect.unit (s := S64x32x128) ![q, 0, 0] S1x32x128.size inb).mem_set.mp h 0
  simp [Rect.unit] at g0 e0
  omega

/-- One more tile stored. -/
theorem fill_cons (G : Fin 64 → Fin 32 → Fin 128 → EReal) {D : List ℕ} {L : List PX} (q : ℕ) (hq : q < 64)
    (inb : ∀ a, (![q, 0, 0] : Fin 3 → ℕ) a + S1x32x128.size a ≤ S64x32x128.size a) (w : S1x32x128.Idx → EReal)
    (hw : ∀ b l, w (ix3 (0 : Fin 1) b l) = G ⟨q, hq⟩ b l) (hL : Fill G D L) :
    Fill G (q :: D) (⟨Rect.unit (s := S64x32x128) ![q, 0, 0] S1x32x128.size inb, w⟩ :: L) := by
  intro a b l ha
  by_cases he : a.val = q
  · obtain rfl : a = ⟨q, hq⟩ := Fin.ext he
    have h1 := View.canon_cons_emb (Val := Elt Ideal) (e := .f32) (Rect.unit (s := S64x32x128) ![q, 0, 0] S1x32x128.size inb) w L (ix3 (0 : Fin 1) b l)
    rw [row_emb q hq inb b l] at h1
    exact h1.trans (hw b l)
  · refine (View.canon_cons_of_not_mem (Val := Elt Ideal) (e := .f32) (⟨Rect.unit (s := S64x32x128) ![q, 0, 0] S1x32x128.size inb, w⟩ : PX) L
      fun hm => he (row_mem q inb (ix3 a b l) hm)).trans ?_
    exact hL a b l ((List.mem_cons.mp ha).resolve_left he)

/-- A block's product, at an index. -/
theorem prod_at (o : ℕ) (ho : o ≤ 896) (U : FVec Ideal S32x1024 .bf16) (W : FVec Ideal S1x128x1024 .bf16) (sl : S32x1024.Slices ![0, o] S32x128)
    (hc : S128x1024.numel = S1x128x1024.numel) (b : Fin 32) (j : Fin 1024) :
    matmul dot_S32x128_S128x1024_S32x1024_1_0_0_1_n_n none (extractStridedSlice S32x128 ![0, o] U sl) (shapeCast S128x1024 W hc)
      (constant S32x1024 .f32 0x00000000#32) (ix2 b j) = ∑ c : Fin 128, U (ix2 b (⟨o + c.val, by omega⟩ : Fin 1024)) * W (ix3 (0 : Fin 1) c j) := by
  pointwise

/-- The rows of the products: row `b` is time step `b / 8` of session `b % 8`. -/
def srcRow (b : Fin 32) : Fin 32 := ⟨b.val % 8 * 4 + b.val / 8, by omega⟩

/-- The mask that moves the rows is one where a row meets its source. -/
theorem mask_at (b k : Fin 32) : k0_pay119 (F := Ideal) (iota .tc S1x32 32 [1] iota_S1x32_d1_w32) k0_pay115 k0_pay116 k0_pay117 k0_pay118 (ix2 b k) = if k = srcRow b then 1 else 0 := by
  pointwise [k0_pay119, k0_pay115, k0_pay116, k0_pay117, k0_pay118]
  refine (congrArg (fun w : BitVec 1 => FloatOps.sitofp (F := Ideal) FTy.f32 (BitVec.setWidth 32 w)) (?_ : _ = if k = srcRow b then 1#1 else 0#1)).trans ?_
  · revert b k
    decide +kernel
  · split
    · show ((BitVec.toInt (BitVec.setWidth 32 1#1) : ℝ) : EReal) = 1
      rw [show BitVec.toInt (BitVec.setWidth 32 1#1) = 1 from rfl]
      simp
    · show ((BitVec.toInt (BitVec.setWidth 32 0#1) : ℝ) : EReal) = 0
      rw [show BitVec.toInt (BitVec.setWidth 32 0#1) = 0 from rfl]
      simp

/-- The rows moved. -/
theorem moved_at (u : FVec Ideal S32x1024 .f32) (M : FVec Ideal S32x32 .bf16) (hM : ∀ b k, M (ix2 b k) = if k = srcRow b then 1 else 0) (b : Fin 32) (i : Fin 1024) :
    k0_pay125 (F := Ideal) u M (ix2 b i) = u (ix2 (srcRow b) i) := by
  pointwise [k0_pay125, hM]
  rw [Finset.sum_eq_single (srcRow b)]
  · simp
  · intro k _ hk
    simp [hk]
  · simp

/-- A block of the input matrix, at an index. -/
theorem wb_at {sig : RefSig} {κ : Kind} {sp : Space} (v : View sig κ sp S8x128x1024 .bf16) (X : S8x128x1024.Idx → EReal) (f : v.ty.Contents (Elt Ideal))
    (hf : v.read (Elt Ideal) f = X) (n : ℕ) (hn : n < 8)
    (inb : ∀ a, (![n, 0, 0] : Fin 3 → ℕ) a + S1x128x1024.size a ≤ S8x128x1024.size a) (k : Fin 128) (j : Fin 1024) :
    v.readAt (Elt Ideal) (Rect.unit (s := S8x128x1024) ![n, 0, 0] S1x128x1024.size inb).toLoadRect f (ix3 (0 : Fin 1) k j) = X (ix3 (⟨n, hn⟩ : Fin 8) k j) := by
  subst hf
  rw [View.readAt_eq_ld]
  refine congrArg (v.read (Elt Ideal) f) (Rect.emb_eq_of_coords _ _ _ fun x => ?_)
  match x with
  | 0 => simp [Rect.unit]
  | 1 => simp [Rect.unit]
  | 2 => simp [Rect.unit]

/-- The whole of the input block, at an index. -/
theorem u_at {sig : RefSig} {κ : Kind} {sp : Space} (v : View sig κ sp S32x1024 .f32) (X : S32x1024.Idx → EReal) (f : v.ty.Contents (Elt Ideal))
    (hf : v.read (Elt Ideal) f = X)
    (inb : ∀ a, (![0, 0] : Fin 2 → ℕ) a + S32x1024.size a ≤ S32x1024.size a) (b : Fin 32) (j : Fin 1024) :
    v.readAt (Elt Ideal) (Rect.unit (s := S32x1024) ![0, 0] S32x1024.size inb).toLoadRect f (ix2 b j) = X (ix2 b j) := by
  subst hf
  rw [View.readAt_eq_ld]
  refine congrArg (v.read (Elt Ideal) f) (Rect.emb_eq_of_coords _ _ _ fun x => ?_)
  match x with
  | 0 => simp [Rect.unit]
  | 1 => simp [Rect.unit]

/-- The inputs the products leave: tile `q`, row `b`, lane `l`, of the input block `u` and the input matrix `wb`. -/
def inp (u : S32x1024.Idx → EReal) (wb : S8x128x1024.Idx → EReal) (q : Fin 64) (b : Fin 32) (l : Fin 128) : EReal :=
  ∑ c : Fin 128, u (ix2 (srcRow b) (⟨q.val % 32 / 4 * 128 + c.val, by omega⟩ : Fin 1024)) * wb (ix3 (⟨q.val % 32 / 4, by omega⟩ : Fin 8) c ⟨lane q.val + l.val, lane_lt _ _⟩)

/-- A block's product holds the inputs of its tiles: what the kernel stores of it into tile `q`. -/
theorem part_at (u : S32x1024.Idx → EReal) (wb : S8x128x1024.Idx → EReal) (n : ℕ) (hn : n < 8) (U : FVec Ideal S32x1024 .bf16) (W : FVec Ideal S1x128x1024 .bf16)
    (hU : ∀ b i, U (ix2 b i) = u (ix2 (srcRow b) i)) (hW : ∀ k j, W (ix3 (0 : Fin 1) k j) = wb (ix3 (⟨n, hn⟩ : Fin 8) k j))
    (o : ℕ) (ho : o = n * 128) (sl : S32x1024.Slices ![0, o] S32x128) (hc : S128x1024.numel = S1x128x1024.numel)
    (q : ℕ) (hq : q < 64) (f : ℕ) (hf : q % 32 / 4 = n ∧ lane q = f) (sl' : S32x1024.Slices ![0, f] S32x128) (sc : S1x32x128.numel = S32x128.numel) (b : Fin 32) (l : Fin 128) :
    shapeCast S1x32x128 (extractStridedSlice S32x128 ![0, f] (matmul dot_S32x128_S128x1024_S32x1024_1_0_0_1_n_n none (extractStridedSlice S32x128 ![0, o] U sl) (shapeCast S128x1024 W hc)
      (constant S32x1024 .f32 0x00000000#32)) sl') sc (ix3 (0 : Fin 1) b l) = inp u wb ⟨q, hq⟩ b l := by
  obtain ⟨h1, h2⟩ := hf
  subst h2
  have hp := prod_at o (by omega) U W sl hc b ⟨lane q + l.val, lane_lt _ _⟩
  revert hp
  generalize matmul dot_S32x128_S128x1024_S32x1024_1_0_0_1_n_n none (extractStridedSlice S32x128 ![0, o] U sl) (shapeCast S128x1024 W hc) (constant S32x1024 .f32 0x00000000#32) = P
  intro hp
  refine Eq.trans ?_ (hp.trans (Finset.sum_congr rfl fun c _ => ?_))
  · pointwise
  · subst h1
    subst ho
    rw [hU, hW]

end Cert.SsmIdeal.Val
end
-- ==== Proof.SsmState.lean ====
module
public import proofs.«01_k».proof.Proof.SsmFill
@[expose] public section
set_option maxRecDepth 16384
noncomputable section
open Idealize.ShloMosaic Idealize.ShloMosaic.TcCoe Idealize.SL.Sem Idealize.ShloMosaic.Tactic
namespace Cert.SsmIdeal.Val
open Cert.SsmIdeal Cert.SsmIdeal.Gen
variable (m : (ℓ : Loc nD τ sig) → Buf (Elt Ideal) ℓ)

theorem states_in (c : Dev nD) (t : Fin cfg0.N) (inb : ∀ a, (![0, 0, 0] : Fin 3 → ℕ) a + S64x8x128.size a ≤ S64x8x128.size a) (h h' : S64x8x128.numel = S64x8x128.numel)
    (a : Fin 64) (s : Fin 8) (l : Fin 128) :
    shapeCast S64x8x128 (shapeCast S64x8x128 ((ms0_2 t).view.readAt (Elt Ideal) (Rect.unit (s := S64x8x128) ![0, 0, 0] S64x8x128.size inb).toLoadRect
      ((hs0_2 t).unread (iblk m c 2 t))) h) h' (ix3 a s l) = iblk m c 2 t (ix3 a s l) := by
  rw [shapeCast_self]
  refine (congrFun (shapeCast_self _ _) _).trans ?_
  exact whole_block (ms0_2 t).view (iblk m c 2 t) _ (Memref.IsWhole.read_unread _ _) inb a s l

/-- Everything in the inputs' buffer, from the list of its tiles. -/
theorem all_inputs (G : Fin 64 → Fin 32 → Fin 128 → EReal) (L : List PX) {D : List ℕ} (h : Fill G D L) (hD : ∀ a : Fin 64, a.val ∈ D) (j : S64x32x128.Idx) :
    View.canon L j = G (j 0) (j 1) (j 2) := by
  idx_vars j
  exact h _ _ _ (hD _)

/-- Equal inputs leave equal states. -/
theorem endAt_congr (A S0 : S64x8x128.Idx → EReal) (X Y : S64x32x128.Idx → EReal) (h : ∀ j, X j = Y j) (a : Fin 64) (s : Fin 8) (l : Fin 128) :
    endAt A S0 X a s l = endAt A S0 Y a s l := by
  rw [show X = Y from funext h]

/-- The input block with its rows moved, at an index. -/
theorem moved (c : Dev nD) (t : Fin cfg0.N) (inb : ∀ a, (![0, 0] : Fin 2 → ℕ) a + S32x1024.size a ≤ S32x1024.size a) (b : Fin 32) (i : Fin 1024) :
    k0_pay125 (F := Ideal) ((ms0_0 t).view.readAt (Elt Ideal) (Rect.unit (s := S32x1024) ![0, 0] S32x1024.size inb).toLoadRect ((hs0_0 t).unread (iblk m c 0 t)))
      (k0_pay119 (F := Ideal) (iota .tc S1x32 32 [1] iota_S1x32_d1_w32) k0_pay115 k0_pay116 k0_pay117 k0_pay118) (ix2 b i) = iblk m c 0 t (ix2 (srcRow b) i) :=
  (moved_at _ _ mask_at b i).trans (u_at (ms0_0 t).view (iblk m c 0 t) _ (Memref.IsWhole.read_unread _ _) inb (srcRow b) i)

/-- What the kernel stores into tile `q` of the inputs' buffer. -/
theorem part (c : Dev nD) (t : Fin cfg0.N) (inb : ∀ a, (![0, 0] : Fin 2 → ℕ) a + S32x1024.size a ≤ S32x1024.size a) (n : ℕ) (hn : n < 8)
    (inb' : ∀ a, (![n, 0, 0] : Fin 3 → ℕ) a + S1x128x1024.size a ≤ S8x128x1024.size a)
    (o : ℕ) (ho : o = n * 128) (sl : S32x1024.Slices ![0, o] S32x128) (hc : S128x1024.numel = S1x128x1024.numel)
    (q : ℕ) (hq : q < 64) (f : ℕ) (hf : q % 32 / 4 = n ∧ lane q = f) (sl' : S32x1024.Slices ![0, f] S32x128) (sc : S1x32x128.numel = S32x128.numel) (b : Fin 32) (l : Fin 128) :
    shapeCast S1x32x128 (extractStridedSlice S32x128 ![0, f] (matmul (φ₁ := .bf16) (φ₂ := .bf16) dot_S32x128_S128x1024_S32x1024_1_0_0_1_n_n none (extractStridedSlice S32x128 ![0, o]
      (k0_pay125 (F := Ideal) ((ms0_0 t).view.readAt (Elt Ideal) (Rect.unit (s := S32x1024) ![0, 0] S32x1024.size inb).toLoadRect ((hs0_0 t).unread (iblk m c 0 t)))
        (k0_pay119 (F := Ideal) (iota .tc S1x32 32 [1] iota_S1x32_d1_w32) k0_pay115 k0_pay116 k0_pay117 k0_pay118)) sl)
      (shapeCast (α := Ideal .bf16) S128x1024 ((ms0_4 t).view.readAt (Elt Ideal) (Rect.unit (s := S8x128x1024) ![n, 0, 0] S1x128x1024.size inb').toLoadRect ((hs0_4 t).unread (iblk m c 4 t))) hc)
      (constant S32x1024 .f32 0x00000000#32)) sl') sc (ix3 (0 : Fin 1) b l) = inp (iblk m c 0 t) (iblk m c 4 t) ⟨q, hq⟩ b l :=
  part_at (iblk m c 0 t) (iblk m c 4 t) n hn _ _ (moved m c t inb)
    (fun k j => wb_at (ms0_4 t).view (iblk m c 4 t) _ (Memref.IsWhole.read_unread _ _) n hn inb' k j) o ho sl hc q hq f hf sl' sc b l

set_option maxHeartbeats 1600000 in
/-- The states' array after the only grid point. -/
theorem x9 (c : Dev nD) (t : Fin cfg0.N) (a : Fin 64) (s : Fin 8) (l : Fin 128) :
  ((dats m 0 c).after 9 t : S64x8x128.Idx → EReal) (ix3 a s l) = endAt (iblk m c 3 t) (iblk m c 2 t) (fun j => inp (iblk m c 0 t) (iblk m c 4 t) (j 0) (j 1) (j 2)) a s l := by
  rw [after0_9]; unfold outsAt0 out0_A_9; frame_open
  refine (whole_hit VO0_9 _ _ _ _ a s l).trans ?_
  refine (whole_load _ _ _ a s l).trans ?_
  refine' (states_end (iblk m c 3 t) (iblk m c 2 t) _ _ _ _ _ _ _ _ _ _ ?_ ?_ ?_ ?_ ?_ ?_ ?_ ?_ a s l).trans ?_
  case refine'_2 =>
    refine' tileSpec_of_tiles scM0_0.view _ _ _ _ _ _ _ _ _ _ _ _ _ _ _ _ _ _ _ _ _ _ _ (loop1_spec _ _ _ _ _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 0 (by decide) _ _ s l
    case ha1 => exact fun s l => tile_block (ms0_3 t).view (iblk m c 3 t) _ (Memref.IsWhole.read_unread _ _) 1 (by decide) _ _ s l
    case ha2 => exact fun s l => tile_block (ms0_3 t).view (iblk m c 3 t) _ (Memref.IsWhole.read_unread _ _) 2 (by decide) _ _ s l
    case ha3 => exact fun s l => tile_block (ms0_3 t).view (iblk m c 3 t) _ (Memref.IsWhole.read_unread _ _) 3 (by decide) _ _ s l
    case hb0 => exact fun s l => tile_block (ms0_3 t).view (iblk m c 3 t) _ (Memref.IsWhole.read_unread _ _) 32 (by decide) _ _ s l
    case hb1 => exact fun s l => tile_block (ms0_3 t).view (iblk m c 3 t) _ (Memref.IsWhole.read_unread _ _) 33 (by decide) _ _ s l
    case hb2 => exact fun s l => tile_block (ms0_3 t).view (iblk m c 3 t) _ (Memref.IsWhole.read_unread _ _) 34 (by decide) _ _ s l
    case hb3 => exact fun s l => tile_block (ms0_3 t).view (iblk m c 3 t) _ (Memref.IsWhole.read_unread _ _) 35 (by decide) _ _ s l
    case hr0 =>
      intro s l
      refine (tile_load scM0_1.view _ 0 (by decide) _ _ s l).trans ?_
      exact (canon_fill _ _ _ _ s l).trans (states_in m c t _ _ _ _ s l)
    case hr1 =>
      intro s l
      refine (tile_load scM0_1.view _ 1 (by decide) _ _ s l).trans ?_
      exact (canon_fill _ _ _ _ s l).trans (states_in m c t _ _ _ _ s l)
    case hr2 =>
      intro s l
      refine (tile_load scM0_1.view _ 2 (by decide) _ _ s l).trans ?_
      exact (canon_fill _ _ _ _ s l).trans (states_in m c t _ _ _ _ s l)
    case hr3 =>
      intro s l
      refine (tile_load scM0_1.view _ 3 (by decide) _ _ s l).trans ?_
      exact (canon_fill _ _ _ _ s l).trans (states_in m c t _ _ _ _ s l)
    case hi0 =>
      intro s l
      refine (tile_load scM0_1.view _ 32 (by decide) _ _ s l).trans ?_
      exact (canon_fill _ _ _ _ s l).trans (states_in m c t _ _ _ _ s l)
    case hi1 =>
      intro s l
      refine (tile_load scM0_1.view _ 33 (by decide) _ _ s l).trans ?_
      exact (canon_fill _ _ _ _ s l).trans (states_in m c t _ _ _ _ s l)
    case hi2 =>
      intro s l
      refine (tile_load scM0_1.view _ 34 (by decide) _ _ s l).trans ?_
      exact (canon_fill _ _ _ _ s l).trans (states_in m c t _ _ _ _ s l)
    case hi3 =>
      intro s l
      refine (tile_load scM0_1.view _ 35 (by decide) _ _ s l).trans ?_
      exact (canon_fill _ _ _ _ s l).trans (states_in m c t _ _ _ _ s l)
  case refine'_3 =>
    refine' tileSpec_of_tiles scM0_0.view _ _ _ _ _ _ _ _ _ _ _ _ _ _ _ _ _ _ _ _ _ _ _ (loop2_spec _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 4 (by decide) _ _ s l
    case ha1 => exact fun s l => tile_block (ms0_3 t).view (iblk m c 3 t) _ (Memref.IsWhole.read_unread _ _) 5 (by decide) _ _ s l
    case ha2 => exact fun s l => tile_block (ms0_3 t).view (iblk m c 3 t) _ (Memref.IsWhole.read_unread _ _) 6 (by decide) _ _ s l
    case ha3 => exact fun s l => tile_block (ms0_3 t).view (iblk m c 3 t) _ (Memref.IsWhole.read_unread _ _) 7 (by decide) _ _ s l
    case hb0 => exact fun s l => tile_block (ms0_3 t).view (iblk m c 3 t) _ (Memref.IsWhole.read_unread _ _) 36 (by decide) _ _ s l
    case hb1 => exact fun s l => tile_block (ms0_3 t).view (iblk m c 3 t) _ (Memref.IsWhole.read_unread _ _) 37 (by decide) _ _ s l
    case hb2 => exact fun s l => tile_block (ms0_3 t).view (iblk m c 3 t) _ (Memref.IsWhole.read_unread _ _) 38 (by decide) _ _ s l
    case hb3 => exact fun s l => tile_block (ms0_3 t).view (iblk m c 3 t) _ (Memref.IsWhole.read_unread _ _) 39 (by decide) _ _ s l
    case hr0 =>
      intro s l
      refine (tile_load scM0_1.view _ 4 (by decide) _ _ s l).trans ?_
      refine (tiles_skip 0 (by decide) _ _ _ s l (by decide)).trans ?_
      exact (canon_fill _ _ _ _ s l).trans (states_in m c t _ _ _ _ s l)
    case hr1 =>
      intro s l
      refine (tile_load scM0_1.view _ 5 (by decide) _ _ s l).trans ?_
      refine (tiles_skip 0 (by decide) _ _ _ s l (by decide)).trans ?_
      exact (canon_fill _ _ _ _ s l).trans (states_in m c t _ _ _ _ s l)
    case hr2 =>
      intro s l
      refine (tile_load scM0_1.view _ 6 (by decide) _ _ s l).trans ?_
      refine (tiles_skip 0 (by decide) _ _ _ s l (by decide)).trans ?_
      exact (canon_fill _ _ _ _ s l).trans (states_in m c t _ _ _ _ s l)
    case hr3 =>
      intro s l
      refine (tile_load scM0_1.view _ 7 (by decide) _ _ s l).trans ?_
      refine (tiles_skip 0 (by decide) _ _ _ s l (by decide)).trans ?_
      exact (canon_fill _ _ _ _ s l).trans (states_in m c t _ _ _ _ s l)
    case hi0 =>
      intro s l
      refine (tile_load scM0_1.view _ 36 (by decide) _ _ s l).trans ?_
      refine (tiles_skip 0 (by decide) _ _ _ s l (by decide)).trans ?_
      exact (canon_fill _ _ _ _ s l).trans (states_in m c t _ _ _ _ s l)
    case hi1 =>
      intro s l
      refine (tile_load scM0_1.view _ 37 (by decide) _ _ s l).trans ?_
      refine (tiles_skip 0 (by decide) _ _ _ s l (by decide)).trans ?_
      exact (canon_fill _ _ _ _ s l).trans (states_in m c t _ _ _ _ s l)
    case hi2 =>
      intro s l
      refine (tile_load scM0_1.view _ 38 (by decide) _ _ s l).trans ?_
      refine (tiles_skip 0 (by decide) _ _ _ s l (by decide)).trans ?_
      exact (canon_fill _ _ _ _ s l).trans (states_in m c t _ _ _ _ s l)
    case hi3 =>
      intro s l
      refine (tile_load scM0_1.view _ 39 (by decide) _ _ s l).trans ?_
      refine (tiles_skip 0 (by decide) _ _ _ s l (by decide)).trans ?_
      exact (canon_fill _ _ _ _ s l).trans (states_in m c t _ _ _ _ s l)
  case refine'_4 =>
    refine' tileSpec_of_tiles scM0_0.view _ _ _ _ _ _ _ _ _ _ _ _ _ _ _ _ _ _ _ _ _ _ _ (loop3_spec _ _ _ _ _ _ _ _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 8 (by decide) _ _ s l
    case ha1 => exact fun s l => tile_block (ms0_3 t).view (iblk m c 3 t) _ (Memref.IsWhole.read_unread _ _) 9 (by decide) _ _ s l
    case ha2 => exact fun s l => tile_block (ms0_3 t).view (iblk m c 3 t) _ (Memref.IsWhole.read_unread _ _) 10 (by decide) _ _ s l
    case ha3 => exact fun s l => tile_block (ms0_3 t).view (iblk m c 3 t) _ (Memref.IsWhole.read_unread _ _) 11 (by decide) _ _ s l
    case hb0 => exact fun s l => tile_block (ms0_3 t).view (iblk m c 3 t) _ (Memref.IsWhole.read_unread _ _) 40 (by decide) _ _ s l
    case hb1 => exact fun s l => tile_block (ms0_3 t).view (iblk m c 3 t) _ (Memref.IsWhole.read_unread _ _) 41 (by decide) _ _ s l
    case hb2 => exact fun s l => tile_block (ms0_3 t).view (iblk m c 3 t) _ (Memref.IsWhole.read_unread _ _) 42 (by decide) _ _ s l
    case hb3 => exact fun s l => tile_block (ms0_3 t).view (iblk m c 3 t) _ (Memref.IsWhole.read_unread _ _) 43 (by decide) _ _ s l
    case hr0 =>
      intro s l
      refine (tile_load scM0_1.view _ 8 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 9 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 10 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 11 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 40 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 41 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 42 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 43 (by decide) _ _ s l).trans ?_
      refine (tiles_skip 4 (by decide) _ _ _ s l (by decide)).trans ?_
      refine (tiles_skip 0 (by decide) _ _ _ s l (by decide)).trans ?_
      exact (canon_fill _ _ _ _ s l).trans (states_in m c t _ _ _ _ s l)
  case refine'_5 =>
    refine' tileSpec_of_tiles scM0_0.view _ _ _ _ _ _ _ _ _ _ _ _ _ _ _ _ _ _ _ _ _ _ _ (loop4_spec _ _ _ _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 12 (by decide) _ _ s l
    case ha1 => exact fun s l => tile_block (ms0_3 t).view (iblk m c 3 t) _ (Memref.IsWhole.read_unread _ _) 13 (by decide) _ _ s l
    case ha2 => exact fun s l => tile_block (ms0_3 t).view (iblk m c 3 t) _ (Memref.IsWhole.read_unread _ _) 14 (by decide) _ _ s l
    case ha3 => exact fun s l => tile_block (ms0_3 t).view (iblk m c 3 t) _ (Memref.IsWhole.read_unread _ _) 15 (by decide) _ _ s l
    case hb0 => exact fun s l => tile_block (ms0_3 t).view (iblk m c 3 t) _ (Memref.IsWhole.read_unread _ _) 44 (by decide) _ _ s l
    case hb1 => exact fun s l => tile_block (ms0_3 t).view (iblk m c 3 t) _ (Memref.IsWhole.read_unread _ _) 45 (by decide) _ _ s l
    case hb2 => exact fun s l => tile_block (ms0_3 t).view (iblk m c 3 t) _ (Memref.IsWhole.read_unread _ _) 46 (by decide) _ _ s l
    case hb3 => exact fun s l => tile_block (ms0_3 t).view (iblk m c 3 t) _ (Memref.IsWhole.read_unread _ _) 47 (by decide) _ _ s l
    case hr0 =>
      intro s l
      refine (tile_load scM0_1.view _ 12 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 13 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 14 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 15 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 44 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 45 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 46 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 47 (by decide) _ _ s l).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
  case refine'_6 =>
    refine' tileSpec_of_tiles scM0_0.view _ _ _ _ _ _ _ _ _ _ _ _ _ _ _ _ _ _ _ _ _ _ _ (loop5_spec _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 16 (by decide) _ _ s l
    case ha1 => exact fun s l => tile_block (ms0_3 t).view (iblk m c 3 t) _ (Memref.IsWhole.read_unread _ _) 17 (by decide) _ _ s l
    case ha2 => exact fun s l => tile_block (ms0_3 t).view (iblk m c 3 t) _ (Memref.IsWhole.read_unread _ _) 18 (by decide) _ _ s l
    case ha3 => exact fun s l => tile_block (ms0_3 t).view (iblk m c 3 t) _ (Memref.IsWhole.read_unread _ _) 19 (by decide) _ _ s l
    case hb0 => exact fun s l => tile_block (ms0_3 t).view (iblk m c 3 t) _ (Memref.IsWhole.read_unread _ _) 48 (by decide) _ _ s l
    case hb1 => exact fun s l => tile_block (ms0_3 t).view (iblk m c 3 t) _ (Memref.IsWhole.read_unread _ _) 49 (by decide) _ _ s l
    case hb2 => exact fun s l => tile_block (ms0_3 t).view (iblk m c 3 t) _ (Memref.IsWhole.read_unread _ _) 50 (by decide) _ _ s l
    case hb3 => exact fun s l => tile_block (ms0_3 t).view (iblk m c 3 t) _ (Memref.IsWhole.read_unread _ _) 51 (by decide) _ _ s l
    case hr0 =>
      intro s l
      refine (tile_load scM0_1.view _ 16 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 17 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 18 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 19 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 48 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 49 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 50 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 51 (by decide) _ _ s l).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
  case refine'_7 =>
    refine' tileSpec_of_tiles scM0_0.view _ _ _ _ _ _ _ _ _ _ _ _ _ _ _ _ _ _ _ _ _ _ _ (loop6_spec _ _ _ _ _ _ _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 20 (by decide) _ _ s l
    case ha1 => exact fun s l => tile_block (ms0_3 t).view (iblk m c 3 t) _ (Memref.IsWhole.read_unread _ _) 21 (by decide) _ _ s l
    case ha2 => exact fun s l => tile_block (ms0_3 t).view (iblk m c 3 t) _ (Memref.IsWhole.read_unread _ _) 22 (by decide) _ _ s l
    case ha3 => exact fun s l => tile_block (ms0_3 t).view (iblk m c 3 t) _ (Memref.IsWhole.read_unread _ _) 23 (by decide) _ _ s l
    case hb0 => exact fun s l => tile_block (ms0_3 t).view (iblk m c 3 t) _ (Memref.IsWhole.read_unread _ _) 52 (by decide) _ _ s l
    case hb1 => exact fun s l => tile_block (ms0_3 t).view (iblk m c 3 t) _ (Memref.IsWhole.read_unread _ _) 53 (by decide) _ _ s l
    case hb2 => exact fun s l => tile_block (ms0_3 t).view (iblk m c 3 t) _ (Memref.IsWhole.read_unread _ _) 54 (by decide) _ _ s l
    case hb3 => exact fun s l => tile_block (ms0_3 t).view (iblk m c 3 t) _ (Memref.IsWhole.read_unread _ _) 55 (by decide) _ _ s l
    case hr0 =>
      intro s l
      refine (tile_load scM0_1.view _ 20 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 21 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 22 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 23 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 52 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 53 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 54 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 55 (by decide) _ _ s l).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
  case refine'_8 =>
    refine' tileSpec_of_tiles scM0_0.view _ _ _ _ _ _ _ _ _ _ _ _ _ _ _ _ _ _ _ _ _ _ _ (loop7_spec _ _ _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 24 (by decide) _ _ s l
    case ha1 => exact fun s l => tile_block (ms0_3 t).view (iblk m c 3 t) _ (Memref.IsWhole.read_unread _ _) 25 (by decide) _ _ s l
    case ha2 => exact fun s l => tile_block (ms0_3 t).view (iblk m c 3 t) _ (Memref.IsWhole.read_unread _ _) 26 (by decide) _ _ s l
    case ha3 => exact fun s l => tile_block (ms0_3 t).view (iblk m c 3 t) _ (Memref.IsWhole.read_unread _ _) 27 (by decide) _ _ s l
    case hb0 => exact fun s l => tile_block (ms0_3 t).view (iblk m c 3 t) _ (Memref.IsWhole.read_unread _ _) 56 (by decide) _ _ s l
    case hb1 => exact fun s l => tile_block (ms0_3 t).view (iblk m c 3 t) _ (Memref.IsWhole.read_unread _ _) 57 (by decide) _ _ s l
    case hb2 => exact fun s l => tile_block (ms0_3 t).view (iblk m c 3 t) _ (Memref.IsWhole.read_unread _ _) 58 (by decide) _ _ s l
    case hb3 => exact fun s l => tile_block (ms0_3 t).view (iblk m c 3 t) _ (Memref.IsWhole.read_unread _ _) 59 (by decide) _ _ s l
    case hr0 =>
      intro s l
      refine (tile_load scM0_1.view _ 24 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 25 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 26 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 27 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 56 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 57 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 58 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 59 (by decide) _ _ s l).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
  case refine'_9 =>
    refine' tileSpec_of_tiles scM0_0.view _ _ _ _ _ _ _ _ _ _ _ _ _ _ _ _ _ _ _ _ _ _ _ (loop8_spec _ _ _ _ _ _ _ _ _ _ _ _ _ _ _ _ _ _ _ _ _ _ _ _ _ _ _ _ _ _ _ _ _ _ _ _ _ _) ?hG ?ha0 ?ha1 ?ha2 ?ha3 ?hb0 ?hb1 ?hb2 ?hb3 ?hr0 ?hr1 ?hr2 ?hr3 ?hi0 ?hi1 ?hi2 ?hi3
    case hG => rfl
    case ha0 => exact fun s l => tile_block (ms0_3 t).view (iblk m c 3 t) _ (Memref.IsWhole.read_unread _ _) 28 (by decide) _ _ s l
    case ha1 => exact fun s l => tile_block (ms0_3 t).view (iblk m c 3 t) _ (Memref.IsWhole.read_unread _ _) 29 (by decide) _ _ s l
    case ha2 => exact fun s l => tile_block (ms0_3 t).view (iblk m c 3 t) _ (Memref.IsWhole.read_unread _ _) 30 (by decide) _ _ s l
    case ha3 => exact fun s l => tile_block (ms0_3 t).view (iblk m c 3 t) _ (Memref.IsWhole.read_unread _ _) 31 (by decide) _ _ s l
    case hb0 => exact fun s l => tile_block (ms0_3 t).view (iblk m c 3 t) _ (Memref.IsWhole.read_unread _ _) 60 (by decide) _ _ s l
    case hb1 => exact fun s l => tile_block (ms0_3 t).view (iblk m c 3 t) _ (Memref.IsWhole.read_unread _ _) 61 (by decide) _ _ s l
    case hb2 => exact fun s l => tile_block (ms0_3 t).view (iblk m c 3 t) _ (Memref.IsWhole.read_unread _ _) 62 (by decide) _ _ s l
    case hb3 => exact fun s l => tile_block (ms0_3 t).view (iblk m c 3 t) _ (Memref.IsWhole.read_unread _ _) 63 (by decide) _ _ s l
    case hr0 =>
      intro s l
      refine (tile_load scM0_1.view _ 28 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr1 =>
      intro s l
      refine (tile_load scM0_1.view _ 29 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr2 =>
      intro s l
      refine (tile_load scM0_1.view _ 30 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hr3 =>
      intro s l
      refine (tile_load scM0_1.view _ 31 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi0 =>
      intro s l
      refine (tile_load scM0_1.view _ 60 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi1 =>
      intro s l
      refine (tile_load scM0_1.view _ 61 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi2 =>
      intro s l
      refine (tile_load scM0_1.view _ 62 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)
    case hi3 =>
      intro s l
      refine (tile_load scM0_1.view _ 63 (by decide) _ _ s l).trans ?_
      refine (tiles_skip 24 (by decide) _ _ _ s l (by decide)).trans ?_
      refine (tiles_skip 20 (by decide) _ _ _ s l (by decide)).trans ?_
      refine (tiles_skip 16 (by decide) _ _ _ s l (by decide)).trans ?_
      refine (tiles_skip 12 (by decide) _ _ _ s l (by decide)).trans ?_
      refine (tiles_skip 8 (by decide) _ _ _ s l (by decide)).trans ?_
      refine (tiles_skip 4 (by decide) _ _ _ s l (by decide)).trans ?_
      refine (tiles_skip 0 (by decide) _ _ _ s l (by decide)).trans ?_
      exact (canon_fill _ _ _ _ s l).trans (states_in m c t _ _ _ _ s l)

  case refine'_10 =>
    refine endAt_congr _ _ _ _ (all_inputs (fun q b l => inp (iblk m c 0 t) (iblk m c 4 t) q b l) _ (D := 63 :: 31 :: 62 :: 30 :: 61 :: 29 :: 60 :: 28 :: 59 :: 27 :: 58 :: 26 :: 57 :: 25 :: 56 :: 24 :: 55 :: 23 :: 54 :: 22 :: 53 :: 21 :: 52 :: 20 :: 51 :: 19 :: 50 :: 18 :: 49 :: 17 :: 48 :: 16 :: 47 :: 15 :: 46 :: 14 :: 45 :: 13 :: 44 :: 12 :: 43 :: 11 :: 42 :: 10 :: 41 :: 9 :: 40 :: 8 :: 39 :: 7 :: 38 :: 6 :: 37 :: 5 :: 36 :: 4 :: 35 :: 3 :: 34 :: 2 :: 33 :: 1 :: 32 :: 0 :: []) ?hF (by decide)) a s l
    refine fill_cons _ 63 (by decide) _ _ ?_ ?_
    · exact fun b l => part _ _ _ _ 7 (by decide) _ 896 rfl _ _ 63 (by decide) 896 (by decide) slices_S32x1024_o0_896_S32x128 _ b l
    refine fill_cons _ 31 (by decide) _ _ ?_ ?_
    · exact fun b l => part _ _ _ _ 7 (by decide) _ 896 rfl _ _ 31 (by decide) 384 (by decide) slices_S32x1024_o0_384_S32x128 _ b l
    refine fill_cons _ 62 (by decide) _ _ ?_ ?_
    · exact fun b l => part _ _ _ _ 7 (by decide) _ 896 rfl _ _ 62 (by decide) 768 (by decide) slices_S32x1024_o0_768_S32x128 _ b l
    refine fill_cons _ 30 (by decide) _ _ ?_ ?_
    · exact fun b l => part _ _ _ _ 7 (by decide) _ 896 rfl _ _ 30 (by decide) 256 (by decide) slices_S32x1024_o0_256_S32x128 _ b l
    refine fill_cons _ 61 (by decide) _ _ ?_ ?_
    · exact fun b l => part _ _ _ _ 7 (by decide) _ 896 rfl _ _ 61 (by decide) 640 (by decide) slices_S32x1024_o0_640_S32x128 _ b l
    refine fill_cons _ 29 (by decide) _ _ ?_ ?_
    · exact fun b l => part _ _ _ _ 7 (by decide) _ 896 rfl _ _ 29 (by decide) 128 (by decide) slices_S32x1024_o0_128_S32x128 _ b l
    refine fill_cons _ 60 (by decide) _ _ ?_ ?_
    · exact fun b l => part _ _ _ _ 7 (by decide) _ 896 rfl _ _ 60 (by decide) 512 (by decide) slices_S32x1024_o0_512_S32x128 _ b l
    refine fill_cons _ 28 (by decide) _ _ ?_ ?_
    · exact fun b l => part _ _ _ _ 7 (by decide) _ 896 rfl _ _ 28 (by decide) 0 (by decide) slices_S32x1024_o0_0_S32x128 _ b l
    refine fill_cons _ 59 (by decide) _ _ ?_ ?_
    · exact fun b l => part _ _ _ _ 6 (by decide) _ 768 rfl _ _ 59 (by decide) 896 (by decide) slices_S32x1024_o0_896_S32x128 _ b l
    refine fill_cons _ 27 (by decide) _ _ ?_ ?_
    · exact fun b l => part _ _ _ _ 6 (by decide) _ 768 rfl _ _ 27 (by decide) 384 (by decide) slices_S32x1024_o0_384_S32x128 _ b l
    refine fill_cons _ 58 (by decide) _ _ ?_ ?_
    · exact fun b l => part _ _ _ _ 6 (by decide) _ 768 rfl _ _ 58 (by decide) 768 (by decide) slices_S32x1024_o0_768_S32x128 _ b l
    refine fill_cons _ 26 (by decide) _ _ ?_ ?_
    · exact fun b l => part _ _ _ _ 6 (by decide) _ 768 rfl _ _ 26 (by decide) 256 (by decide) slices_S32x1024_o0_256_S32x128 _ b l
    refine fill_cons _ 57 (by decide) _ _ ?_ ?_
    · exact fun b l => part _ _ _ _ 6 (by decide) _ 768 rfl _ _ 57 (by decide) 640 (by decide) slices_S32x1024_o0_640_S32x128 _ b l
    refine fill_cons _ 25 (by decide) _ _ ?_ ?_
    · exact fun b l => part _ _ _ _ 6 (by decide) _ 768 rfl _ _ 25 (by decide) 128 (by decide) slices_S32x1024_o0_128_S32x128 _ b l
    refine fill_cons _ 56 (by decide) _ _ ?_ ?_
    · exact fun b l => part _ _ _ _ 6 (by decide) _ 768 rfl _ _ 56 (by decide) 512 (by decide) slices_S32x1024_o0_512_S32x128 _ b l
    refine fill_cons _ 24 (by decide) _ _ ?_ ?_
    · exact fun b l => part _ _ _ _ 6 (by decide) _ 768 rfl _ _ 24 (by decide) 0 (by decide) slices_S32x1024_o0_0_S32x128 _ b l
    refine fill_cons _ 55 (by decide) _ _ ?_ ?_
    · exact fun b l => part _ _ _ _ 5 (by decide) _ 640 rfl _ _ 55 (by decide) 896 (by decide) slices_S32x1024_o0_896_S32x128 _ b l
    refine fill_cons _ 23 (by decide) _ _ ?_ ?_
    · exact fun b l => part _ _ _ _ 5 (by decide) _ 640 rfl _ _ 23 (by decide) 384 (by decide) slices_S32x1024_o0_384_S32x128 _ b l
    refine fill_cons _ 54 (by decide) _ _ ?_ ?_
    · exact fun b l => part _ _ _ _ 5 (by decide) _ 640 rfl _ _ 54 (by decide) 768 (by decide) slices_S32x1024_o0_768_S32x128 _ b l
    refine fill_cons _ 22 (by decide) _ _ ?_ ?_
    · exact fun b l => part _ _ _ _ 5 (by decide) _ 640 rfl _ _ 22 (by decide) 256 (by decide) slices_S32x1024_o0_256_S32x128 _ b l
    refine fill_cons _ 53 (by decide) _ _ ?_ ?_
    · exact fun b l => part _ _ _ _ 5 (by decide) _ 640 rfl _ _ 53 (by decide) 640 (by decide) slices_S32x1024_o0_640_S32x128 _ b l
    refine fill_cons _ 21 (by decide) _ _ ?_ ?_
    · exact fun b l => part _ _ _ _ 5 (by decide) _ 640 rfl _ _ 21 (by decide) 128 (by decide) slices_S32x1024_o0_128_S32x128 _ b l
    refine fill_cons _ 52 (by decide) _ _ ?_ ?_
    · exact fun b l => part _ _ _ _ 5 (by decide) _ 640 rfl _ _ 52 (by decide) 512 (by decide) slices_S32x1024_o0_512_S32x128 _ b l
    refine fill_cons _ 20 (by decide) _ _ ?_ ?_
    · exact fun b l => part _ _ _ _ 5 (by decide) _ 640 rfl _ _ 20 (by decide) 0 (by decide) slices_S32x1024_o0_0_S32x128 _ b l
    refine fill_cons _ 51 (by decide) _ _ ?_ ?_
    · exact fun b l => part _ _ _ _ 4 (by decide) _ 512 rfl _ _ 51 (by decide) 896 (by decide) slices_S32x1024_o0_896_S32x128 _ b l
    refine fill_cons _ 19 (by decide) _ _ ?_ ?_
    · exact fun b l => part _ _ _ _ 4 (by decide) _ 512 rfl _ _ 19 (by decide) 384 (by decide) slices_S32x1024_o0_384_S32x128 _ b l
    refine fill_cons _ 50 (by decide) _ _ ?_ ?_
    · exact fun b l => part _ _ _ _ 4 (by decide) _ 512 rfl _ _ 50 (by decide) 768 (by decide) slices_S32x1024_o0_768_S32x128 _ b l
    refine fill_cons _ 18 (by decide) _ _ ?_ ?_
    · exact fun b l => part _ _ _ _ 4 (by decide) _ 512 rfl _ _ 18 (by decide) 256 (by decide) slices_S32x1024_o0_256_S32x128 _ b l
    refine fill_cons _ 49 (by decide) _ _ ?_ ?_
    · exact fun b l => part _ _ _ _ 4 (by decide) _ 512 rfl _ _ 49 (by decide) 640 (by decide) slices_S32x1024_o0_640_S32x128 _ b l
    refine fill_cons _ 17 (by decide) _ _ ?_ ?_
    · exact fun b l => part _ _ _ _ 4 (by decide) _ 512 rfl _ _ 17 (by decide) 128 (by decide) slices_S32x1024_o0_128_S32x128 _ b l
    refine fill_cons _ 48 (by decide) _ _ ?_ ?_
    · exact fun b l => part _ _ _ _ 4 (by decide) _ 512 rfl _ _ 48 (by decide) 512 (by decide) slices_S32x1024_o0_512_S32x128 _ b l
    refine fill_cons _ 16 (by decide) _ _ ?_ ?_
    · exact fun b l => part _ _ _ _ 4 (by decide) _ 512 rfl _ _ 16 (by decide) 0 (by decide) slices_S32x1024_o0_0_S32x128 _ b l
    refine fill_cons _ 47 (by decide) _ _ ?_ ?_
    · exact fun b l => part _ _ _ _ 3 (by decide) _ 384 rfl _ _ 47 (by decide) 896 (by decide) slices_S32x1024_o0_896_S32x128 _ b l
    refine fill_cons _ 15 (by decide) _ _ ?_ ?_
    · exact fun b l => part _ _ _ _ 3 (by decide) _ 384 rfl _ _ 15 (by decide) 384 (by decide) slices_S32x1024_o0_384_S32x128 _ b l
    refine fill_cons _ 46 (by decide) _ _ ?_ ?_
    · exact fun b l => part _ _ _ _ 3 (by decide) _ 384 rfl _ _ 46 (by decide) 768 (by decide) slices_S32x1024_o0_768_S32x128 _ b l
    refine fill_cons _ 14 (by decide) _ _ ?_ ?_
    · exact fun b l => part _ _ _ _ 3 (by decide) _ 384 rfl _ _ 14 (by decide) 256 (by decide) slices_S32x1024_o0_256_S32x128 _ b l
    refine fill_cons _ 45 (by decide) _ _ ?_ ?_
    · exact fun b l => part _ _ _ _ 3 (by decide) _ 384 rfl _ _ 45 (by decide) 640 (by decide) slices_S32x1024_o0_640_S32x128 _ b l
    refine fill_cons _ 13 (by decide) _ _ ?_ ?_
    · exact fun b l => part _ _ _ _ 3 (by decide) _ 384 rfl _ _ 13 (by decide) 128 (by decide) slices_S32x1024_o0_128_S32x128 _ b l
    refine fill_cons _ 44 (by decide) _ _ ?_ ?_
    · exact fun b l => part _ _ _ _ 3 (by decide) _ 384 rfl _ _ 44 (by decide) 512 (by decide) slices_S32x1024_o0_512_S32x128 _ b l
    refine fill_cons _ 12 (by decide) _ _ ?_ ?_
    · exact fun b l => part _ _ _ _ 3 (by decide) _ 384 rfl _ _ 12 (by decide) 0 (by decide) slices_S32x1024_o0_0_S32x128 _ b l
    refine fill_cons _ 43 (by decide) _ _ ?_ ?_
    · exact fun b l => part _ _ _ _ 2 (by decide) _ 256 rfl _ _ 43 (by decide) 896 (by decide) slices_S32x1024_o0_896_S32x128 _ b l
    refine fill_cons _ 11 (by decide) _ _ ?_ ?_
    · exact fun b l => part _ _ _ _ 2 (by decide) _ 256 rfl _ _ 11 (by decide) 384 (by decide) slices_S32x1024_o0_384_S32x128 _ b l
    refine fill_cons _ 42 (by decide) _ _ ?_ ?_
    · exact fun b l => part _ _ _ _ 2 (by decide) _ 256 rfl _ _ 42 (by decide) 768 (by decide) slices_S32x1024_o0_768_S32x128 _ b l
    refine fill_cons _ 10 (by decide) _ _ ?_ ?_
    · exact fun b l => part _ _ _ _ 2 (by decide) _ 256 rfl _ _ 10 (by decide) 256 (by decide) slices_S32x1024_o0_256_S32x128 _ b l
    refine fill_cons _ 41 (by decide) _ _ ?_ ?_
    · exact fun b l => part _ _ _ _ 2 (by decide) _ 256 rfl _ _ 41 (by decide) 640 (by decide) slices_S32x1024_o0_640_S32x128 _ b l
    refine fill_cons _ 9 (by decide) _ _ ?_ ?_
    · exact fun b l => part _ _ _ _ 2 (by decide) _ 256 rfl _ _ 9 (by decide) 128 (by decide) slices_S32x1024_o0_128_S32x128 _ b l
    refine fill_cons _ 40 (by decide) _ _ ?_ ?_
    · exact fun b l => part _ _ _ _ 2 (by decide) _ 256 rfl _ _ 40 (by decide) 512 (by decide) slices_S32x1024_o0_512_S32x128 _ b l
    refine fill_cons _ 8 (by decide) _ _ ?_ ?_
    · exact fun b l => part _ _ _ _ 2 (by decide) _ 256 rfl _ _ 8 (by decide) 0 (by decide) slices_S32x1024_o0_0_S32x128 _ b l
    refine fill_cons _ 39 (by decide) _ _ ?_ ?_
    · exact fun b l => part _ _ _ _ 1 (by decide) _ 128 rfl _ _ 39 (by decide) 896 (by decide) slices_S32x1024_o0_896_S32x128 _ b l
    refine fill_cons _ 7 (by decide) _ _ ?_ ?_
    · exact fun b l => part _ _ _ _ 1 (by decide) _ 128 rfl _ _ 7 (by decide) 384 (by decide) slices_S32x1024_o0_384_S32x128 _ b l
    refine fill_cons _ 38 (by decide) _ _ ?_ ?_
    · exact fun b l => part _ _ _ _ 1 (by decide) _ 128 rfl _ _ 38 (by decide) 768 (by decide) slices_S32x1024_o0_768_S32x128 _ b l
    refine fill_cons _ 6 (by decide) _ _ ?_ ?_
    · exact fun b l => part _ _ _ _ 1 (by decide) _ 128 rfl _ _ 6 (by decide) 256 (by decide) slices_S32x1024_o0_256_S32x128 _ b l
    refine fill_cons _ 37 (by decide) _ _ ?_ ?_
    · exact fun b l => part _ _ _ _ 1 (by decide) _ 128 rfl _ _ 37 (by decide) 640 (by decide) slices_S32x1024_o0_640_S32x128 _ b l
    refine fill_cons _ 5 (by decide) _ _ ?_ ?_
    · exact fun b l => part _ _ _ _ 1 (by decide) _ 128 rfl _ _ 5 (by decide) 128 (by decide) slices_S32x1024_o0_128_S32x128 _ b l
    refine fill_cons _ 36 (by decide) _ _ ?_ ?_
    · exact fun b l => part _ _ _ _ 1 (by decide) _ 128 rfl _ _ 36 (by decide) 512 (by decide) slices_S32x1024_o0_512_S32x128 _ b l
    refine fill_cons _ 4 (by decide) _ _ ?_ ?_
    · exact fun b l => part _ _ _ _ 1 (by decide) _ 128 rfl _ _ 4 (by decide) 0 (by decide) slices_S32x1024_o0_0_S32x128 _ b l
    refine fill_cons _ 35 (by decide) _ _ ?_ ?_
    · exact fun b l => part _ _ _ _ 0 (by decide) _ 0 rfl slices_S32x1024_o0_0_S32x128 _ 35 (by decide) 896 (by decide) slices_S32x1024_o0_896_S32x128 _ b l
    refine fill_cons _ 3 (by decide) _ _ ?_ ?_
    · exact fun b l => part _ _ _ _ 0 (by decide) _ 0 rfl slices_S32x1024_o0_0_S32x128 _ 3 (by decide) 384 (by decide) slices_S32x1024_o0_384_S32x128 _ b l
    refine fill_cons _ 34 (by decide) _ _ ?_ ?_
    · exact fun b l => part _ _ _ _ 0 (by decide) _ 0 rfl slices_S32x1024_o0_0_S32x128 _ 34 (by decide) 768 (by decide) slices_S32x1024_o0_768_S32x128 _ b l
    refine fill_cons _ 2 (by decide) _ _ ?_ ?_
    · exact fun b l => part _ _ _ _ 0 (by decide) _ 0 rfl slices_S32x1024_o0_0_S32x128 _ 2 (by decide) 256 (by decide) slices_S32x1024_o0_256_S32x128 _ b l
    refine fill_cons _ 33 (by decide) _ _ ?_ ?_
    · exact fun b l => part _ _ _ _ 0 (by decide) _ 0 rfl slices_S32x1024_o0_0_S32x128 _ 33 (by decide) 640 (by decide) slices_S32x1024_o0_640_S32x128 _ b l
    refine fill_cons _ 1 (by decide) _ _ ?_ ?_
    · exact fun b l => part _ _ _ _ 0 (by decide) _ 0 rfl slices_S32x1024_o0_0_S32x128 _ 1 (by decide) 128 (by decide) slices_S32x1024_o0_128_S32x128 _ b l
    refine fill_cons _ 32 (by decide) _ _ ?_ ?_
    · exact fun b l => part _ _ _ _ 0 (by decide) _ 0 rfl slices_S32x1024_o0_0_S32x128 _ 32 (by decide) 512 (by decide) slices_S32x1024_o0_512_S32x128 _ b l
    refine fill_cons _ 0 (by decide) _ _ ?_ ?_
    · exact fun b l => part _ _ _ _ 0 (by decide) _ 0 rfl slices_S32x1024_o0_0_S32x128 _ 0 (by decide) 0 (by decide) slices_S32x1024_o0_0_S32x128 _ b l
    exact fill_nil _ _
end Cert.SsmIdeal.Val
end
-- ==== Proof.SsmHost.lean ====
module

public import proofs.«01_k».proof.Proof.SsmFill
public import Idealize.ShloMosaic.Lib.Tactic.IndexArith

@[expose] public section

set_option maxRecDepth 16384

noncomputable section

namespace Cert.SsmIdeal.Val

open Cert.SsmIdeal Cert.SsmIdeal.Gen Idealize.ShloMosaic Idealize.ShloMosaic.TcCoe Idealize.ShloMosaic.Tactic Idealize.ShloMosaic.Pipeline

variable (m : (ℓ : Loc nD τ sig) → Buf (Elt Ideal) ℓ)

/-- Where each block begins. -/
theorem idx : ∀ t : Fin cfg0.N, win0_0.index t = ![0, 0] ∧ win0_2.index t = ![0, 0, 0] ∧ win0_3.index t = ![0, 0, 0] ∧ win0_4.index t = ![0, 0, 0] :=
  (by decide +kernel : ∀ t : Fin grid0.N, _)

/-- The coefficients, a real tile and an imaginary tile for each, the same for every sequence. -/
def coefs (x y : S64x64.Idx → EReal) : S64x8x128.Idx → EReal :=
  broadcastInDim S64x8x128 ![0, 1, 2] bcast_S64x1x128_S64x8x128_0_1_2
    (concatenate S64x1x128 0 [⟨S32x1x128, shapeCast S32x1x128 x shapeCasts_S64x64_S32x1x128⟩, ⟨S32x1x128, shapeCast S32x1x128 y shapeCasts_S64x64_S32x1x128⟩] concatenates_S32x1x128_S32x1x128_S64x1x128_d0)

/-- The identity of eight rows. -/
def eye8 : S8x8.Idx → EReal :=
  uitofp (F := Ideal) .f32 (cmpi .eq (addi (iotaInDim S8x8 32 0) (broadcastInDim S8x8 ![] bcast_S_S8x8 (constantI S_ 32 0#32))) (iotaInDim S8x8 32 1))

/-- One half of the input matrix: the groups of a block on the diagonal. -/
def diag (x : S64x64x16.Idx → EReal) : S8x128x512.Idx → EReal :=
  shapeCast S8x128x512 (mulf (F := Ideal) (φ := .f32)
    (broadcastInDim S8x8x16x8x64 ![0, 1, 2, 3, 4] bcast_S8x1x16x8x64_S8x8x16x8x64_0_1_2_3_4 (broadcastInDim S8x1x16x8x64 ![0, 2, 3, 4] bcast_S8x16x8x64_S8x1x16x8x64_0_2_3_4
      (transpose S8x16x8x64 [0, 3, 1, 2] (shapeCast S8x8x64x16 x shapeCasts_S64x64x16_S8x8x64x16) transposes_S8x8x64x16_S8x16x8x64_0_3_1_2)))
    (broadcastInDim S8x8x16x8x64 ![0, 1, 2, 3, 4] bcast_S1x8x1x8x1_S8x8x16x8x64_0_1_2_3_4 (broadcastInDim S1x8x1x8x1 ![1, 3] bcast_S8x8_S1x8x1x8x1_1_3 eye8)))
    shapeCasts_S8x8x16x8x64_S8x128x512

/-- The input matrix: real columns, then imaginary columns. -/
def inMat (x y : S64x64x16.Idx → EReal) : S8x128x1024.Idx → EReal :=
  concatenate S8x128x1024 2 [⟨S8x128x512, diag x⟩, ⟨S8x128x512, diag y⟩] concatenates_S8x128x512_S8x128x512_S8x128x1024_d2

theorem V_v3 (c : Dev nD) : (V m c main_v3 : S64x8x128.Idx → EReal) = coefs (m ((c : Thread nD τ).loc main_arg3)) (m ((c : Thread nD τ).loc main_arg4)) := by
  entry_read
  rfl

theorem V_v27 (c : Dev nD) : (V m c main_v27 : S8x128x1024.Idx → EReal) = inMat (m ((c : Thread nD τ).loc main_arg5)) (m ((c : Thread nD τ).loc main_arg6)) := by
  entry_read
  rfl

theorem block3 (c : Dev nD) (t : Fin cfg0.N) : (iblk m c 3 t : S64x8x128.Idx → EReal) = V m c main_v3 := by
  blk_ext! [iblk, idx t]
theorem block4 (c : Dev nD) (t : Fin cfg0.N) : (iblk m c 4 t : S8x128x1024.Idx → EReal) = V m c main_v27 := by
  blk_ext! [iblk, idx t]
theorem block2 (c : Dev nD) (t : Fin cfg0.N) : (iblk m c 2 t : S64x8x128.Idx → EReal) = V m c main_v54 := by
  blk_ext! [iblk, idx t]
theorem block0 (c : Dev nD) (t : Fin cfg0.N) (b : Fin 32) (i : Fin 1024) :
    (iblk m c 0 t : S32x1024.Idx → EReal) (ix2 b i) = (m ((c : Thread nD τ).loc main_arg0) : S32x13312.Idx → EReal) (ix2 b (⟨i.val, by omega⟩ : Fin 13312)) := by
  blk_ext [iblk, V, idx t]

theorem coefs_re (x y : S64x64.Idx → EReal) (q : ℕ) (hq : q < 32) (s : Fin 8) (l : Fin 128) :
    coefs x y (ix3 (⟨q, by omega⟩ : Fin 64) s l) = x (ix2 (⟨q * 2 + l.val / 64, by omega⟩ : Fin 64) (⟨l.val % 64, by omega⟩ : Fin 64)) := by
  pointwise [coefs]
  rw [dif_pos hq]
theorem coefs_im (x y : S64x64.Idx → EReal) (q : ℕ) (hq : q < 32) (s : Fin 8) (l : Fin 128) :
    coefs x y (ix3 (⟨32 + q, by omega⟩ : Fin 64) s l) = y (ix2 (⟨q * 2 + l.val / 64, by omega⟩ : Fin 64) (⟨l.val % 64, by omega⟩ : Fin 64)) := by
  pointwise [coefs]

theorem bit1 : FloatOps.uitofp (F := Ideal) FTy.f32 (1#1) = (1 : EReal) := by
  show (((1#1 : BitVec 1).toNat : ℝ) : EReal) = 1
  simp
theorem bit0 : FloatOps.uitofp (F := Ideal) FTy.f32 (0#1) = (0 : EReal) := by
  show (((0#1 : BitVec 1).toNat : ℝ) : EReal) = 0
  simp

theorem eye8_at (i j : Fin 8) : eye8 (ix2 i j) = if i = j then 1 else 0 := by
  fin_cases i <;> fin_cases j <;> (pointwise [eye8]) <;> first | exact bit1 | exact bit0

theorem diag_at (x : S64x64x16.Idx → EReal) (n h : Fin 8) (k : Fin 16) (g : Fin 8) (p : Fin 64) :
    diag x (ix3 n (⟨h.val * 16 + k.val, by omega⟩ : Fin 128) (⟨g.val * 64 + p.val, by omega⟩ : Fin 512)) = x (ix3 (⟨n.val * 8 + g.val, by omega⟩ : Fin 64) p k) * eye8 (ix2 h g) := by
  pointwise [diag]

/-- The states, a real tile and an imaginary tile for each. -/
def stTiles (x y : S8x64x64.Idx → EReal) : S64x8x128.Idx → EReal :=
  concatenate S64x8x128 0 [
    ⟨S32x8x128, pad S32x8x128 ![0, 0, 0] ![0, 0, 0] ![0, 0, 0] (transpose S32x8x128 [1, 0, 2] (shapeCast S8x32x128 x shapeCasts_S8x64x64_S8x32x128) transposes_S8x32x128_S32x8x128_1_0_2)
      (sitofp (F := Ideal) .f32 (constantI S_ 32 0#32)) pads_S32x8x128_S32x8x128_000_000_000 h_S_⟩,
    ⟨S32x8x128, pad S32x8x128 ![0, 0, 0] ![0, 0, 0] ![0, 0, 0] (transpose S32x8x128 [1, 0, 2] (shapeCast S8x32x128 y shapeCasts_S8x64x64_S8x32x128) transposes_S8x32x128_S32x8x128_1_0_2)
      (sitofp (F := Ideal) .f32 (constantI S_ 32 0#32)) pads_S32x8x128_S32x8x128_000_000_000 h_S_⟩] concatenates_S32x8x128_S32x8x128_S64x8x128_d0

theorem V_v54 (c : Dev nD) : (V m c main_v54 : S64x8x128.Idx → EReal) = stTiles (m ((c : Thread nD τ).loc main_arg1)) (m ((c : Thread nD τ).loc main_arg2)) := by
  entry_read
  rfl

theorem stTiles_re (x y : S8x64x64.Idx → EReal) (q : ℕ) (hq : q < 32) (s : Fin 8) (l : Fin 128) :
    stTiles x y (ix3 (⟨q, by omega⟩ : Fin 64) s l) = x (ix3 s (⟨q * 2 + l.val / 64, by omega⟩ : Fin 64) (⟨l.val % 64, by omega⟩ : Fin 64)) := by
  pointwise [stTiles]
  rw [dif_pos hq, dif_pos hq]
theorem stTiles_im (x y : S8x64x64.Idx → EReal) (q : ℕ) (hq : q < 32) (s : Fin 8) (l : Fin 128) :
    stTiles x y (ix3 (⟨32 + q, by omega⟩ : Fin 64) s l) = y (ix3 s (⟨q * 2 + l.val / 64, by omega⟩ : Fin 64) (⟨l.val % 64, by omega⟩ : Fin 64)) := by
  pointwise [stTiles]
  rw [dif_pos hq]

theorem inMat_re (x y : S64x64x16.Idx → EReal) (n : Fin 8) (k : Fin 128) (j : ℕ) (hj : j < 512) :
    inMat x y (ix3 n k (⟨j, by omega⟩ : Fin 1024)) = diag x (ix3 n k (⟨j, hj⟩ : Fin 512)) := by
  unfold inMat
  generalize diag x = X
  generalize diag y = Y
  pointwise
  rw [dif_pos hj]
theorem inMat_im (x y : S64x64x16.Idx → EReal) (n : Fin 8) (k : Fin 128) (j : ℕ) (hj : j < 512) :
    inMat x y (ix3 n k (⟨512 + j, by omega⟩ : Fin 1024)) = diag y (ix3 n k (⟨j, hj⟩ : Fin 512)) := by
  unfold inMat
  generalize diag x = X
  generalize diag y = Y
  pointwise

/-- A sum over a block's rows keeps the rows of the column's own group. -/
theorem sum_diag (f : Fin 128 → EReal) (d : Fin 8 → Fin 16 → EReal) (g : Fin 8)
    (hf : ∀ (h : Fin 8) (k : Fin 16), f (⟨h.val * 16 + k.val, by omega⟩ : Fin 128) = d h k * (if h = g then 1 else 0)) : ∑ c, f c = ∑ k, d g k := by
  refine (Fin.sum_univ_tiles 8 16 rfl f).trans ?_
  refine (Finset.sum_eq_single g (fun h _ hne => ?_) (fun hn => (hn (Finset.mem_univ _)).elim)).trans ?_
  · exact Finset.sum_eq_zero fun k _ => (hf h k).trans (by rw [if_neg hne, mul_zero])
  · exact Finset.sum_congr rfl fun k _ => (hf g k).trans (by rw [if_pos rfl, mul_one])

/-- The step's input, real part. -/
theorem inp_re (u : S32x1024.Idx → EReal) (x y : S64x64x16.Idx → EReal) (q : ℕ) (hq : q < 32) (b : Fin 32) (l : Fin 128) :
    inp u (inMat x y) (⟨q, by omega⟩ : Fin 64) b l = ∑ k : Fin 16, u (ix2 (srcRow b) (⟨(q * 2 + l.val / 64) * 16 + k.val, by omega⟩ : Fin 1024)) * x (ix3 (⟨q * 2 + l.val / 64, by omega⟩ : Fin 64) (⟨l.val % 64, by omega⟩ : Fin 64) k) := by
  unfold inp
  refine (sum_diag _ (fun h k => u (ix2 (srcRow b) (⟨(q / 4 * 8 + h.val) * 16 + k.val, by omega⟩ : Fin 1024)) * x (ix3 (⟨q / 4 * 8 + (2 * (q % 4) + l.val / 64), by omega⟩ : Fin 64) (⟨l.val % 64, by omega⟩ : Fin 64) k))
    (⟨2 * (q % 4) + l.val / 64, by omega⟩ : Fin 8) fun h k => ?_).trans ?_
  · have e1 : (⟨lane q + l.val, lane_lt q l⟩ : Fin 1024) = ⟨q % 4 * 128 + l.val, by omega⟩ := Fin.ext (by
      have : lane q = q % 4 * 128 := if_pos hq
      show lane q + l.val = q % 4 * 128 + l.val
      rw [this])
    have e2 : (⟨q % 32 / 4, by omega⟩ : Fin 8) = ⟨q / 4, by omega⟩ := Fin.ext (by show q % 32 / 4 = q / 4; omega)
    have e3 : (⟨q % 4 * 128 + l.val, by omega⟩ : Fin 512) = ⟨(2 * (q % 4) + l.val / 64) * 64 + l.val % 64, by omega⟩ := Fin.ext (by show q % 4 * 128 + l.val = (2 * (q % 4) + l.val / 64) * 64 + l.val % 64; omega)
    have e4 : (⟨q % 32 / 4 * 128 + (h.val * 16 + k.val), by omega⟩ : Fin 1024) = ⟨(q / 4 * 8 + h.val) * 16 + k.val, by omega⟩ := Fin.ext (by show q % 32 / 4 * 128 + (h.val * 16 + k.val) = (q / 4 * 8 + h.val) * 16 + k.val; omega)
    have e5 := diag_at x ⟨q / 4, by omega⟩ h k ⟨2 * (q % 4) + l.val / 64, by omega⟩ ⟨l.val % 64, by omega⟩
    show u (ix2 (srcRow b) (⟨q % 32 / 4 * 128 + (h.val * 16 + k.val), by omega⟩ : Fin 1024)) * inMat x y (ix3 (⟨q % 32 / 4, by omega⟩ : Fin 8) (⟨h.val * 16 + k.val, by omega⟩ : Fin 128) (⟨lane q + l.val, lane_lt q l⟩ : Fin 1024)) = _
    rw [e1, e2, e4, inMat_re x y _ _ _ (by omega), e3, e5, eye8_at, mul_assoc]
  · have e1 : (q / 4 * 8 + (2 * (q % 4) + l.val / 64)) = q * 2 + l.val / 64 := by omega
    simp only [e1]

/-- The step's input, imaginary part. -/
theorem inp_im (u : S32x1024.Idx → EReal) (x y : S64x64x16.Idx → EReal) (q : ℕ) (hq : q < 32) (b : Fin 32) (l : Fin 128) :
    inp u (inMat x y) (⟨32 + q, by omega⟩ : Fin 64) b l = ∑ k : Fin 16, u (ix2 (srcRow b) (⟨(q * 2 + l.val / 64) * 16 + k.val, by omega⟩ : Fin 1024)) * y (ix3 (⟨q * 2 + l.val / 64, by omega⟩ : Fin 64) (⟨l.val % 64, by omega⟩ : Fin 64) k) := by
  unfold inp
  refine (sum_diag _ (fun h k => u (ix2 (srcRow b) (⟨(q / 4 * 8 + h.val) * 16 + k.val, by omega⟩ : Fin 1024)) * y (ix3 (⟨q / 4 * 8 + (2 * (q % 4) + l.val / 64), by omega⟩ : Fin 64) (⟨l.val % 64, by omega⟩ : Fin 64) k))
    (⟨2 * (q % 4) + l.val / 64, by omega⟩ : Fin 8) fun h k => ?_).trans ?_
  · have e1 : (⟨lane (32 + q) + l.val, lane_lt (32 + q) l⟩ : Fin 1024) = ⟨512 + (q % 4 * 128 + l.val), by omega⟩ := Fin.ext (by
      show lane (32 + q) + l.val = 512 + (q % 4 * 128 + l.val)
      unfold lane; rw [if_neg (by omega)]; omega)
    have e2 : (⟨(32 + q) % 32 / 4, by omega⟩ : Fin 8) = ⟨q / 4, by omega⟩ := Fin.ext (by show (32 + q) % 32 / 4 = q / 4; omega)
    have e3 : (⟨q % 4 * 128 + l.val, by omega⟩ : Fin 512) = ⟨(2 * (q % 4) + l.val / 64) * 64 + l.val % 64, by omega⟩ := Fin.ext (by show q % 4 * 128 + l.val = (2 * (q % 4) + l.val / 64) * 64 + l.val % 64; omega)
    have e4 : (⟨(32 + q) % 32 / 4 * 128 + (h.val * 16 + k.val), by omega⟩ : Fin 1024) = ⟨(q / 4 * 8 + h.val) * 16 + k.val, by omega⟩ := Fin.ext (by show (32 + q) % 32 / 4 * 128 + (h.val * 16 + k.val) = (q / 4 * 8 + h.val) * 16 + k.val; omega)
    have e5 := diag_at y ⟨q / 4, by omega⟩ h k ⟨2 * (q % 4) + l.val / 64, by omega⟩ ⟨l.val % 64, by omega⟩
    show u (ix2 (srcRow b) (⟨(32 + q) % 32 / 4 * 128 + (h.val * 16 + k.val), by omega⟩ : Fin 1024)) * inMat x y (ix3 (⟨(32 + q) % 32 / 4, by omega⟩ : Fin 8) (⟨h.val * 16 + k.val, by omega⟩ : Fin 128) (⟨lane (32 + q) + l.val, lane_lt (32 + q) l⟩ : Fin 1024)) = _
    rw [e1, e2, e4, inMat_im x y _ _ _ (by omega), e3, e5, eye8_at, mul_assoc]
  · have e1 : (q / 4 * 8 + (2 * (q % 4) + l.val / 64)) = q * 2 + l.val / 64 := by omega
    simp only [e1]
end Cert.SsmIdeal.Val
-- ==== Proof.SsmRefAt.lean ====
module

public import proofs.«01_k».proof.Proof.Gen.SsmRefIdeal.Run
public import Idealize.ShloMosaic.Lib.Pointwise
public import Idealize.ShloMosaic.Lib.Tactic.IndexArith

@[expose] public section

set_option maxRecDepth 16384

noncomputable section

namespace Cert.SsmRefIdeal.Val

open Cert.SsmRefIdeal Cert.SsmRefIdeal.Gen Idealize.ShloMosaic Idealize.ShloMosaic.TcCoe Idealize.ShloMosaic.Tactic

/-- A state's array. -/
abbrev St : Type := FVec Ideal S8x64x64 .f32

/-- The same coefficient for every sequence. -/
def each (x : FVec Ideal S64x64 .f32) : St :=
  broadcastInDim S8x64x64 ![0, 1, 2] bcast_S1x64x64_S8x64x64_0_1_2 (broadcastInDim S1x64x64 ![1, 2] bcast_S64x64_S1x64x64_1_2 x)

/-- One step, real part. -/
def stepR (aR aI : FVec Ideal S64x64 .f32) (r i b : St) : St := addf (subf (mulf (each aR) r) (mulf (each aI) i)) b

/-- One step, imaginary part. -/
def stepI (aR aI : FVec Ideal S64x64 .f32) (r i b : St) : St := addf (addf (mulf (each aR) i) (mulf (each aI) r)) b

/-- The inputs of every step. -/
def ins (h : FVec Ideal S32x13312 .f32) (w : FVec Ideal S64x64x16 .f32) : FVec Ideal S8x4x64x64 .f32 :=
  transpose S8x4x64x64 [1, 2, 0, 3] (Host.dotGeneral dot_S8x4x64x16_S64x64x16_S64x8x4x64_3_2_01_1_2_0 none
    (shapeCast S8x4x64x16 (extractStridedSlice S32x1024 ![0, 0] h slices_S32x13312_S32x1024_0_0) shapeCasts_S32x1024_S8x4x64x16) w) transposes_S64x8x4x64_S8x4x64x64_1_2_0_3

/-- Step `t`'s input. -/
def insAt (t : ℕ) (hs : S8x4x64x64.Slices ![0, t, 0, 0] S8x1x64x64) (x : FVec Ideal S8x4x64x64 .f32) : St :=
  shapeCast S8x64x64 (extractStridedSlice S8x1x64x64 ![0, t, 0, 0] x hs) shapeCasts_S8x1x64x64_S8x64x64

theorem each_at (x : FVec Ideal S64x64 .f32) (s : Fin 8) (g p : Fin 64) : each x (ix3 s g p) = x (ix2 g p) := by
  pointwise [each]

theorem stepR_at (aR aI : FVec Ideal S64x64 .f32) (r i b : St) (s : Fin 8) (g p : Fin 64) :
    (stepR aR aI r i b (ix3 s g p) : EReal) = aR (ix2 g p) * r (ix3 s g p) - aI (ix2 g p) * i (ix3 s g p) + b (ix3 s g p) := by
  unfold stepR
  simp only [← each_at _ s g p]
  rfl

theorem stepI_at (aR aI : FVec Ideal S64x64 .f32) (r i b : St) (s : Fin 8) (g p : Fin 64) :
    (stepI aR aI r i b (ix3 s g p) : EReal) = aR (ix2 g p) * i (ix3 s g p) + aI (ix2 g p) * r (ix3 s g p) + b (ix3 s g p) := by
  unfold stepI
  simp only [← each_at _ s g p]
  rfl

theorem ins_at (h : FVec Ideal S32x13312 .f32) (w : FVec Ideal S64x64x16 .f32) (t : ℕ) (ht : t < 4) (hs : S8x4x64x64.Slices ![0, t, 0, 0] S8x1x64x64) (s : Fin 8) (g p : Fin 64) :
    (insAt t hs (ins h w) (ix3 s g p) : EReal) = ∑ k : Fin 16, h (ix2 (⟨s.val * 4 + t, by omega⟩ : Fin 32) (⟨g.val * 16 + k.val, by omega⟩ : Fin 13312)) * w (ix3 g p k) := by
  pointwise [insAt, ins]

variable (m : (ℓ : Loc nD τ sig) → Buf (Elt Ideal) ℓ) (c : Dev nD)

/-- The states of all sequences, the real parts' tiles and then the imaginary parts'. -/
def both (r i : St) : S64x8x128.Idx → EReal :=
  transpose S64x8x128 [1, 0, 2] (concatenate S8x64x128 1 [⟨S8x32x128, shapeCast S8x32x128 r shapeCasts_S8x64x64_S8x32x128⟩, ⟨S8x32x128, shapeCast S8x32x128 i shapeCasts_S8x64x64_S8x32x128⟩]
    concatenates_S8x32x128_S8x32x128_S8x64x128_d1) transposes_S8x64x128_S64x8x128_1_0_2

theorem both_re (r i : St) (q : ℕ) (hq : q < 32) (s : Fin 8) (l : Fin 128) :
    both r i (ix3 (⟨q, by omega⟩ : Fin 64) s l) = r (ix3 s (⟨q * 2 + l.val / 64, by omega⟩ : Fin 64) (⟨l.val % 64, by omega⟩ : Fin 64)) := by
  pointwise [both]
  rw [dif_pos hq]
theorem both_im (r i : St) (q : ℕ) (hq : q < 32) (s : Fin 8) (l : Fin 128) :
    both r i (ix3 (⟨32 + q, by omega⟩ : Fin 64) s l) = i (ix3 s (⟨q * 2 + l.val / 64, by omega⟩ : Fin 64) (⟨l.val % 64, by omega⟩ : Fin 64)) := by
  pointwise [both]

/-- Four steps. -/
def last (aR aI : FVec Ideal S64x64 .f32) (r i : St) (bR bI : FVec Ideal S8x4x64x64 .f32) : S64x8x128.Idx → EReal :=
  let r1 := stepR aR aI r i (insAt 0 slices_S8x4x64x64_S8x1x64x64_0_0_0_0 bR)
  let i1 := stepI aR aI r i (insAt 0 slices_S8x4x64x64_S8x1x64x64_0_0_0_0 bI)
  let r2 := stepR aR aI r1 i1 (insAt 1 slices_S8x4x64x64_S8x1x64x64_0_1_0_0 bR)
  let i2 := stepI aR aI r1 i1 (insAt 1 slices_S8x4x64x64_S8x1x64x64_0_1_0_0 bI)
  let r3 := stepR aR aI r2 i2 (insAt 2 slices_S8x4x64x64_S8x1x64x64_0_2_0_0 bR)
  let i3 := stepI aR aI r2 i2 (insAt 2 slices_S8x4x64x64_S8x1x64x64_0_2_0_0 bI)
  both (stepR aR aI r3 i3 (insAt 3 slices_S8x4x64x64_S8x1x64x64_0_3_0_0 bR)) (stepI aR aI r3 i3 (insAt 3 slices_S8x4x64x64_S8x1x64x64_0_3_0_0 bI))

theorem res_eq : (Value.res_main_v89 m c : S64x8x128.Idx → EReal) = last (m ((c.tc : Thread nD τ).loc main_arg3)) (m ((c.tc : Thread nD τ).loc main_arg4)) (m ((c.tc : Thread nD τ).loc main_arg1)) (m ((c.tc : Thread nD τ).loc main_arg2))
    (ins (m ((c.tc : Thread nD τ).loc main_arg0)) (m ((c.tc : Thread nD τ).loc main_arg5))) (ins (m ((c.tc : Thread nD τ).loc main_arg0)) (m ((c.tc : Thread nD τ).loc main_arg6))) := rfl

end Cert.SsmRefIdeal.Val
-- ==== Proof.SsmTie.lean ====
module

public import proofs.«01_k».proof.Proof.SsmState
public import proofs.«01_k».proof.Proof.SsmHost
public import proofs.«01_k».proof.Proof.SsmRefAt
public import Idealize.ShloMosaic.Lib.Pipeline.ValueKit

@[expose] public section

set_option maxRecDepth 16384

noncomputable section

namespace Cert.SsmIdeal.Val

open Cert.SsmIdeal Cert.SsmIdeal.Gen Idealize.ShloMosaic Idealize.ShloMosaic.TcCoe Idealize.ShloMosaic.Tactic Idealize.ShloMosaic.Pipeline
open Cert.SsmRefIdeal.Val (stepR stepI stepR_at stepI_at ins insAt ins_at last both both_re both_im)

/-- The input of group `g`'s state `p` at step `t` of sequence `s` (the step taken modulo four). -/
def feed (h : S32x13312.Idx → EReal) (w : S64x64x16.Idx → EReal) (s : Fin 8) (g p : Fin 64) (t : ℕ) : EReal :=
  ∑ k : Fin 16, h (ix2 (⟨s.val * 4 + t % 4, by omega⟩ : Fin 32) (⟨g.val * 16 + k.val, by omega⟩ : Fin 13312)) * w (ix3 g p k)

/-- The state's cell after four steps of the plain recurrence. -/
def cell4 (h : S32x13312.Idx → EReal) (r i : S8x64x64.Idx → EReal) (aR aI : S64x64.Idx → EReal) (wR wI : S64x64x16.Idx → EReal) (s : Fin 8) (g p : Fin 64) : EReal × EReal :=
  hst (aR (ix2 g p)) (aI (ix2 g p)) (r (ix3 s g p)) (i (ix3 s g p)) (feed h wR s g p) (feed h wI s g p) 4

theorem feed_at (h : S32x13312.Idx → EReal) (w : S64x64x16.Idx → EReal) (t : ℕ) (ht : t < 4) (hs : Cert.SsmRefIdeal.S8x4x64x64.Slices ![0, t, 0, 0] Cert.SsmRefIdeal.S8x1x64x64) (s : Fin 8) (g p : Fin 64) :
    insAt t hs (ins h w) (ix3 s g p) = feed h w s g p t := by
  refine (ins_at h w t ht hs s g p).trans ?_
  unfold feed
  simp only [Nat.mod_eq_of_lt ht]

theorem last_re (h : S32x13312.Idx → EReal) (r i : S8x64x64.Idx → EReal) (aR aI : S64x64.Idx → EReal) (wR wI : S64x64x16.Idx → EReal) (q : ℕ) (hq : q < 32) (s : Fin 8) (l : Fin 128) :
    last aR aI r i (ins h wR) (ins h wI) (ix3 (⟨q, by omega⟩ : Fin 64) s l)
      = (cell4 h r i aR aI wR wI s (⟨q * 2 + l.val / 64, by omega⟩ : Fin 64) (⟨l.val % 64, by omega⟩ : Fin 64)).1 := by
  unfold last
  refine (both_re _ _ q hq s l).trans ?_
  generalize (⟨q * 2 + l.val / 64, by omega⟩ : Fin 64) = g
  generalize (⟨l.val % 64, by omega⟩ : Fin 64) = p
  simp only [stepR_at, stepI_at, cell4, hst, feed_at _ _ 0 (by decide), feed_at _ _ 1 (by decide), feed_at _ _ 2 (by decide), feed_at _ _ 3 (by decide)]

theorem last_im (h : S32x13312.Idx → EReal) (r i : S8x64x64.Idx → EReal) (aR aI : S64x64.Idx → EReal) (wR wI : S64x64x16.Idx → EReal) (q : ℕ) (hq : q < 32) (s : Fin 8) (l : Fin 128) :
    last aR aI r i (ins h wR) (ins h wI) (ix3 (⟨32 + q, by omega⟩ : Fin 64) s l)
      = (cell4 h r i aR aI wR wI s (⟨q * 2 + l.val / 64, by omega⟩ : Fin 64) (⟨l.val % 64, by omega⟩ : Fin 64)).2 := by
  unfold last
  refine (both_im _ _ q hq s l).trans ?_
  generalize (⟨q * 2 + l.val / 64, by omega⟩ : Fin 64) = g
  generalize (⟨l.val % 64, by omega⟩ : Fin 64) = p
  simp only [stepR_at, stepI_at, cell4, hst, feed_at _ _ 0 (by decide), feed_at _ _ 1 (by decide), feed_at _ _ 2 (by decide), feed_at _ _ 3 (by decide)]

/-- A recurrence's state depends on the inputs of its own steps alone. -/
theorem hst_congr (aR aI r i : EReal) (bR bI bR' bI' : ℕ → EReal) : ∀ n, (∀ t, t < n → bR t = bR' t) → (∀ t, t < n → bI t = bI' t) →
    hst aR aI r i bR bI n = hst aR aI r i bR' bI' n
  | 0, _, _ => rfl
  | n + 1, hR, hI => by
    have e := hst_congr aR aI r i bR bI bR' bI' n (fun t ht => hR t (by omega)) (fun t ht => hI t (by omega))
    simp only [hst]
    rw [e, hR n (by omega), hI n (by omega)]

theorem srcRow_rowOf (t : ℕ) (ht : t < 4) (s : Fin 8) : (srcRow (rowOf t s)).val = s.val * 4 + t % 4 := by
  have := rowOf_val t s ht
  show (rowOf t s).val % 8 * 4 + (rowOf t s).val / 8 = _
  omega

/-- The kernel's cell is the plain recurrence's. -/
theorem cellA_eq (h : S32x13312.Idx → EReal) (u : S32x1024.Idx → EReal) (hu : ∀ b (i : Fin 1024), u (ix2 b i) = h (ix2 b (⟨i.val, by omega⟩ : Fin 13312)))
    (r i : S8x64x64.Idx → EReal) (aR aI : S64x64.Idx → EReal) (wR wI : S64x64x16.Idx → EReal) (q : ℕ) (hq : q < 32) (s : Fin 8) (l : Fin 128) :
    cellA (coefs aR aI) (stTiles r i) (fun j => inp u (inMat wR wI) (j 0) (j 1) (j 2)) q hq s l 4
      = cell4 h r i aR aI wR wI s (⟨q * 2 + l.val / 64, by omega⟩ : Fin 64) (⟨l.val % 64, by omega⟩ : Fin 64) := by
  unfold cellA cell4
  rw [coefs_re aR aI q hq, coefs_im aR aI q hq, stTiles_re r i q hq, stTiles_im r i q hq]
  refine hst_congr _ _ _ _ _ _ _ _ 4 (fun t ht => ?_) (fun t ht => ?_)
  · refine (inp_re u wR wI q hq (rowOf t s) l).trans (Finset.sum_congr rfl fun k _ => ?_)
    rw [hu, show srcRow (rowOf t s) = (⟨s.val * 4 + t % 4, by omega⟩ : Fin 32) from Fin.ext (srcRow_rowOf t ht s)]
  · refine (inp_im u wR wI q hq (rowOf t s) l).trans (Finset.sum_congr rfl fun k _ => ?_)
    rw [hu, show srcRow (rowOf t s) = (⟨s.val * 4 + t % 4, by omega⟩ : Fin 32) from Fin.ext (srcRow_rowOf t ht s)]

/-- The kernel's states are the plain recurrence's. -/
theorem endAt_eq (h : S32x13312.Idx → EReal) (u : S32x1024.Idx → EReal) (hu : ∀ b (i : Fin 1024), u (ix2 b i) = h (ix2 b (⟨i.val, by omega⟩ : Fin 13312)))
    (r i : S8x64x64.Idx → EReal) (aR aI : S64x64.Idx → EReal) (wR wI : S64x64x16.Idx → EReal) (a : Fin 64) (s : Fin 8) (l : Fin 128) :
    endAt (coefs aR aI) (stTiles r i) (fun j => inp u (inMat wR wI) (j 0) (j 1) (j 2)) a s l = last aR aI r i (ins h wR) (ins h wI) (ix3 a s l) := by
  unfold endAt
  by_cases ha : a.val < 32
  · rw [dif_pos ha, cellA_eq h u hu]
    exact (last_re h r i aR aI wR wI a.val ha s l).symm
  · rw [dif_neg ha, cellA_eq h u hu]
    have e := last_im h r i aR aI wR wI (a.val - 32) (by omega) s l
    rw [show (⟨32 + (a.val - 32), by omega⟩ : Fin 64) = a from Fin.ext (by show 32 + (a.val - 32) = a.val; omega)] at e
    exact e.symm

variable (m : (ℓ : Loc nD τ sig) → Buf (Elt Ideal) ℓ)

/-- The states' array after the launch. -/
theorem final (c : Dev nD) : ((dats m 0 c).arrAt 9 (cfgs 0).N : S64x8x128.Idx → EReal) =
    last (m ((c : Thread nD τ).loc main_arg3)) (m ((c : Thread nD τ).loc main_arg4)) (m ((c : Thread nD τ).loc main_arg1)) (m ((c : Thread nD τ).loc main_arg2))
      (ins (m ((c : Thread nD τ).loc main_arg0)) (m ((c : Thread nD τ).loc main_arg5))) (ins (m ((c : Thread nD τ).loc main_arg0)) (m ((c : Thread nD τ).loc main_arg6))) := by
  refine (dats m 0 c).arrAt_eq_of_after_last 9 t0_0 (by decide +kernel) _ fun j => ?_
  blk_simp
  idx_vars j
  refine (x9 m c t0_0 _ _ _).trans ?_
  rw [block2, block3, block4, V_v3, V_v27, V_v54]
  exact endAt_eq _ _ (block0 m c t0_0) _ _ _ _ _ _ _ _ _

end Cert.SsmIdeal.Val
-- ==== Proof.ProjCase.lean ====
module

public import proofs.«01_k».proof.Proof.Gen.ProjIdeal.Value
public import Idealize.ShloMosaic.Lib.Tactic.IndexArith
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjIdeal.Val

open Cert.ProjIdeal Cert.ProjIdeal.Gen Idealize.ShloMosaic Idealize.ShloMosaic.TcCoe Idealize.ShloMosaic.Tactic Idealize.ShloMosaic.Pipeline

variable (m : (ℓ : Loc nD τ sig) → Buf (Elt Ideal) ℓ)

/-- What the point before left in the scratch buffer. -/
abbrev prev (c : Dev nD) (t : Fin cfg0.N) : FVec Ideal S1024x2048 .bf16 :=
  (outsAt0 m c (t.val - 1) (Nat.lt_of_le_of_lt (Nat.sub_le _ _) t.isLt)).2

theorem scrA (c : Dev nD) (t : Fin cfg0.N) (h0 : t.val % 13 = 0) :
    (outsAt0 m c t.val t.isLt).2 = k0_pay1 (F := Ideal) (iblk m c 0 t) (iblk m c 1 t) := by
  rw [outsAt0_A m c t h0 (by omega) (by omega) (by omega) (by omega)]
  frame_out
theorem scrX (c : Dev nD) (t : Fin cfg0.N) (h0 : ¬t.val % 13 = 0) :
    (outsAt0 m c t.val t.isLt).2 = prev m c t := by
  by_cases h1 : t.val % 13 = 2
  · rw [outsAt0_C m c t h0 h1 (by omega) (by omega) (by omega)]; rfl
  by_cases h2 : t.val % 13 = 11
  · rw [outsAt0_E m c t h0 h1 h2 (by omega) (by omega)]; rfl
  by_cases h3 : t.val % 13 = 4
  · rw [outsAt0_D m c t h0 h1 h2 h3 (by omega)]; rfl
  rw [outsAt0_B m c t h0 h1 h2 h3 (by omega)]; rfl

theorem outA (c : Dev nD) (t : Fin cfg0.N) (h0 : t.val % 13 = 0) :
    (outsAt0 m c t.val t.isLt).1 = k0_pay7 (F := Ideal) (k0_pay1 (F := Ideal) (iblk m c 0 t) (iblk m c 1 t)) (iblk m c 2 t) := by
  rw [outsAt0_A m c t h0 (by omega) (by omega) (by omega) (by omega)]
  frame_out
theorem outB (c : Dev nD) (t : Fin cfg0.N) (h0 : ¬t.val % 13 = 0) (h1 : ¬t.val % 13 = 2) (h2 : ¬t.val % 13 = 11) (h3 : ¬t.val % 13 = 4) :
    (outsAt0 m c t.val t.isLt).1 = k0_pay7 (F := Ideal) (prev m c t) (iblk m c 2 t) := by
  rw [outsAt0_B m c t h0 h1 h2 h3 (by omega)]
  frame_out
  simp only [read_unread_whole]
theorem outC (c : Dev nD) (t : Fin cfg0.N) (h1 : t.val % 13 = 2) :
    (outsAt0 m c t.val t.isLt).1 = k0_pay2 (F := Ideal) (k0_pay9 (iblk m c 3 t)) (k0_pay10 (iblk m c 4 t))
      (k0_pay11 (prev m c t) (iblk m c 2 t) (iblk m c 3 t) (iblk m c 4 t))
      (k0_pay12 (prev m c t) (iblk m c 2 t) (iblk m c 3 t) (iblk m c 4 t))
      (k0_pay13 (prev m c t) (iblk m c 2 t) (iblk m c 3 t) (iblk m c 4 t))
      (k0_pay14 (prev m c t) (iblk m c 2 t) (iblk m c 3 t) (iblk m c 4 t))
      (k0_pay15 (prev m c t) (iblk m c 2 t) (iblk m c 3 t) (iblk m c 4 t))
      (k0_pay16 (prev m c t) (iblk m c 2 t) (iblk m c 3 t) (iblk m c 4 t))
      (k0_pay17 (prev m c t) (iblk m c 2 t) (iblk m c 3 t) (iblk m c 4 t))
      (k0_pay18 (prev m c t) (iblk m c 2 t)) := by
  rw [outsAt0_C m c t (by omega) h1 (by omega) (by omega) (by omega)]
  frame_out
  simp only [read_unread_whole]
theorem outD (c : Dev nD) (t : Fin cfg0.N) (h1 : t.val % 13 = 4) :
    (outsAt0 m c t.val t.isLt).1 = k0_pay6 (F := Ideal) (k0_pay19 (prev m c t) (iblk m c 2 t)) (k0_pay20 (iblk m c 5 t)) (k0_pay21 (iblk m c 6 t)) k0_pay22
      (k0_pay23 (prev m c t) (iblk m c 2 t) (iblk m c 5 t) (iblk m c 6 t))
      (k0_pay28 (k0_pay20 (iblk m c 5 t)) (k0_pay21 (iblk m c 6 t)) (k0_pay24 (prev m c t) (iblk m c 2 t)) (k0_pay25 (prev m c t) (iblk m c 2 t)) (k0_pay26 (prev m c t) (iblk m c 2 t)) k0_pay27)
      (k0_pay29 (k0_pay19 (prev m c t) (iblk m c 2 t)) (k0_pay20 (iblk m c 5 t)) (k0_pay21 (iblk m c 6 t)) k0_pay22)
      (k0_pay30 (k0_pay19 (prev m c t) (iblk m c 2 t)) (k0_pay20 (iblk m c 5 t)) (k0_pay21 (iblk m c 6 t)) k0_pay22)
      (k0_pay31 (k0_pay19 (prev m c t) (iblk m c 2 t)) (k0_pay20 (iblk m c 5 t)) (k0_pay21 (iblk m c 6 t)) k0_pay22)
      (k0_pay32 (k0_pay19 (prev m c t) (iblk m c 2 t)) (k0_pay20 (iblk m c 5 t)) (k0_pay21 (iblk m c 6 t)) k0_pay22)
      (k0_pay33 (k0_pay19 (prev m c t) (iblk m c 2 t)) (k0_pay20 (iblk m c 5 t)) (k0_pay21 (iblk m c 6 t)) k0_pay22) := by
  rw [outsAt0_D m c t (by omega) (by omega) (by omega) h1 (by omega)]
  frame_out
  simp only [read_unread_whole]
theorem outE (c : Dev nD) (t : Fin cfg0.N) (h1 : t.val % 13 = 11) (r : Fin 1024) (q : Fin 1024) :
    (outsAt0 m c t.val t.isLt).1 (ix2 r q) = if h : q.val < 512 then k0_pay4 (F := Ideal) (prev m c t) (iblk m c 2 t) (iblk m c 3 t) (iblk m c 4 t) (ix2 r (⟨q.val, h⟩ : Fin 512))
      else k0_pay5 (F := Ideal) (prev m c t) (iblk m c 2 t) (ix2 r (⟨q.val - 512, by omega⟩ : Fin 512)) := by
  rw [outsAt0_E m c t (by omega) (by omega) h1 (by omega) (by omega)]
  frame_out
  simp only [read_unread_whole]
  by_cases h : q.val < 512
  · rw [dif_pos h]
    have e : ix2 r q = (Rect.unit (s := S1024x1024) ![0, 0] ![1024, 512] inb_S1024x1024_S1024x512_0_0).emb (ix2 r (⟨q.val, h⟩ : Fin 512)) := by
      blk_ext
    rw [View.canon_cons_of_not_mem _ _ (by
      rw [Rect.mem_set_unit]
      intro hh
      have := (hh 1).1
      change 512 ≤ q.val at this
      omega)]
    rw [e]
    exact View.canon_cons_emb _ _ _ _
  · rw [dif_neg h]
    have e : ix2 r q = (Rect.unit (s := S1024x1024) ![0, 512] ![1024, 512] inb_S1024x1024_S1024x512_0_512).emb (ix2 r (⟨q.val - 512, by omega⟩ : Fin 512)) := by
      blk_ext
    rw [e]
    exact View.canon_cons_emb _ _ _ _

theorem dot (xs : FVec Ideal S1024x2048 .bf16) (w : FVec Ideal S2048x1024 .bf16) (r : Fin 1024) (q : Fin 1024) :
    k0_pay7 (F := Ideal) xs w (ix2 r q) = ∑ k : Fin 2048, xs (ix2 r k) * w (ix2 k q) := by
  pointwise [k0_pay7]
theorem cg {n : ℕ} (f : Fin n → EReal) {a b : Fin n} (h : a.val = b.val) : f a = f b := congrArg f (Fin.ext h)

/-- Columns of a block turned in pairs 64 apart, within each 128. -/
def rot128 (Y : S1024x1024.Idx → EReal) (c s : S1024x128.Idx → EReal) (r : Fin 1024) (q : Fin 1024) : EReal :=
  Y (ix2 r q) * c (ix2 r (⟨q.val % 128, by omega⟩ : Fin 128))
    + Y (ix2 r (⟨q.val / 128 * 128 + (q.val % 128 + 64) % 128, by omega⟩ : Fin 1024)) * s (ix2 r (⟨q.val % 128, by omega⟩ : Fin 128))

/-- Columns of a block turned in pairs 32 apart, within each 64. -/
def rot64 (Y : S1024x1024.Idx → EReal) (c s : S1024x128.Idx → EReal) (r : Fin 1024) (q : Fin 1024) : EReal :=
  Y (ix2 r q) * c (ix2 r (⟨q.val % 128, by omega⟩ : Fin 128))
    + Y (ix2 r (⟨q.val / 64 * 64 + (q.val % 64 + 32) % 64, by omega⟩ : Fin 1024)) * s (ix2 r (⟨q.val % 128, by omega⟩ : Fin 128))

set_option maxHeartbeats 2000000 in
theorem ropeC (xs : FVec Ideal S1024x2048 .bf16) (w : FVec Ideal S2048x1024 .bf16) (c s : FVec Ideal S1024x128 .f32) (r : Fin 1024) (q : Fin 1024) :
    k0_pay2 (F := Ideal) (k0_pay9 c) (k0_pay10 s) (k0_pay11 xs w c s) (k0_pay12 xs w c s) (k0_pay13 xs w c s) (k0_pay14 xs w c s) (k0_pay15 xs w c s) (k0_pay16 xs w c s) (k0_pay17 xs w c s) (k0_pay18 xs w) (ix2 r q)
      = rot128 (k0_pay7 (F := Ideal) xs w) c s r q := by
  have e8 : k0_pay8 (F := Ideal) xs w = k0_pay7 xs w := rfl
  simp only [k0_pay11, k0_pay12, k0_pay13, k0_pay14, k0_pay15, k0_pay16, k0_pay17, k0_pay18, e8]
  generalize k0_pay7 (F := Ideal) xs w = Y
  pointwise [k0_pay2, k0_pay9, k0_pay10]
  have key : ∀ (a b : Fin 1024) (i j : Fin 128), a = q → b.val = q.val / 128 * 128 + (q.val % 128 + 64) % 128 → i.val = q.val % 128 → j.val = q.val % 128 →
      Y (ix2 r a) * c (ix2 r i) + Y (ix2 r b) * s (ix2 r j) = rot128 Y c s r q := by
    intro a b i j ha hb hi hj
    exact congrArg₂ (· + ·) (congrArg₂ (· * ·) (cg (fun a => Y (ix2 r a)) (congrArg Fin.val ha)) (cg (fun i => c (ix2 r i)) hi)) (congrArg₂ (· * ·) (cg (fun a => Y (ix2 r a)) hb) (cg (fun i => s (ix2 r i)) hj))
  split_ifs <;> exact key _ _ _ _ (Fin.ext (by (try dsimp only) <;> omega)) (by (try dsimp only) <;> omega) (by (try dsimp only) <;> omega) (by (try dsimp only) <;> omega)

/-- The rotation of the left half of a block. -/
def payE (Y : FVec Ideal S1024x1024 .f32) (v24 v26 : FVec Ideal S1024x128 .f32) : FVec Ideal S1024x512 .f32 :=
  have v23 : FVec Ideal S1024x512 .f32 := extractStridedSlice S1024x512 ![0, 0] Y slices_S1024x1024_o0_0_S1024x512
  have v25 : FVec Ideal S1024x128 .f32 := shapeCast S1024x128 v24 shapeCasts_S1024x128_S1024x128
  have v27 : FVec Ideal S1024x128 .f32 := shapeCast S1024x128 v26 shapeCasts_S1024x128_S1024x128
  have v28 : FVec Ideal S1024x128 .f32 := extractStridedSlice S1024x128 ![0, 0] v23 slices_S1024x512_o0_0_S1024x128
  have v29 : FVec Ideal S1024x128 .f32 := mulf v28 v25
  have v30 : FVec Ideal S1024x128 .f32 := dynamicRotate 1 64#32 none v28 rotates_S1024x128_d1
  have v31 : FVec Ideal S1024x128 .f32 := mulf v30 v27
  have v32 : FVec Ideal S1024x128 .f32 := addf v29 v31
  have v33 : FVec Ideal S1024x128 .f32 := extractStridedSlice S1024x128 ![0, 128] v23 slices_S1024x512_o0_128_S1024x128
  have v34 : FVec Ideal S1024x128 .f32 := mulf v33 v25
  have v35 : FVec Ideal S1024x128 .f32 := dynamicRotate 1 64#32 none v33 rotates_S1024x128_d1
  have v36 : FVec Ideal S1024x128 .f32 := mulf v35 v27
  have v37 : FVec Ideal S1024x128 .f32 := addf v34 v36
  have v38 : FVec Ideal S1024x128 .f32 := extractStridedSlice S1024x128 ![0, 256] v23 slices_S1024x512_o0_256_S1024x128
  have v39 : FVec Ideal S1024x128 .f32 := mulf v38 v25
  have v40 : FVec Ideal S1024x128 .f32 := dynamicRotate 1 64#32 none v38 rotates_S1024x128_d1
  have v41 : FVec Ideal S1024x128 .f32 := mulf v40 v27
  have v42 : FVec Ideal S1024x128 .f32 := addf v39 v41
  have v43 : FVec Ideal S1024x128 .f32 := extractStridedSlice S1024x128 ![0, 384] v23 slices_S1024x512_o0_384_S1024x128
  have v44 : FVec Ideal S1024x128 .f32 := mulf v43 v25
  have v45 : FVec Ideal S1024x128 .f32 := dynamicRotate 1 64#32 none v43 rotates_S1024x128_d1
  have v46 : FVec Ideal S1024x128 .f32 := mulf v45 v27
  have v47 : FVec Ideal S1024x128 .f32 := addf v44 v46
  have v48 : FVec Ideal S1024x512 .f32 := concatenate S1024x512 1 [⟨S1024x128, v32⟩, ⟨S1024x128, v37⟩, ⟨S1024x128, v42⟩, ⟨S1024x128, v47⟩] concatenates_S1024x128_S1024x128_S1024x128_S1024x128_S1024x512_d1
  v48

set_option maxHeartbeats 2000000 in
theorem ropeE (xs : FVec Ideal S1024x2048 .bf16) (w : FVec Ideal S2048x1024 .bf16) (c s : FVec Ideal S1024x128 .f32) (r : Fin 1024) (q : Fin 512) :
    k0_pay4 (F := Ideal) xs w c s (ix2 r q)
      = rot128 (k0_pay7 (F := Ideal) xs w) c s r ⟨q.val, by omega⟩ := by
  have e8 : k0_pay4 (F := Ideal) xs w c s = payE (k0_pay7 xs w) c s := rfl
  rw [e8]
  generalize k0_pay7 (F := Ideal) xs w = Y
  pointwise [payE]
  have key : ∀ (a b : Fin 1024) (i j : Fin 128), a.val = q.val → b.val = q.val / 128 * 128 + (q.val % 128 + 64) % 128 → i.val = q.val % 128 → j.val = q.val % 128 →
      Y (ix2 r a) * c (ix2 r i) + Y (ix2 r b) * s (ix2 r j) = rot128 Y c s r ⟨q.val, by omega⟩ := by
    intro a b i j ha hb hi hj
    exact congrArg₂ (· + ·) (congrArg₂ (· * ·) (cg (fun a => Y (ix2 r a)) ha) (cg (fun i => c (ix2 r i)) hi)) (congrArg₂ (· * ·) (cg (fun a => Y (ix2 r a)) hb) (cg (fun i => s (ix2 r i)) hj))
  split_ifs <;> exact key _ _ _ _ (by (try dsimp only) <;> omega) (by (try dsimp only) <;> omega) (by (try dsimp only) <;> omega) (by (try dsimp only) <;> omega)

theorem plainE (xs : FVec Ideal S1024x2048 .bf16) (w : FVec Ideal S2048x1024 .bf16) (r : Fin 1024) (q : Fin 512) :
    k0_pay5 (F := Ideal) xs w (ix2 r q) = k0_pay7 (F := Ideal) xs w (ix2 r (⟨512 + q.val, by omega⟩ : Fin 1024)) := by
  have e8 : k0_pay3 (F := Ideal) xs w = k0_pay7 xs w := rfl
  pointwise [k0_pay5]
  simp only [e8]

/-- The lanes in the first half of their 64. -/
theorem lane : ∀ l : Fin 128, k0_pay22 (ix2 (0 : Fin 1) l) = if l.val % 64 < 32 then 1#1 else 0#1 := by
  decide +kernel

set_option maxHeartbeats 2000000 in
theorem ropeD (xs : FVec Ideal S1024x2048 .bf16) (w : FVec Ideal S2048x1024 .bf16) (c s : FVec Ideal S1024x128 .f32) (r : Fin 1024) (q : Fin 1024) :
    k0_pay6 (F := Ideal) (k0_pay19 xs w) (k0_pay20 c) (k0_pay21 s) k0_pay22
      (k0_pay23 xs w c s)
      (k0_pay28 (k0_pay20 c) (k0_pay21 s) (k0_pay24 xs w) (k0_pay25 xs w) (k0_pay26 xs w) k0_pay27)
      (k0_pay29 (k0_pay19 xs w) (k0_pay20 c) (k0_pay21 s) k0_pay22)
      (k0_pay30 (k0_pay19 xs w) (k0_pay20 c) (k0_pay21 s) k0_pay22)
      (k0_pay31 (k0_pay19 xs w) (k0_pay20 c) (k0_pay21 s) k0_pay22)
      (k0_pay32 (k0_pay19 xs w) (k0_pay20 c) (k0_pay21 s) k0_pay22)
      (k0_pay33 (k0_pay19 xs w) (k0_pay20 c) (k0_pay21 s) k0_pay22) (ix2 r q) = rot64 (k0_pay7 (F := Ideal) xs w) c s r q := by
  have e8 : k0_pay19 (F := Ideal) xs w = k0_pay7 xs w := rfl
  have e9 : k0_pay27 = k0_pay22 := by
    funext j
    pointwise [k0_pay27]
  rw [e9]
  simp only [k0_pay23, k0_pay24, k0_pay25, k0_pay26, e8]
  generalize k0_pay7 (F := Ideal) xs w = Y
  generalize hL : k0_pay22 = L
  have lane' : ∀ l : Fin 128, L (ix2 (0 : Fin 1) l) = if l.val % 64 < 32 then 1#1 else 0#1 := by
    rw [← hL]; exact lane
  pointwise [k0_pay6, k0_pay20, k0_pay21, k0_pay28, k0_pay29, k0_pay30, k0_pay31, k0_pay32, k0_pay33]
  have key : ∀ (a b b' : Fin 1024) (i j l : Fin 128), a = q → b.val = q.val / 128 * 128 + (q.val % 128 + 32) % 128 →
      b'.val = q.val / 128 * 128 + (q.val % 128 + 96) % 128 → i.val = q.val % 128 → j.val = q.val % 128 → l.val = q.val % 128 →
      Y (ix2 r a) * c (ix2 r i) + Scalar.select (L (ix2 (0 : Fin 1) l)) (Y (ix2 r b)) (Y (ix2 r b')) * s (ix2 r j) = rot64 Y c s r q := by
    intro a b b' i j l ha hb hb' hi hj hl
    rw [lane' l]
    by_cases hh : l.val % 64 < 32
    · rw [if_pos hh]
      exact congrArg₂ (· + ·) (congrArg₂ (· * ·) (cg (fun a => Y (ix2 r a)) (congrArg Fin.val ha)) (cg (fun i => c (ix2 r i)) hi)) (congrArg₂ (· * ·) (cg (fun a => Y (ix2 r a)) (show _ = q.val / 64 * 64 + (q.val % 64 + 32) % 64 by omega)) (cg (fun i => s (ix2 r i)) hj))
    · rw [if_neg hh]
      exact congrArg₂ (· + ·) (congrArg₂ (· * ·) (cg (fun a => Y (ix2 r a)) (congrArg Fin.val ha)) (cg (fun i => c (ix2 r i)) hi)) (congrArg₂ (· * ·) (cg (fun a => Y (ix2 r a)) (show _ = q.val / 64 * 64 + (q.val % 64 + 32) % 64 by omega)) (cg (fun i => s (ix2 r i)) hj))
  split_ifs <;> exact key _ _ _ _ _ _ (Fin.ext (by (try dsimp only) <;> omega)) (by (try dsimp only) <;> omega) (by (try dsimp only) <;> omega) (by (try dsimp only) <;> omega) (by (try dsimp only) <;> omega) (by (try dsimp only) <;> omega)

end Cert.ProjIdeal.Val

end
-- ==== Proof.ProjRef.lean ====
module

public import proofs.«01_k».proof.Proof.Gen.ProjRefIdeal.Run
public import Idealize.ShloMosaic.Lib.Tactic.IndexArith
public import Idealize.ShloMosaic.Lib.Pointwise

@[expose] public section

set_option maxRecDepth 16384

noncomputable section

namespace Cert.ProjRefIdeal.Val

open Cert.ProjRefIdeal Cert.ProjRefIdeal.Gen Idealize.ShloMosaic Idealize.ShloMosaic.TcCoe Idealize.ShloMosaic.Tactic

theorem cg {n : ℕ} (f : Fin n → EReal) {a b : Fin n} (h : a.val = b.val) : f a = f b := congrArg f (Fin.ext h)

/-- Columns turned in pairs 64 apart, within each 128. -/
def tw64 (y : Fin 13312 → EReal) (C S : Fin 64 → EReal) (q : Fin 13312) : EReal :=
  y q * C ⟨q.val % 64, by omega⟩
    + y ⟨q.val / 128 * 128 + (q.val % 128 + 64) % 128, by omega⟩ * (if q.val % 128 < 64 then -S ⟨q.val % 64, by omega⟩ else S ⟨q.val % 64, by omega⟩)

theorem tw64_lo (y : Fin 13312 → EReal) (C S : Fin 64 → EReal) (q u v : Fin 13312) (i j : Fin 64) (h : q.val % 128 < 64)
    (hu : u.val = q.val) (hv : v.val = q.val + 64) (hi : i.val = q.val % 128) (hj : j.val = q.val % 128) : y u * C i - y v * S j = tw64 y C S q := by
  have eu : y u = y q := cg y hu
  have ev : y v = y (⟨q.val / 128 * 128 + (q.val % 128 + 64) % 128, by omega⟩ : Fin 13312) := cg y (by dsimp only; omega)
  have ei : C i = C (⟨q.val % 64, by omega⟩ : Fin 64) := cg C (by dsimp only; omega)
  have ej : S j = S (⟨q.val % 64, by omega⟩ : Fin 64) := cg S (by dsimp only; omega)
  unfold tw64
  rw [if_pos h, eu, ev, ei, ej, mul_neg, sub_eq_add_neg]

theorem tw64_hi (y : Fin 13312 → EReal) (C S : Fin 64 → EReal) (q u v : Fin 13312) (i j : Fin 64) (h : ¬q.val % 128 < 64)
    (hu : u.val = q.val - 64) (hv : v.val = q.val) (hi : i.val = q.val % 128 - 64) (hj : j.val = q.val % 128 - 64) : y u * S i + y v * C j = tw64 y C S q := by
  have eu : y u = y (⟨q.val / 128 * 128 + (q.val % 128 + 64) % 128, by omega⟩ : Fin 13312) := cg y (by dsimp only; omega)
  have ev : y v = y q := cg y hv
  have ei : S i = S (⟨q.val % 64, by omega⟩ : Fin 64) := cg S (by dsimp only; omega)
  have ej : C j = C (⟨q.val % 64, by omega⟩ : Fin 64) := cg C (by dsimp only; omega)
  unfold tw64
  rw [if_neg h, eu, ev, ei, ej, add_comm]

/-- Columns turned in pairs 32 apart, within each 64. -/
def tw32 (y : Fin 13312 → EReal) (C S : Fin 32 → EReal) (q : Fin 13312) : EReal :=
  y q * C ⟨q.val % 32, by omega⟩
    + y ⟨q.val / 64 * 64 + (q.val % 64 + 32) % 64, by omega⟩ * (if q.val % 64 < 32 then -S ⟨q.val % 32, by omega⟩ else S ⟨q.val % 32, by omega⟩)

theorem tw32_lo (y : Fin 13312 → EReal) (C S : Fin 32 → EReal) (q u v : Fin 13312) (i j : Fin 32) (h : q.val % 64 < 32)
    (hu : u.val = q.val) (hv : v.val = q.val + 32) (hi : i.val = q.val % 64) (hj : j.val = q.val % 64) : y u * C i - y v * S j = tw32 y C S q := by
  have eu : y u = y q := cg y hu
  have ev : y v = y (⟨q.val / 64 * 64 + (q.val % 64 + 32) % 64, by omega⟩ : Fin 13312) := cg y (by dsimp only; omega)
  have ei : C i = C (⟨q.val % 32, by omega⟩ : Fin 32) := cg C (by dsimp only; omega)
  have ej : S j = S (⟨q.val % 32, by omega⟩ : Fin 32) := cg S (by dsimp only; omega)
  unfold tw32
  rw [if_pos h, eu, ev, ei, ej, mul_neg, sub_eq_add_neg]

theorem tw32_hi (y : Fin 13312 → EReal) (C S : Fin 32 → EReal) (q u v : Fin 13312) (i j : Fin 32) (h : ¬q.val % 64 < 32)
    (hu : u.val = q.val - 32) (hv : v.val = q.val) (hi : i.val = q.val % 64 - 32) (hj : j.val = q.val % 64 - 32) : y u * S i + y v * C j = tw32 y C S q := by
  have eu : y u = y (⟨q.val / 64 * 64 + (q.val % 64 + 32) % 64, by omega⟩ : Fin 13312) := cg y (by dsimp only; omega)
  have ev : y v = y q := cg y hv
  have ei : S i = S (⟨q.val % 32, by omega⟩ : Fin 32) := cg S (by dsimp only; omega)
  have ej : C j = C (⟨q.val % 32, by omega⟩ : Fin 32) := cg C (by dsimp only; omega)
  unfold tw32
  rw [if_neg h, eu, ev, ei, ej, add_comm]

/-- Each column turned, or left. -/
def val (Y : Fin 8192 → Fin 13312 → EReal) (x3 x4 : S2048x64.Idx → EReal) (x5 x6 : S2048x32.Idx → EReal) (r : Fin 8192) (q : Fin 13312) : EReal :=
  if (2048 ≤ q.val ∧ q.val < 3072) ∨ (11264 ≤ q.val ∧ q.val < 11776) then
    tw64 (Y r) (fun i => x3 (ix2 (⟨r.val % 2048, by omega⟩ : Fin 2048) i)) (fun i => x4 (ix2 (⟨r.val % 2048, by omega⟩ : Fin 2048) i)) q
  else if 4096 ≤ q.val ∧ q.val < 5120 then
    tw32 (Y r) (fun i => x5 (ix2 (⟨r.val % 2048, by omega⟩ : Fin 2048) i)) (fun i => x6 (ix2 (⟨r.val % 2048, by omega⟩ : Fin 2048) i)) q
  else Y r q

/-- A row normalised and scaled. -/
def xn (x0 : S8192x2048.Idx → EReal) (x1 : S2048.Idx → EReal) (r : Fin 8192) (k : Fin 2048) : EReal :=
  x0 (ix2 r k) * Ideal.rsqrt (Ideal.div (∑ x : Fin 2048, x0 (ix2 r x) * x0 (ix2 r x)) (Ideal.ofBits FTy.f32 0x45000000#32) + Ideal.ofBits FTy.f32 0x358637BD#32) * x1 (ix1 k)

/-- The projection at every index. -/
def res (x0 : S8192x2048.Idx → EReal) (x1 : S2048.Idx → EReal) (x2 : S2048x13312.Idx → EReal) (x3 x4 : S2048x64.Idx → EReal) (x5 x6 : S2048x32.Idx → EReal) :
    S8192x13312.Idx → EReal := fun j =>
  val (fun r q => ∑ k : Fin 2048, xn x0 x1 r k * x2 (ix2 k q)) x3 x4 x5 x6 (j 0) (j 1)

/-- The reference's product of the normalised rows with the weights. -/
def prod (x0 : FVec Ideal S8192x2048 .f32) (x1 : FVec Ideal S2048 .f32) (x2 : FVec Ideal S2048x13312 .f32) : FVec Ideal S8192x13312 .f32 :=
  (Host.dotGeneral dot_S8192x2048_S2048x13312_S8192x13312_1_0_0_1_n_n none (mulf (mulf x0 (broadcastInDim S8192x2048 ![0, 1] bcast_S8192x1_S8192x2048_0_1 (Host.rsqrt (addf (Host.divf (broadcastInDim S8192x1 ![0] bcast_S8192_S8192x1_0 (Host.reduceAdd (mulf x0 x0) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 x1))) x2)

/-- The queries' columns, turned. -/
def part_q (Z : FVec Ideal S4x2048x13312 .f32) (x3 x4 : FVec Ideal S2048x64 .f32) : FVec Ideal S4x2048x1024 .f32 :=
  (shapeCast _ (concatenate S4x2048x8x128 3 [⟨S4x2048x8x64, (subf (mulf (extractStridedSlice S4x2048x8x64 ![0, 0, 0, 0] (shapeCast _ (extractStridedSlice S4x2048x1024 ![0, 0, 2048] Z slices_S4x2048x13312_S4x2048x1024_0_0_2048) shapeCasts_S4x2048x1024_S4x2048x8x128) slices_S4x2048x8x128_S4x2048x8x64_0_0_0_0) (broadcastInDim S4x2048x8x64 ![0, 1, 2, 3] bcast_S1x2048x1x64_S4x2048x8x64_0_1_2_3 (broadcastInDim S1x2048x1x64 ![1, 2, 3] bcast_S2048x1x64_S1x2048x1x64_1_2_3 (broadcastInDim S2048x1x64 ![0, 2] bcast_S2048x64_S2048x1x64_0_2 x3)))) (mulf (extractStridedSlice S4x2048x8x64 ![0, 0, 0, 64] (shapeCast _ (extractStridedSlice S4x2048x1024 ![0, 0, 2048] Z slices_S4x2048x13312_S4x2048x1024_0_0_2048) shapeCasts_S4x2048x1024_S4x2048x8x128) slices_S4x2048x8x128_S4x2048x8x64_0_0_0_64) (broadcastInDim S4x2048x8x64 ![0, 1, 2, 3] bcast_S1x2048x1x64_S4x2048x8x64_0_1_2_3 (broadcastInDim S1x2048x1x64 ![1, 2, 3] bcast_S2048x1x64_S1x2048x1x64_1_2_3 (broadcastInDim S2048x1x64 ![0, 2] bcast_S2048x64_S2048x1x64_0_2 x4)))))⟩, ⟨S4x2048x8x64, (addf (mulf (extractStridedSlice S4x2048x8x64 ![0, 0, 0, 0] (shapeCast _ (extractStridedSlice S4x2048x1024 ![0, 0, 2048] Z slices_S4x2048x13312_S4x2048x1024_0_0_2048) shapeCasts_S4x2048x1024_S4x2048x8x128) slices_S4x2048x8x128_S4x2048x8x64_0_0_0_0) (broadcastInDim S4x2048x8x64 ![0, 1, 2, 3] bcast_S1x2048x1x64_S4x2048x8x64_0_1_2_3 (broadcastInDim S1x2048x1x64 ![1, 2, 3] bcast_S2048x1x64_S1x2048x1x64_1_2_3 (broadcastInDim S2048x1x64 ![0, 2] bcast_S2048x64_S2048x1x64_0_2 x4)))) (mulf (extractStridedSlice S4x2048x8x64 ![0, 0, 0, 64] (shapeCast _ (extractStridedSlice S4x2048x1024 ![0, 0, 2048] Z slices_S4x2048x13312_S4x2048x1024_0_0_2048) shapeCasts_S4x2048x1024_S4x2048x8x128) slices_S4x2048x8x128_S4x2048x8x64_0_0_0_64) (broadcastInDim S4x2048x8x64 ![0, 1, 2, 3] bcast_S1x2048x1x64_S4x2048x8x64_0_1_2_3 (broadcastInDim S1x2048x1x64 ![1, 2, 3] bcast_S2048x1x64_S1x2048x1x64_1_2_3 (broadcastInDim S2048x1x64 ![0, 2] bcast_S2048x64_S2048x1x64_0_2 x3)))))⟩] concatenates_S4x2048x8x64_S4x2048x8x64_S4x2048x8x128_d3) shapeCasts_S4x2048x8x128_S4x2048x1024)

/-- The indexer's queries' columns, turned. -/
def part_i (Z : FVec Ideal S4x2048x13312 .f32) (x5 x6 : FVec Ideal S2048x32 .f32) : FVec Ideal S4x2048x1024 .f32 :=
  (shapeCast _ (concatenate S4x2048x16x64 3 [⟨S4x2048x16x32, (subf (mulf (extractStridedSlice S4x2048x16x32 ![0, 0, 0, 0] (shapeCast _ (extractStridedSlice S4x2048x1024 ![0, 0, 4096] Z slices_S4x2048x13312_S4x2048x1024_0_0_4096) shapeCasts_S4x2048x1024_S4x2048x16x64) slices_S4x2048x16x64_S4x2048x16x32_0_0_0_0) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 x5)))) (mulf (extractStridedSlice S4x2048x16x32 ![0, 0, 0, 32] (shapeCast _ (extractStridedSlice S4x2048x1024 ![0, 0, 4096] Z slices_S4x2048x13312_S4x2048x1024_0_0_4096) shapeCasts_S4x2048x1024_S4x2048x16x64) slices_S4x2048x16x64_S4x2048x16x32_0_0_0_32) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 x6)))))⟩, ⟨S4x2048x16x32, (addf (mulf (extractStridedSlice S4x2048x16x32 ![0, 0, 0, 0] (shapeCast _ (extractStridedSlice S4x2048x1024 ![0, 0, 4096] Z slices_S4x2048x13312_S4x2048x1024_0_0_4096) shapeCasts_S4x2048x1024_S4x2048x16x64) slices_S4x2048x16x64_S4x2048x16x32_0_0_0_0) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 x6)))) (mulf (extractStridedSlice S4x2048x16x32 ![0, 0, 0, 32] (shapeCast _ (extractStridedSlice S4x2048x1024 ![0, 0, 4096] Z slices_S4x2048x13312_S4x2048x1024_0_0_4096) shapeCasts_S4x2048x1024_S4x2048x16x64) slices_S4x2048x16x64_S4x2048x16x32_0_0_0_32) (broadcastInDim S4x2048x16x32 ![0, 1, 2, 3] bcast_S1x2048x1x32_S4x2048x16x32_0_1_2_3 (broadcastInDim S1x2048x1x32 ![1, 2, 3] bcast_S2048x1x32_S1x2048x1x32_1_2_3 (broadcastInDim S2048x1x32 ![0, 2] bcast_S2048x32_S2048x1x32_0_2 x5)))))⟩] concatenates_S4x2048x16x32_S4x2048x16x32_S4x2048x16x64_d3) shapeCasts_S4x2048x16x64_S4x2048x1024)

/-- The keys' columns, turned. -/
def part_k (Z : FVec Ideal S4x2048x13312 .f32) (x3 x4 : FVec Ideal S2048x64 .f32) : FVec Ideal S4x2048x512 .f32 :=
  (shapeCast _ (concatenate S4x2048x4x128 3 [⟨S4x2048x4x64, (subf (mulf (extractStridedSlice S4x2048x4x64 ![0, 0, 0, 0] (shapeCast _ (extractStridedSlice S4x2048x512 ![0, 0, 11264] Z slices_S4x2048x13312_S4x2048x512_0_0_11264) shapeCasts_S4x2048x512_S4x2048x4x128) slices_S4x2048x4x128_S4x2048x4x64_0_0_0_0) (broadcastInDim S4x2048x4x64 ![0, 1, 2, 3] bcast_S1x2048x1x64_S4x2048x4x64_0_1_2_3 (broadcastInDim S1x2048x1x64 ![1, 2, 3] bcast_S2048x1x64_S1x2048x1x64_1_2_3 (broadcastInDim S2048x1x64 ![0, 2] bcast_S2048x64_S2048x1x64_0_2 x3)))) (mulf (extractStridedSlice S4x2048x4x64 ![0, 0, 0, 64] (shapeCast _ (extractStridedSlice S4x2048x512 ![0, 0, 11264] Z slices_S4x2048x13312_S4x2048x512_0_0_11264) shapeCasts_S4x2048x512_S4x2048x4x128) slices_S4x2048x4x128_S4x2048x4x64_0_0_0_64) (broadcastInDim S4x2048x4x64 ![0, 1, 2, 3] bcast_S1x2048x1x64_S4x2048x4x64_0_1_2_3 (broadcastInDim S1x2048x1x64 ![1, 2, 3] bcast_S2048x1x64_S1x2048x1x64_1_2_3 (broadcastInDim S2048x1x64 ![0, 2] bcast_S2048x64_S2048x1x64_0_2 x4)))))⟩, ⟨S4x2048x4x64, (addf (mulf (extractStridedSlice S4x2048x4x64 ![0, 0, 0, 0] (shapeCast _ (extractStridedSlice S4x2048x512 ![0, 0, 11264] Z slices_S4x2048x13312_S4x2048x512_0_0_11264) shapeCasts_S4x2048x512_S4x2048x4x128) slices_S4x2048x4x128_S4x2048x4x64_0_0_0_0) (broadcastInDim S4x2048x4x64 ![0, 1, 2, 3] bcast_S1x2048x1x64_S4x2048x4x64_0_1_2_3 (broadcastInDim S1x2048x1x64 ![1, 2, 3] bcast_S2048x1x64_S1x2048x1x64_1_2_3 (broadcastInDim S2048x1x64 ![0, 2] bcast_S2048x64_S2048x1x64_0_2 x4)))) (mulf (extractStridedSlice S4x2048x4x64 ![0, 0, 0, 64] (shapeCast _ (extractStridedSlice S4x2048x512 ![0, 0, 11264] Z slices_S4x2048x13312_S4x2048x512_0_0_11264) shapeCasts_S4x2048x512_S4x2048x4x128) slices_S4x2048x4x128_S4x2048x4x64_0_0_0_64) (broadcastInDim S4x2048x4x64 ![0, 1, 2, 3] bcast_S1x2048x1x64_S4x2048x4x64_0_1_2_3 (broadcastInDim S1x2048x1x64 ![1, 2, 3] bcast_S2048x1x64_S1x2048x1x64_1_2_3 (broadcastInDim S2048x1x64 ![0, 2] bcast_S2048x64_S2048x1x64_0_2 x3)))))⟩] concatenates_S4x2048x4x64_S4x2048x4x64_S4x2048x4x128_d3) shapeCasts_S4x2048x4x128_S4x2048x512)

/-- The columns put side by side. -/
def join (Z : FVec Ideal S4x2048x13312 .f32) (P Q : FVec Ideal S4x2048x1024 .f32) (R : FVec Ideal S4x2048x512 .f32) : FVec Ideal S4x2048x13312 .f32 :=
  (concatenate S4x2048x13312 2 [⟨S4x2048x2048, ((extractStridedSlice S4x2048x2048 ![0, 0, 0] Z slices_S4x2048x13312_S4x2048x2048_0_0_0) : (⟨S4x2048x2048, .f32⟩ : BufTy).Contents (Elt Ideal))⟩, ⟨S4x2048x1024, ((P) : (⟨S4x2048x1024, .f32⟩ : BufTy).Contents (Elt Ideal))⟩, ⟨S4x2048x1024, ((extractStridedSlice S4x2048x1024 ![0, 0, 3072] Z slices_S4x2048x13312_S4x2048x1024_0_0_3072) : (⟨S4x2048x1024, .f32⟩ : BufTy).Contents (Elt Ideal))⟩, ⟨S4x2048x1024, ((Q) : (⟨S4x2048x1024, .f32⟩ : BufTy).Contents (Elt Ideal))⟩, ⟨S4x2048x6144, ((extractStridedSlice S4x2048x6144 ![0, 0, 5120] Z slices_S4x2048x13312_S4x2048x6144_0_0_5120) : (⟨S4x2048x6144, .f32⟩ : BufTy).Contents (Elt Ideal))⟩, ⟨S4x2048x512, ((R) : (⟨S4x2048x512, .f32⟩ : BufTy).Contents (Elt Ideal))⟩, ⟨S4x2048x1536, ((extractStridedSlice S4x2048x1536 ![0, 0, 11776] Z slices_S4x2048x13312_S4x2048x1536_0_0_11776) : (⟨S4x2048x1536, .f32⟩ : BufTy).Contents (Elt Ideal))⟩] concatenates_S4x2048x2048_S4x2048x1024_S4x2048x1024_S4x2048x1024_S4x2048x6144_S4x2048x512_S4x2048x1536_S4x2048x13312_d2 : (⟨S4x2048x13312, .f32⟩ : BufTy).Contents (Elt Ideal))

/-- The reference's rotations of its columns, the rows as four sequences. -/
def whole (Z : FVec Ideal S4x2048x13312 .f32) (x3 x4 : FVec Ideal S2048x64 .f32) (x5 x6 : FVec Ideal S2048x32 .f32) : FVec Ideal S4x2048x13312 .f32 :=
  join Z (part_q Z x3 x4) (part_i Z x5 x6) (part_k Z x3 x4)

/-- The reference's rotations of its columns. -/
def turned (Y : FVec Ideal S8192x13312 .f32) (x3 x4 : FVec Ideal S2048x64 .f32) (x5 x6 : FVec Ideal S2048x32 .f32) : FVec Ideal S8192x13312 .f32 :=
  shapeCast _ (whole (shapeCast _ Y shapeCasts_S8192x13312_S4x2048x13312) x3 x4 x5 x6) shapeCasts_S4x2048x13312_S8192x13312

theorem res_at (m : (ℓ : Loc nD τ sig) → Buf (Elt Ideal) ℓ) (c : Dev nD) : Value.res_main_v86 m c =
    turned (prod (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4)) (m ((c.tc : Thread nD τ).loc main_arg5)) (m ((c.tc : Thread nD τ).loc main_arg6)) := rfl

theorem prod_at (x0 : FVec Ideal S8192x2048 .f32) (x1 : FVec Ideal S2048 .f32) (x2 : FVec Ideal S2048x13312 .f32) (r : Fin 8192) (q : Fin 13312) :
    prod x0 x1 x2 (ix2 r q) = ∑ x : Fin 2048, x0 (ix2 r x) * Ideal.rsqrt (Ideal.div (∑ x : Fin 2048, x0 (ix2 r x) * x0 (ix2 r x)) (Ideal.ofBits FTy.f32 0x45000000#32) + Ideal.ofBits FTy.f32 0x358637BD#32)
      * x1 (ix1 x) * x2 (ix2 x q) := by
  pointwise [prod]

theorem part_q_at (Z : FVec Ideal S4x2048x13312 .f32) (x3 x4 : FVec Ideal S2048x64 .f32) (a : Fin 4) (b : Fin 2048) (q : Fin 1024) :
    part_q Z x3 x4 (ix3 a b q) = tw64 (fun k => Z (ix3 a b k)) (fun i => x3 (ix2 b i)) (fun i => x4 (ix2 b i)) ⟨2048 + q.val, by omega⟩ := by
  pointwise [part_q]
  split_ifs with h
  · exact tw64_lo (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)
  all_goals
    exact tw64_hi (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)

theorem part_i_at (Z : FVec Ideal S4x2048x13312 .f32) (x3 x4 : FVec Ideal S2048x32 .f32) (a : Fin 4) (b : Fin 2048) (q : Fin 1024) :
    part_i Z x3 x4 (ix3 a b q) = tw32 (fun k => Z (ix3 a b k)) (fun i => x3 (ix2 b i)) (fun i => x4 (ix2 b i)) ⟨4096 + q.val, by omega⟩ := by
  pointwise [part_i]
  split_ifs with h
  · exact tw32_lo (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)
  all_goals
    exact tw32_hi (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)

theorem part_k_at (Z : FVec Ideal S4x2048x13312 .f32) (x3 x4 : FVec Ideal S2048x64 .f32) (a : Fin 4) (b : Fin 2048) (q : Fin 512) :
    part_k Z x3 x4 (ix3 a b q) = tw64 (fun k => Z (ix3 a b k)) (fun i => x3 (ix2 b i)) (fun i => x4 (ix2 b i)) ⟨11264 + q.val, by omega⟩ := by
  pointwise [part_k]
  split_ifs with h
  · exact tw64_lo (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)
  all_goals
    exact tw64_hi (fun k => Z (ix3 a b k)) (fun i => x3 (ix2 b i)) (fun i => x4 (ix2 b i)) _ _ _ _ _ (by (try dsimp only) <;> omega) (by (try dsimp only) <;> omega)
      (by (try dsimp only) <;> omega) (by (try dsimp only) <;> omega) (by (try dsimp only) <;> omega)

theorem join_at (Z : FVec Ideal S4x2048x13312 .f32) (P Q : FVec Ideal S4x2048x1024 .f32) (R : FVec Ideal S4x2048x512 .f32) (a : Fin 4) (b : Fin 2048) (q : Fin 13312) :
    join Z P Q R (ix3 a b q) =
      if h : q.val < 2048 then Z (ix3 a b q)
      else if h : q.val - 2048 < 1024 then P (ix3 a b ⟨q.val - 2048, h⟩)
      else if h : q.val - 2048 - 1024 < 1024 then Z (ix3 a b (⟨3072 + (q.val - 2048 - 1024), by omega⟩ : Fin 13312))
      else if h : q.val - 2048 - 1024 - 1024 < 1024 then Q (ix3 a b ⟨q.val - 2048 - 1024 - 1024, h⟩)
      else if h : q.val - 2048 - 1024 - 1024 - 1024 < 6144 then Z (ix3 a b (⟨5120 + (q.val - 2048 - 1024 - 1024 - 1024), by omega⟩ : Fin 13312))
      else if h : q.val - 2048 - 1024 - 1024 - 1024 - 6144 < 512 then R (ix3 a b ⟨q.val - 2048 - 1024 - 1024 - 1024 - 6144, h⟩)
      else Z (ix3 a b (⟨11776 + (q.val - 2048 - 1024 - 1024 - 1024 - 6144 - 512), by omega⟩ : Fin 13312)) := by
  pointwise [join]

theorem whole_at (Z : FVec Ideal S4x2048x13312 .f32) (x3 x4 : FVec Ideal S2048x64 .f32) (x5 x6 : FVec Ideal S2048x32 .f32) (a : Fin 4) (b : Fin 2048) (q : Fin 13312) :
    whole Z x3 x4 x5 x6 (ix3 a b q) =
      if (2048 ≤ q.val ∧ q.val < 3072) ∨ (11264 ≤ q.val ∧ q.val < 11776) then
        tw64 (fun k => Z (ix3 a b k)) (fun i => x3 (ix2 b i)) (fun i => x4 (ix2 b i)) q
      else if 4096 ≤ q.val ∧ q.val < 5120 then
        tw32 (fun k => Z (ix3 a b k)) (fun i => x5 (ix2 b i)) (fun i => x6 (ix2 b i)) q
      else Z (ix3 a b q) := by
  have hq := part_q_at Z x3 x4 a b
  have hi := part_i_at Z x5 x6 a b
  have hk := part_k_at Z x3 x4 a b
  unfold whole
  generalize part_q Z x3 x4 = P at *
  generalize part_i Z x5 x6 = Q at *
  generalize part_k Z x3 x4 = R at *
  rw [join_at]
  have k1 : ∀ u : Fin 13312, u.val = q.val → tw64 (fun k => Z (ix3 a b k)) (fun i => x3 (ix2 b i)) (fun i => x4 (ix2 b i)) u = tw64 (fun k => Z (ix3 a b k)) (fun i => x3 (ix2 b i)) (fun i => x4 (ix2 b i)) q :=
    fun u hu => by rw [Fin.ext hu]
  have k2 : ∀ u : Fin 13312, u.val = q.val → tw32 (fun k => Z (ix3 a b k)) (fun i => x5 (ix2 b i)) (fun i => x6 (ix2 b i)) u = tw32 (fun k => Z (ix3 a b k)) (fun i => x5 (ix2 b i)) (fun i => x6 (ix2 b i)) q :=
    fun u hu => by rw [Fin.ext hu]
  have k3 : ∀ u : Fin 13312, u.val = q.val → Z (ix3 a b u) = Z (ix3 a b q) := fun u hu => by rw [Fin.ext hu]
  by_cases h1 : q.val < 2048
  · rw [dif_pos h1, if_neg (by omega), if_neg (by omega)]
  rw [dif_neg h1]
  by_cases h2 : q.val - 2048 < 1024
  · rw [dif_pos h2, if_pos (by omega), hq]
    exact k1 _ (by dsimp only; omega)
  rw [dif_neg h2]
  by_cases h3 : q.val - 2048 - 1024 < 1024
  · rw [dif_pos h3, if_neg (by omega), if_neg (by omega)]
    exact k3 _ (by dsimp only; omega)
  rw [dif_neg h3]
  by_cases h4 : q.val - 2048 - 1024 - 1024 < 1024
  · rw [dif_pos h4, if_neg (by omega), if_pos (by omega), hi]
    exact k2 _ (by dsimp only; omega)
  rw [dif_neg h4]
  by_cases h5 : q.val - 2048 - 1024 - 1024 - 1024 < 6144
  · rw [dif_pos h5, if_neg (by omega), if_neg (by omega)]
    exact k3 _ (by dsimp only; omega)
  rw [dif_neg h5]
  by_cases h6 : q.val - 2048 - 1024 - 1024 - 1024 - 6144 < 512
  · rw [dif_pos h6, if_pos (by omega), hk]
    exact k1 _ (by dsimp only; omega)
  rw [dif_neg h6, if_neg (by omega), if_neg (by omega)]
  exact k3 _ (by dsimp only; omega)

theorem lift (Y : FVec Ideal S8192x13312 .f32) (r : Fin 8192) (q : Fin 13312) :
    (shapeCast S4x2048x13312 Y shapeCasts_S8192x13312_S4x2048x13312 : FVec Ideal S4x2048x13312 .f32) (ix3 (⟨r.val / 2048, by omega⟩ : Fin 4) (⟨r.val % 2048, by omega⟩ : Fin 2048) q) = Y (ix2 r q) := by
  pointwise []

theorem turned_at (Y : FVec Ideal S8192x13312 .f32) (x3 x4 : FVec Ideal S2048x64 .f32) (x5 x6 : FVec Ideal S2048x32 .f32) (r : Fin 8192) (q : Fin 13312) :
    turned Y x3 x4 x5 x6 (ix2 r q) = val (fun r q => Y (ix2 r q)) x3 x4 x5 x6 r q := by
  unfold turned
  have h := whole_at (shapeCast _ Y shapeCasts_S8192x13312_S4x2048x13312) x3 x4 x5 x6 (⟨r.val / 2048, by omega⟩ : Fin 4) (⟨r.val % 2048, by omega⟩ : Fin 2048) q
  simp only [lift] at h
  generalize whole _ x3 x4 x5 x6 = P at *
  pointwise []
  exact h

/-- The reference's array. -/
def arr (x0 : FVec Ideal S8192x2048 .f32) (x1 : FVec Ideal S2048 .f32) (x2 : FVec Ideal S2048x13312 .f32) (x3 x4 : FVec Ideal S2048x64 .f32) (x5 x6 : FVec Ideal S2048x32 .f32) : FVec Ideal S8192x13312 .f32 :=
  turned (prod x0 x1 x2) x3 x4 x5 x6

theorem arr_eq (x0 : FVec Ideal S8192x2048 .f32) (x1 : FVec Ideal S2048 .f32) (x2 : FVec Ideal S2048x13312 .f32) (x3 x4 : FVec Ideal S2048x64 .f32) (x5 x6 : FVec Ideal S2048x32 .f32) :
    arr x0 x1 x2 x3 x4 x5 x6 = res x0 x1 x2 x3 x4 x5 x6 := by
  funext j
  idx_vars j
  unfold arr
  rw [turned_at]
  simp only [prod_at]
  rfl

end Cert.ProjRefIdeal.Val

end
-- ==== Proof.ProjTie.lean ====
module

public import proofs.«01_k».proof.Proof.ProjCase
public import proofs.«01_k».proof.Proof.ProjRef
public import Idealize.ShloMosaic.Lib.Tactic.IndexArith
public import Idealize.ShloMosaic.Lib.Pointwise
public import Idealize.ShloMosaic.Lib.Pipeline.ValueKit
public import Idealize.ShloMosaic.Lib.StableHlo.RunRead

@[expose] public section

set_option maxRecDepth 16384

noncomputable section

namespace Cert.ProjIdeal.Val

open Cert.ProjIdeal Cert.ProjIdeal.Gen Idealize.ShloMosaic Idealize.ShloMosaic.TcCoe Idealize.ShloMosaic.Tactic Idealize.ShloMosaic.Pipeline
open Cert.ProjRefIdeal.Val (tw64 tw32 val xn res)

variable (m : (ℓ : Loc nD τ sig) → Buf (Elt Ideal) ℓ)

/-- The sines of the heads. -/
abbrev sinH (c : Dev nD) : S2048x64.Idx → EReal := m ((c : Thread nD τ).loc main_arg4)

/-- The sines of the indexer. -/
abbrev sinI (c : Dev nD) : S2048x32.Idx → EReal := m ((c : Thread nD τ).loc main_arg6)

/-- Where each block begins. -/
theorem idx : ∀ t : Fin cfg0.N, win0_0.index t = ![t.val / 13, 0] ∧ win0_1.index t = ![0, 0] ∧ win0_2.index t = ![0, t.val % 13]
    ∧ win0_3.index t = ![t.val / 13 % 2, 0] ∧ win0_4.index t = ![t.val / 13 % 2, 0] ∧ win0_5.index t = ![t.val / 13 % 2, 0]
    ∧ win0_6.index t = ![t.val / 13 % 2, 0] ∧ win0_7.index t = ![t.val / 13, t.val % 13] :=
  (by decide +kernel : ∀ t : Fin grid0.N, _)

theorem points : cfg0.N = 104 := by decide +kernel

theorem row (t : Fin cfg0.N) (r : Fin 1024) : t.val / 13 * 1024 + r.val < 8192 := by
  have := t.isLt
  have := points
  omega
theorem col (t : Fin cfg0.N) (q : Fin 1024) : t.val % 13 * 1024 + q.val < 13312 := by
  omega
theorem seat (t : Fin cfg0.N) (r : Fin 1024) : t.val / 13 % 2 * 1024 + r.val < 2048 := by
  omega

theorem block0 (c : Dev nD) (t : Fin cfg0.N) (r : Fin 1024) (k : Fin 2048) :
    (iblk m c 0 t : S1024x2048.Idx → EReal) (ix2 r k) = (m ((c : Thread nD τ).loc main_arg0) : S8192x2048.Idx → EReal) (ix2 ⟨t.val / 13 * 1024 + r.val, row t r⟩ k) := by
  blk_ext [iblk, V, idx t]
theorem V_v8 (c : Dev nD) (q : Fin 2048) : (V m c main_v8 : S1x2048.Idx → EReal) (ix2 0 q) = (m ((c : Thread nD τ).loc main_arg1) : S2048.Idx → EReal) (ix1 q) := by
  have h : (V m c main_v8 : S1x2048.Idx → EReal) = shapeCast S1x2048 (m ((c : Thread nD τ).loc main_arg1) : S2048.Idx → EReal) shapeCasts_S2048_S1x2048 := by
    entry_read
    rfl
  rw [h]
  pointwise
theorem block1 (c : Dev nD) (t : Fin cfg0.N) (q : Fin 2048) :
    (iblk m c 1 t : S1x2048.Idx → EReal) (ix2 0 q) = (m ((c : Thread nD τ).loc main_arg1) : S2048.Idx → EReal) (ix1 q) := by
  rw [← V_v8 m c]
  blk_ext [iblk, idx t]
theorem V_v0 (c : Dev nD) : (V m c main_v0 : S2048x13312.Idx → EReal) = (m ((c : Thread nD τ).loc main_arg2) : S2048x13312.Idx → EReal) := by
  entry_read
  rfl
theorem block2 (c : Dev nD) (t : Fin cfg0.N) (k : Fin 2048) (q : Fin 1024) :
    (iblk m c 2 t : S2048x1024.Idx → EReal) (ix2 k q) = (m ((c : Thread nD τ).loc main_arg2) : S2048x13312.Idx → EReal) (ix2 k ⟨t.val % 13 * 1024 + q.val, col t q⟩) := by
  rw [← V_v0 m c]
  blk_ext [iblk, idx t]

theorem tab1 (a b : FVec Ideal S2048x64 .f32) (r : Fin 2048) (l : Fin 128) :
    (concatenate S2048x128 1 [⟨S2048x64, a⟩, ⟨S2048x64, b⟩] concatenates_S2048x64_S2048x64_S2048x128_d1 : FVec Ideal S2048x128 .f32) (ix2 r l)
      = if h : l.val < 64 then a (ix2 r ⟨l.val, h⟩) else b (ix2 r (⟨l.val - 64, by omega⟩ : Fin 64)) := by
  pointwise []
theorem tab2 (a b c d : FVec Ideal S2048x32 .f32) (r : Fin 2048) (l : Fin 128) :
    (concatenate S2048x128 1 [⟨S2048x32, a⟩, ⟨S2048x32, b⟩, ⟨S2048x32, c⟩, ⟨S2048x32, d⟩] concatenates_S2048x32_S2048x32_S2048x32_S2048x32_S2048x128_d1 : FVec Ideal S2048x128 .f32) (ix2 r l)
      = if h : l.val < 32 then a (ix2 r ⟨l.val, h⟩) else if h : l.val - 32 < 32 then b (ix2 r ⟨l.val - 32, h⟩)
        else if h : l.val - 32 - 32 < 32 then c (ix2 r ⟨l.val - 32 - 32, h⟩) else d (ix2 r (⟨l.val - 32 - 32 - 32, by omega⟩ : Fin 32)) := by
  pointwise []

theorem V_v1 (c : Dev nD) (r : Fin 2048) (l : Fin 128) : (V m c main_v1 : S2048x128.Idx → EReal) (ix2 r l) = (m ((c : Thread nD τ).loc main_arg3) : S2048x64.Idx → EReal) (ix2 r (⟨l.val % 64, by omega⟩ : Fin 64)) := by
  have h : (V m c main_v1 : S2048x128.Idx → EReal) = concatenate S2048x128 1 [⟨S2048x64, (m ((c : Thread nD τ).loc main_arg3) : S2048x64.Idx → EReal)⟩, ⟨S2048x64, (m ((c : Thread nD τ).loc main_arg3) : S2048x64.Idx → EReal)⟩] concatenates_S2048x64_S2048x64_S2048x128_d1 := by
    entry_read
    rfl
  rw [h]
  refine (tab1 _ _ r l).trans ?_
  split_ifs <;> exact cg (fun i => (m ((c : Thread nD τ).loc main_arg3) : S2048x64.Idx → EReal) (ix2 r i)) (by dsimp only; omega)
theorem V_v3 (c : Dev nD) (r : Fin 2048) (l : Fin 128) : (V m c main_v3 : S2048x128.Idx → EReal) (ix2 r l) =
    if l.val % 128 < 64 then -(sinH m c) (ix2 r (⟨l.val % 64, by omega⟩ : Fin 64)) else (sinH m c) (ix2 r (⟨l.val % 64, by omega⟩ : Fin 64)) := by
  have h : (V m c main_v3 : S2048x128.Idx → EReal) = concatenate S2048x128 1 [⟨S2048x64, fun i => -(sinH m c) i⟩, ⟨S2048x64, (sinH m c)⟩] concatenates_S2048x64_S2048x64_S2048x128_d1 := by
    entry_read
    rfl
  rw [h]
  refine (tab1 _ _ r l).trans ?_
  by_cases hl : l.val < 64
  · rw [dif_pos hl, if_pos (by omega)]
    exact cg (fun i => -(sinH m c) (ix2 r i)) (by dsimp only; omega)
  · rw [dif_neg hl, if_neg (by omega)]
    exact cg (fun i => (sinH m c) (ix2 r i)) (by dsimp only; omega)
theorem V_v4 (c : Dev nD) (r : Fin 2048) (l : Fin 128) : (V m c main_v4 : S2048x128.Idx → EReal) (ix2 r l) = (m ((c : Thread nD τ).loc main_arg5) : S2048x32.Idx → EReal) (ix2 r (⟨l.val % 32, by omega⟩ : Fin 32)) := by
  have h : (V m c main_v4 : S2048x128.Idx → EReal) = concatenate S2048x128 1 [⟨S2048x32, (m ((c : Thread nD τ).loc main_arg5) : S2048x32.Idx → EReal)⟩, ⟨S2048x32, (m ((c : Thread nD τ).loc main_arg5) : S2048x32.Idx → EReal)⟩, ⟨S2048x32, (m ((c : Thread nD τ).loc main_arg5) : S2048x32.Idx → EReal)⟩, ⟨S2048x32, (m ((c : Thread nD τ).loc main_arg5) : S2048x32.Idx → EReal)⟩] concatenates_S2048x32_S2048x32_S2048x32_S2048x32_S2048x128_d1 := by
    entry_read
    rfl
  rw [h]
  refine (tab2 _ _ _ _ r l).trans ?_
  split_ifs <;> exact cg (fun i => (m ((c : Thread nD τ).loc main_arg5) : S2048x32.Idx → EReal) (ix2 r i)) (by dsimp only; omega)
/-- Four tables side by side. -/
def tabI (a b c d : FVec Ideal S2048x32 .f32) : FVec Ideal S2048x128 .f32 :=
  concatenate S2048x128 1 [⟨S2048x32, a⟩, ⟨S2048x32, b⟩, ⟨S2048x32, c⟩, ⟨S2048x32, d⟩] concatenates_S2048x32_S2048x32_S2048x32_S2048x32_S2048x128_d1

/-- The host buffers before the operation at a position. -/
abbrev before (c : Dev nD) (i : ℕ) := StableHlo.upto (hostOps0 (F := Ideal)) (fun b => m (c, b)) i

theorem sin7 (c : Dev nD) : (before m c 7 (Proc.devRef .tc main_arg6) : S2048x32.Idx → EReal) = sinI m c :=
  StableHlo.upto_unwritten (ops := hostOps0 (F := Ideal)) [main_v0, main_v1, main_v2, main_v3, main_v4, main_v5, main_v6] rfl (by decide) _
theorem sin5 (c : Dev nD) : (before m c 5 (Proc.devRef .tc main_arg6) : S2048x32.Idx → EReal) = sinI m c :=
  StableHlo.upto_unwritten (ops := hostOps0 (F := Ideal)) [main_v0, main_v1, main_v2, main_v3, main_v4] rfl (by decide) _
theorem sin6 (c : Dev nD) : (before m c 6 (Proc.devRef .tc main_arg6) : S2048x32.Idx → EReal) = sinI m c :=
  StableHlo.upto_unwritten (ops := hostOps0 (F := Ideal)) [main_v0, main_v1, main_v2, main_v3, main_v4, main_v5] rfl (by decide) _
theorem neg5 (c : Dev nD) : (before m c 7 (Proc.devRef .tc main_v5) : S2048x32.Idx → EReal) = fun i => -sinI m c i := by
  refine (StableHlo.upto_last_write (ops := hostOps0 (F := Ideal)) (i := 5) [main_v6] rfl rfl (by decide) _).trans ?_
  refine (StableHlo.unary_result _ _ _ _ _ _).trans ?_
  exact congrArg (fun (f : S2048x32.Idx → EReal) => fun i => -f i) (sin5 m c)
theorem neg6 (c : Dev nD) : (before m c 7 (Proc.devRef .tc main_v6) : S2048x32.Idx → EReal) = fun i => -sinI m c i := by
  refine (StableHlo.upto_last_write (ops := hostOps0 (F := Ideal)) (i := 6) [] rfl rfl (by decide) _).trans ?_
  refine (StableHlo.unary_result _ _ _ _ _ _).trans ?_
  exact congrArg (fun (f : S2048x32.Idx → EReal) => fun i => -f i) (sin6 m c)
theorem W_v7 (c : Dev nD) : (V m c main_v7 : S2048x128.Idx → EReal) = tabI (fun i => -sinI m c i) (sinI m c) (fun i => -sinI m c i) (sinI m c) := by
  refine (StableHlo.after_last_write (ops := hostOps0 (F := Ideal)) (i := 7) [main_v8] rfl rfl (by decide) _).trans ?_
  refine (StableHlo.nary_result _ _ _ _ _ _).trans ?_
  have h : tabI (before m c 7 (Proc.devRef .tc main_v5)) (before m c 7 (Proc.devRef .tc main_arg6)) (before m c 7 (Proc.devRef .tc main_v6)) (before m c 7 (Proc.devRef .tc main_arg6))
      = tabI (fun i => -sinI m c i) (sinI m c) (fun i => -sinI m c i) (sinI m c) := by
    have := neg5 m c
    have := neg6 m c
    have := sin7 m c
    congr 1
  exact h

theorem V_v7 (c : Dev nD) (r : Fin 2048) (l : Fin 128) : (V m c main_v7 : S2048x128.Idx → EReal) (ix2 r l) =
    if l.val % 64 < 32 then -(sinI m c) (ix2 r (⟨l.val % 32, by omega⟩ : Fin 32)) else (sinI m c) (ix2 r (⟨l.val % 32, by omega⟩ : Fin 32)) := by
  rw [W_v7 m c]
  refine (tab2 _ _ _ _ r l).trans ?_
  by_cases h1 : l.val < 32
  · rw [dif_pos h1, if_pos (by omega)]
    exact cg (fun i => -(sinI m c) (ix2 r i)) (by dsimp only; omega)
  rw [dif_neg h1]
  by_cases h2 : l.val - 32 < 32
  · rw [dif_pos h2, if_neg (by omega)]
    exact cg (fun i => (sinI m c) (ix2 r i)) (by dsimp only; omega)
  rw [dif_neg h2]
  by_cases h3 : l.val - 32 - 32 < 32
  · rw [dif_pos h3, if_pos (by omega)]
    exact cg (fun i => -(sinI m c) (ix2 r i)) (by dsimp only; omega)
  rw [dif_neg h3, if_neg (by omega)]
  exact cg (fun i => (sinI m c) (ix2 r i)) (by dsimp only; omega)

theorem block3 (c : Dev nD) (t : Fin cfg0.N) (r : Fin 1024) (l : Fin 128) :
    (iblk m c 3 t : S1024x128.Idx → EReal) (ix2 r l) = (V m c main_v1 : S2048x128.Idx → EReal) (ix2 ⟨t.val / 13 % 2 * 1024 + r.val, seat t r⟩ l) := by
  blk_ext [iblk, idx t]
theorem block4 (c : Dev nD) (t : Fin cfg0.N) (r : Fin 1024) (l : Fin 128) :
    (iblk m c 4 t : S1024x128.Idx → EReal) (ix2 r l) = (V m c main_v3 : S2048x128.Idx → EReal) (ix2 ⟨t.val / 13 % 2 * 1024 + r.val, seat t r⟩ l) := by
  blk_ext [iblk, idx t]
theorem block5 (c : Dev nD) (t : Fin cfg0.N) (r : Fin 1024) (l : Fin 128) :
    (iblk m c 5 t : S1024x128.Idx → EReal) (ix2 r l) = (V m c main_v4 : S2048x128.Idx → EReal) (ix2 ⟨t.val / 13 % 2 * 1024 + r.val, seat t r⟩ l) := by
  blk_ext [iblk, idx t]
theorem block6 (c : Dev nD) (t : Fin cfg0.N) (r : Fin 1024) (l : Fin 128) :
    (iblk m c 6 t : S1024x128.Idx → EReal) (ix2 r l) = (V m c main_v7 : S2048x128.Idx → EReal) (ix2 ⟨t.val / 13 % 2 * 1024 + r.val, seat t r⟩ l) := by
  blk_ext [iblk, idx t]

/-- The rows a point normalises, at an index. -/
theorem pay1 (x : S1024x2048.Idx → EReal) (g : S1x2048.Idx → EReal) (r : Fin 1024) (k : Fin 2048) :
    k0_pay1 (F := Ideal) x g (ix2 r k) = x (ix2 r k) * Ideal.rsqrt (Ideal.div (∑ j : Fin 2048, x (ix2 r j) * x (ix2 r j)) (Ideal.ofBits FTy.f32 0x45000000#32) + Ideal.ofBits FTy.f32 0x358637BD#32) * g (ix2 0 k) := by
  pointwise [k0_pay1]

theorem rows (c : Dev nD) (t : Fin cfg0.N) (r : Fin 1024) (k : Fin 2048) :
    k0_pay1 (F := Ideal) (iblk m c 0 t) (iblk m c 1 t) (ix2 r k) = xn (m ((c : Thread nD τ).loc main_arg0) : S8192x2048.Idx → EReal) (m ((c : Thread nD τ).loc main_arg1) : S2048.Idx → EReal) ⟨t.val / 13 * 1024 + r.val, row t r⟩ k := by
  refine (pay1 _ _ r k).trans ?_
  simp only [block0, block1]
  rfl

/-- The scratch buffer holds the normalised rows of the point's row block. -/
theorem scr (c : Dev nD) (n : ℕ) : ∀ (hn : n < cfg0.N) (r : Fin 1024) (k : Fin 2048),
    (outsAt0 m c n hn).2 (ix2 r k) = xn (m ((c : Thread nD τ).loc main_arg0) : S8192x2048.Idx → EReal) (m ((c : Thread nD τ).loc main_arg1) : S2048.Idx → EReal) ⟨n / 13 * 1024 + r.val, row ⟨n, hn⟩ r⟩ k := by
  induction n with
  | zero =>
    intro hn r k
    exact (congrFun (scrA m c ⟨0, hn⟩ rfl) (ix2 r k)).trans (rows m c ⟨0, hn⟩ r k)
  | succ n ih =>
    intro hn r k
    by_cases h : (n + 1) % 13 = 0
    · exact (congrFun (scrA m c ⟨n + 1, hn⟩ h) (ix2 r k)).trans (rows m c ⟨n + 1, hn⟩ r k)
    · refine (congrFun (scrX m c ⟨n + 1, hn⟩ h) (ix2 r k)).trans ((ih (by omega) r k).trans ?_)
      exact cg (fun R => xn (m ((c : Thread nD τ).loc main_arg0) : S8192x2048.Idx → EReal) (m ((c : Thread nD τ).loc main_arg1) : S2048.Idx → EReal) R k) (by dsimp only; omega)

theorem prev_at (c : Dev nD) (t : Fin cfg0.N) (h : ¬t.val % 13 = 0) (r : Fin 1024) (k : Fin 2048) :
    prev m c t (ix2 r k) = xn (m ((c : Thread nD τ).loc main_arg0) : S8192x2048.Idx → EReal) (m ((c : Thread nD τ).loc main_arg1) : S2048.Idx → EReal) ⟨t.val / 13 * 1024 + r.val, row t r⟩ k := by
  refine (scr m c (t.val - 1) (Nat.lt_of_le_of_lt (Nat.sub_le _ _) t.isLt) r k).trans ?_
  exact cg (fun R => xn (m ((c : Thread nD τ).loc main_arg0) : S8192x2048.Idx → EReal) (m ((c : Thread nD τ).loc main_arg1) : S2048.Idx → EReal) R k) (by dsimp only; omega)

/-- The product at an index of the array. -/
def flat (c : Dev nD) (r : Fin 8192) (q : Fin 13312) : EReal := ∑ k : Fin 2048, xn (m ((c : Thread nD τ).loc main_arg0) : S8192x2048.Idx → EReal) (m ((c : Thread nD τ).loc main_arg1) : S2048.Idx → EReal) r k * (m ((c : Thread nD τ).loc main_arg2) : S2048x13312.Idx → EReal) (ix2 k q)

theorem plain (c : Dev nD) (t : Fin cfg0.N) (xs : FVec Ideal S1024x2048 .bf16) (r : Fin 1024)
    (hx : ∀ k, xs (ix2 r k) = xn (m ((c : Thread nD τ).loc main_arg0) : S8192x2048.Idx → EReal) (m ((c : Thread nD τ).loc main_arg1) : S2048.Idx → EReal) ⟨t.val / 13 * 1024 + r.val, row t r⟩ k) (q : Fin 1024) :
    k0_pay7 (F := Ideal) xs (iblk m c 2 t) (ix2 r q) = flat m c ⟨t.val / 13 * 1024 + r.val, row t r⟩ ⟨t.val % 13 * 1024 + q.val, col t q⟩ := by
  refine (dot _ _ r q).trans ?_
  simp only [hx, block2]
  rfl

/-- A block's columns turned are the array's. -/
theorem turn64 (y : Fin 13312 → EReal) (C S : Fin 64 → EReal) (Y : S1024x1024.Idx → EReal) (c s : S1024x128.Idx → EReal) (r : Fin 1024) (o : ℕ) (ho : o < 13)
    (hY : ∀ q : Fin 1024, Y (ix2 r q) = y ⟨o * 1024 + q.val, by omega⟩) (hc : ∀ l : Fin 128, c (ix2 r l) = C ⟨l.val % 64, by omega⟩)
    (hs : ∀ l : Fin 128, s (ix2 r l) = if l.val % 128 < 64 then -S ⟨l.val % 64, by omega⟩ else S ⟨l.val % 64, by omega⟩) (q : Fin 1024) :
    rot128 Y c s r q = tw64 y C S ⟨o * 1024 + q.val, by omega⟩ := by
  unfold rot128 tw64
  rw [hY, hY, hc, hs]
  refine congrArg₂ (· + ·) (congrArg₂ (· * ·) rfl (cg C (by dsimp only; omega))) (congrArg₂ (· * ·) (cg y (by dsimp only; omega)) ?_)
  by_cases h : q.val % 128 < 64
  · rw [if_pos (by dsimp only; omega), if_pos (by dsimp only; omega)]
    exact cg (fun i => -S i) (by dsimp only; omega)
  · rw [if_neg (by dsimp only; omega), if_neg (by dsimp only; omega)]
    exact cg S (by dsimp only; omega)

/-- A block's columns turned are the array's. -/
theorem turn32 (y : Fin 13312 → EReal) (C S : Fin 32 → EReal) (Y : S1024x1024.Idx → EReal) (c s : S1024x128.Idx → EReal) (r : Fin 1024) (o : ℕ) (ho : o < 13)
    (hY : ∀ q : Fin 1024, Y (ix2 r q) = y ⟨o * 1024 + q.val, by omega⟩) (hc : ∀ l : Fin 128, c (ix2 r l) = C ⟨l.val % 32, by omega⟩)
    (hs : ∀ l : Fin 128, s (ix2 r l) = if l.val % 64 < 32 then -S ⟨l.val % 32, by omega⟩ else S ⟨l.val % 32, by omega⟩) (q : Fin 1024) :
    rot64 Y c s r q = tw32 y C S ⟨o * 1024 + q.val, by omega⟩ := by
  unfold rot64 tw32
  rw [hY, hY, hc, hs]
  refine congrArg₂ (· + ·) (congrArg₂ (· * ·) rfl (cg C (by dsimp only; omega))) (congrArg₂ (· * ·) (cg y (by dsimp only; omega)) ?_)
  by_cases h : q.val % 64 < 32
  · rw [if_pos (by dsimp only; omega), if_pos (by dsimp only; omega)]
    exact cg (fun i => -S i) (by dsimp only; omega)
  · rw [if_neg (by dsimp only; omega), if_neg (by dsimp only; omega)]
    exact cg S (by dsimp only; omega)

theorem head3 (c : Dev nD) (t : Fin cfg0.N) (r : Fin 1024) (l : Fin 128) : (iblk m c 3 t : S1024x128.Idx → EReal) (ix2 r l)
    = (fun i => (m ((c : Thread nD τ).loc main_arg3) : S2048x64.Idx → EReal) (ix2 (⟨(t.val / 13 * 1024 + r.val) % 2048, by omega⟩ : Fin 2048) i)) (⟨l.val % 64, by omega⟩ : Fin 64) := by
  refine (block3 m c t r l).trans ((V_v1 m c _ l).trans ?_)
  exact cg (fun R => (m ((c : Thread nD τ).loc main_arg3) : S2048x64.Idx → EReal) (ix2 R (⟨l.val % 64, by omega⟩ : Fin 64))) (by dsimp only; omega)
theorem head5 (c : Dev nD) (t : Fin cfg0.N) (r : Fin 1024) (l : Fin 128) : (iblk m c 5 t : S1024x128.Idx → EReal) (ix2 r l)
    = (fun i => (m ((c : Thread nD τ).loc main_arg5) : S2048x32.Idx → EReal) (ix2 (⟨(t.val / 13 * 1024 + r.val) % 2048, by omega⟩ : Fin 2048) i)) (⟨l.val % 32, by omega⟩ : Fin 32) := by
  refine (block5 m c t r l).trans ((V_v4 m c _ l).trans ?_)
  exact cg (fun R => (m ((c : Thread nD τ).loc main_arg5) : S2048x32.Idx → EReal) (ix2 R (⟨l.val % 32, by omega⟩ : Fin 32))) (by dsimp only; omega)
theorem head4 (c : Dev nD) (t : Fin cfg0.N) (r : Fin 1024) (l : Fin 128) : (iblk m c 4 t : S1024x128.Idx → EReal) (ix2 r l)
    = if l.val % 128 < 64 then -(fun i => (sinH m c) (ix2 (⟨(t.val / 13 * 1024 + r.val) % 2048, by omega⟩ : Fin 2048) i)) (⟨l.val % 64, by omega⟩ : Fin 64)
      else (fun i => (sinH m c) (ix2 (⟨(t.val / 13 * 1024 + r.val) % 2048, by omega⟩ : Fin 2048) i)) (⟨l.val % 64, by omega⟩ : Fin 64) := by
  refine (block4 m c t r l).trans ((V_v3 m c _ l).trans ?_)
  exact cg (fun R => if l.val % 128 < 64 then -(sinH m c) (ix2 R (⟨l.val % 64, by omega⟩ : Fin 64)) else (sinH m c) (ix2 R (⟨l.val % 64, by omega⟩ : Fin 64))) (by dsimp only; omega)
theorem head6 (c : Dev nD) (t : Fin cfg0.N) (r : Fin 1024) (l : Fin 128) : (iblk m c 6 t : S1024x128.Idx → EReal) (ix2 r l)
    = if l.val % 64 < 32 then -(fun i => (sinI m c) (ix2 (⟨(t.val / 13 * 1024 + r.val) % 2048, by omega⟩ : Fin 2048) i)) (⟨l.val % 32, by omega⟩ : Fin 32)
      else (fun i => (sinI m c) (ix2 (⟨(t.val / 13 * 1024 + r.val) % 2048, by omega⟩ : Fin 2048) i)) (⟨l.val % 32, by omega⟩ : Fin 32) := by
  refine (block6 m c t r l).trans ((V_v7 m c _ l).trans ?_)
  exact cg (fun R => if l.val % 64 < 32 then -(sinI m c) (ix2 R (⟨l.val % 32, by omega⟩ : Fin 32)) else (sinI m c) (ix2 R (⟨l.val % 32, by omega⟩ : Fin 32))) (by dsimp only; omega)

/-- What a grid point writes, at an index of its block. -/
theorem out (c : Dev nD) (t : Fin cfg0.N) (r : Fin 1024) (q : Fin 1024) : (outsAt0 m c t.val t.isLt).1 (ix2 r q) =
    val (flat m c) (m ((c : Thread nD τ).loc main_arg3) : S2048x64.Idx → EReal) (sinH m c) (m ((c : Thread nD τ).loc main_arg5) : S2048x32.Idx → EReal) (sinI m c) ⟨t.val / 13 * 1024 + r.val, row t r⟩ ⟨t.val % 13 * 1024 + q.val, col t q⟩ := by
  unfold val
  by_cases h0 : t.val % 13 = 0
  · rw [if_neg (by dsimp only; omega), if_neg (by dsimp only; omega), outA m c t h0]
    exact plain m c t _ r (rows m c t r) q
  have hp := plain m c t (prev m c t) r (prev_at m c t h0 r)
  by_cases h1 : t.val % 13 = 2
  · rw [if_pos (by dsimp only; omega), outC m c t h1]
    exact (ropeC _ _ _ _ r q).trans (turn64 _ _ _ _ _ _ r (t.val % 13) (by omega) hp (head3 m c t r) (head4 m c t r) q)
  by_cases h2 : t.val % 13 = 11
  · rw [outE m c t h2]
    by_cases hq : q.val < 512
    · rw [dif_pos hq, if_pos (by dsimp only; omega)]
      exact (ropeE _ _ _ _ r _).trans (turn64 _ _ _ _ _ _ r (t.val % 13) (by omega) hp (head3 m c t r) (head4 m c t r) q)
    · rw [dif_neg hq, if_neg (by dsimp only; omega), if_neg (by dsimp only; omega)]
      refine (plainE _ _ r _).trans ((hp _).trans ?_)
      exact cg (fun C => flat m c ⟨t.val / 13 * 1024 + r.val, row t r⟩ C) (by dsimp only; omega)
  by_cases h3 : t.val % 13 = 4
  · rw [if_neg (by dsimp only; omega), if_pos (by dsimp only; omega), outD m c t h3]
    exact (ropeD _ _ _ _ r q).trans (turn32 _ _ _ _ _ _ r (t.val % 13) (by omega) hp (head5 m c t r) (head6 m c t r) q)
  rw [if_neg (by dsimp only; omega), if_neg (by dsimp only; omega), outB m c t h0 h1 h2 h3]
  exact hp q

/-- The kernel's array after the run. -/
theorem final (c : Dev nD) : ((dats m 0 c).arrAt 7 (cfgs 0).N : S8192x13312.Idx → EReal) =
    res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp [idx t]
  rw [after0_7]
  idx_vars y
  refine (out m c t y0 y1).trans ?_
  have e : (((View.whole main_v9).slice (win0_7.rect t)).emb (ix2 y0 y1) : S8192x13312.Idx) = ix2 ⟨t.val / 13 * 1024 + y0.val, row t y0⟩ ⟨t.val % 13 * 1024 + y1.val, col t y1⟩ := by
    blk_ext [idx t]
  rw [e]
  rfl

end Cert.ProjIdeal.Val

end
-- ==== Proof.MergeVal.lean ====
module

public import proofs.«01_k».proof.Proof.Gen.MergeIdeal.Value
public import proofs.«01_k».proof.Proof.Gen.MergeRefIdeal.Run
public import Idealize.ShloMosaic.Lib.Tactic.IndexArith
public import Idealize.ShloMosaic.Lib.Pointwise
public import Idealize.ShloMosaic.Lib.Pipeline.ValueKit

@[expose] public section

set_option maxRecDepth 16384

noncomputable section

namespace Cert.MergeIdeal.Val

open Cert.MergeIdeal Cert.MergeIdeal.Gen Idealize.ShloMosaic Idealize.ShloMosaic.TcCoe Idealize.ShloMosaic.Tactic Idealize.ShloMosaic.Pipeline

variable (m : (ℓ : Loc nD τ sig) → Buf (Elt Ideal) ℓ)

/-- The gate written by the hyperbolic tangent is the logistic function. -/
theorem gate (x : EReal) : Ideal.ofBits FTy.f32 0x3F000000#32 * Ideal.tanh (Ideal.ofBits FTy.f32 0x3F000000#32 * x) + Ideal.ofBits FTy.f32 0x3F000000#32
    = Ideal.logistic x := by
  have h : Ideal.ofBits FTy.f32 0x3F000000#32 = (((1 / 2 : ℝ)) : EReal) := by
    simp [Ideal.ofBits, Ideal.ieee, -EReal.coe_mul]; norm_num
  rw [h]
  induction x using EReal.rec with
  | bot =>
    rw [EReal.coe_mul_bot_of_pos (by norm_num), Ideal.tanh_bot, Ideal.logistic_bot]
    rw [show (-1 : EReal) = ((-1 : ℝ) : EReal) by norm_num, ← EReal.coe_mul, ← EReal.coe_add]
    norm_num
  | top =>
    rw [EReal.coe_mul_top_of_pos (by norm_num), Ideal.tanh_top, Ideal.logistic_top]
    rw [show (1 : EReal) = ((1 : ℝ) : EReal) by norm_num, ← EReal.coe_mul, ← EReal.coe_add]
    norm_num
  | coe r =>
    rw [← EReal.coe_mul, Ideal.tanh_coe, Ideal.logistic_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by
      rw [← Real.exp_add]; congr 1; ring
    have e' : Real.exp (1 / 2 * r) * Real.exp (-(1 / 2 * r)) = 1 := by
      rw [← Real.exp_add]; simp
    have p := Real.exp_pos (1 / 2 * r)
    have p' := Real.exp_pos (-(1 / 2 * r))
    rw [e]
    generalize Real.exp (1 / 2 * r) = a at *
    generalize Real.exp (-(1 / 2 * r)) = b at *
    have : a + b ≠ 0 := by positivity
    have : 1 + b * b ≠ 0 := by positivity
    field_simp
    linear_combination (2 * b) * e'

/-- Where each block begins. -/
theorem idx : ∀ t : Fin cfg0.N, win0_0.index t = ![t.val % 16, 0] ∧ win0_1.index t = ![t.val % 16, 0] ∧ win0_2.index t = ![t.val % 16, 0]
    ∧ win0_3.index t = ![t.val % 16, 5 + t.val / 16] ∧ win0_4.index t = ![t.val % 16, 7 + t.val / 16] ∧ win0_5.index t = ![t.val % 16, 9 + t.val / 16]
    ∧ win0_6.index t = ![0, t.val / 16] ∧ win0_7.index t = ![0, t.val / 16] ∧ win0_8.index t = ![0, t.val / 16] ∧ win0_9.index t = ![t.val % 16, t.val / 16] :=
  (by decide +kernel : ∀ t : Fin grid0.N, _)

/-- One branch at an index: its gate times its product. -/
def branch {K : ℕ} (h : S8192x13312.Idx → EReal) (o : ℕ) (ho : o + 2048 ≤ 13312) (a : (Fin 8192) → (Fin K) → EReal) (w : (Fin K) → (Fin 2048) → EReal) (r : Fin 8192) (q : Fin 2048) : EReal :=
  Ideal.logistic (h (ix2 r (⟨o + q.val, by omega⟩ : Fin 13312))) * ∑ k : Fin K, a r k * w k q

/-- The merged branches at every index. -/
def res (a0 : S8192x1024.Idx → EReal) (a1 : S8192x1024.Idx → EReal) (a2 : S8192x512.Idx → EReal) (h : S8192x13312.Idx → EReal)
    (w0 : S1024x2048.Idx → EReal) (w1 : S1024x2048.Idx → EReal) (w2 : S512x2048.Idx → EReal) : S8192x2048.Idx → EReal := fun j =>
  branch h 5120 (by omega) (fun r k => a0 (ix2 r k)) (fun k q => w0 (ix2 k q)) (j 0) (j 1)
    + branch h 7168 (by omega) (fun r k => a1 (ix2 r k)) (fun k q => w1 (ix2 k q)) (j 0) (j 1)
    + branch h 9216 (by omega) (fun r k => a2 (ix2 r k)) (fun k q => w2 (ix2 k q)) (j 0) (j 1)

theorem points : cfg0.N = 32 := by decide +kernel

theorem row (t : Fin cfg0.N) (r : Fin 512) : t.val % 16 * 512 + r.val < 8192 := by
  omega
theorem col (t : Fin cfg0.N) (q : Fin 1024) : t.val / 16 * 1024 + q.val < 2048 := by
  have := t.isLt
  have := points
  omega

theorem block0 (c : Dev nD) (t : Fin cfg0.N) (r : Fin 512) (k : Fin 1024) :
    (iblk m c 0 t : S512x1024.Idx → EReal) (ix2 r k) = (m ((c : Thread nD τ).loc main_arg0) : S8192x1024.Idx → EReal) (ix2 ⟨t.val % 16 * 512 + r.val, row t r⟩ k) := by
  blk_ext [iblk, V, idx t]
theorem block1 (c : Dev nD) (t : Fin cfg0.N) (r : Fin 512) (k : Fin 1024) :
    (iblk m c 1 t : S512x1024.Idx → EReal) (ix2 r k) = (m ((c : Thread nD τ).loc main_arg1) : S8192x1024.Idx → EReal) (ix2 ⟨t.val % 16 * 512 + r.val, row t r⟩ k) := by
  blk_ext [iblk, V, idx t]
theorem block2 (c : Dev nD) (t : Fin cfg0.N) (r : Fin 512) (k : Fin 512) :
    (iblk m c 2 t : S512x512.Idx → EReal) (ix2 r k) = (m ((c : Thread nD τ).loc main_arg2) : S8192x512.Idx → EReal) (ix2 ⟨t.val % 16 * 512 + r.val, row t r⟩ k) := by
  blk_ext [iblk, V, idx t]
theorem block3 (c : Dev nD) (t : Fin cfg0.N) (r : Fin 512) (k : Fin 1024) :
    (iblk m c 3 t : S512x1024.Idx → EReal) (ix2 r k) = (m ((c : Thread nD τ).loc main_arg3) : S8192x13312.Idx → EReal) (ix2 ⟨t.val % 16 * 512 + r.val, row t r⟩ (⟨5120 + (t.val / 16 * 1024 + k.val), by have := col t k; omega⟩ : Fin 13312)) := by
  blk_ext [iblk, V, idx t]
theorem block4 (c : Dev nD) (t : Fin cfg0.N) (r : Fin 512) (k : Fin 1024) :
    (iblk m c 4 t : S512x1024.Idx → EReal) (ix2 r k) = (m ((c : Thread nD τ).loc main_arg3) : S8192x13312.Idx → EReal) (ix2 ⟨t.val % 16 * 512 + r.val, row t r⟩ (⟨7168 + (t.val / 16 * 1024 + k.val), by have := col t k; omega⟩ : Fin 13312)) := by
  blk_ext [iblk, V, idx t]
theorem block5 (c : Dev nD) (t : Fin cfg0.N) (r : Fin 512) (k : Fin 1024) :
    (iblk m c 5 t : S512x1024.Idx → EReal) (ix2 r k) = (m ((c : Thread nD τ).loc main_arg3) : S8192x13312.Idx → EReal) (ix2 ⟨t.val % 16 * 512 + r.val, row t r⟩ (⟨9216 + (t.val / 16 * 1024 + k.val), by have := col t k; omega⟩ : Fin 13312)) := by
  blk_ext [iblk, V, idx t]
theorem V_v0 (c : Dev nD) : (V m c main_v0 : S1024x2048.Idx → EReal) = m ((c : Thread nD τ).loc main_arg4) := by
  entry_read
  rfl
theorem block6 (c : Dev nD) (t : Fin cfg0.N) (k : Fin 1024) (q : Fin 1024) :
    (iblk m c 6 t : S1024x1024.Idx → EReal) (ix2 k q) = (m ((c : Thread nD τ).loc main_arg4) : S1024x2048.Idx → EReal) (ix2 k ⟨t.val / 16 * 1024 + q.val, col t q⟩) := by
  rw [← V_v0 m c]
  blk_ext [iblk, idx t]
theorem V_v1 (c : Dev nD) : (V m c main_v1 : S1024x2048.Idx → EReal) = m ((c : Thread nD τ).loc main_arg5) := by
  entry_read
  rfl
theorem block7 (c : Dev nD) (t : Fin cfg0.N) (k : Fin 1024) (q : Fin 1024) :
    (iblk m c 7 t : S1024x1024.Idx → EReal) (ix2 k q) = (m ((c : Thread nD τ).loc main_arg5) : S1024x2048.Idx → EReal) (ix2 k ⟨t.val / 16 * 1024 + q.val, col t q⟩) := by
  rw [← V_v1 m c]
  blk_ext [iblk, idx t]
theorem V_v2 (c : Dev nD) : (V m c main_v2 : S512x2048.Idx → EReal) = m ((c : Thread nD τ).loc main_arg6) := by
  entry_read
  rfl
theorem block8 (c : Dev nD) (t : Fin cfg0.N) (k : Fin 512) (q : Fin 1024) :
    (iblk m c 8 t : S512x1024.Idx → EReal) (ix2 k q) = (m ((c : Thread nD τ).loc main_arg6) : S512x2048.Idx → EReal) (ix2 k ⟨t.val / 16 * 1024 + q.val, col t q⟩) := by
  rw [← V_v2 m c]
  blk_ext [iblk, idx t]

/-- What a grid point computes, at an index of its block. -/
theorem pay (x0 : S512x1024.Idx → EReal) (x1 : S512x1024.Idx → EReal) (x2 : S512x512.Idx → EReal) (g0 g1 g2 : S512x1024.Idx → EReal)
    (w0 : S1024x1024.Idx → EReal) (w1 : S1024x1024.Idx → EReal) (w2 : S512x1024.Idx → EReal) (r : Fin 512) (q : Fin 1024) :
    k0_pay1 (F := Ideal) (k0_pay2 x2 w2) (k0_pay3 x0 w0 x1 w1 g0 g1) g2 (ix2 r q) =
      Ideal.logistic (g0 (ix2 r q)) * (∑ k : Fin 1024, x0 (ix2 r k) * w0 (ix2 k q)) + Ideal.logistic (g1 (ix2 r q)) * (∑ k : Fin 1024, x1 (ix2 r k) * w1 (ix2 k q))
        + Ideal.logistic (g2 (ix2 r q)) * (∑ k : Fin 512, x2 (ix2 r k) * w2 (ix2 k q)) := by
  rw [← gate, ← gate, ← gate]
  pointwise [k0_pay1, k0_pay2, k0_pay3]

/-- The kernel's array after the run. -/
theorem final (c : Dev nD) : ((dats m 0 c).arrAt 9 (cfgs 0).N : S8192x2048.Idx → EReal) =
    res (m ((c : Thread nD τ).loc main_arg0)) (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) := by
  refine (dats m 0 c).arrAt_eq_of_covers 9 _ (by decide +kernel) fun t hf y => ?_
  blk_simp [idx t]
  rw [after0_9]
  frame_out
  idx_vars y
  refine (pay _ _ _ _ _ _ _ _ _ _ _).trans ?_
  simp only [block0, block1, block2, block3, block4, block5, block6, block7, block8]
  have e : (((View.whole main_v3).slice (win0_9.rect t)).emb (ix2 y0 y1) : S8192x2048.Idx) = ix2 ⟨t.val % 16 * 512 + y0.val, row t y0⟩ ⟨t.val / 16 * 1024 + y1.val, col t y1⟩ := by
    blk_ext [idx t]
  rw [e]
  rfl

end Cert.MergeIdeal.Val

namespace Cert.MergeRefIdeal.Val

open Cert.MergeRefIdeal Cert.MergeRefIdeal.Gen Idealize.ShloMosaic Idealize.ShloMosaic.TcCoe Idealize.ShloMosaic.Tactic

/-- The reference's array. -/
def arr (x0 : FVec Ideal S8192x1024 .bf16) (x1 : FVec Ideal S8192x1024 .bf16) (x2 : FVec Ideal S8192x512 .bf16) (x3 : FVec Ideal S8192x13312 .f32)
    (x4 : FVec Ideal S1024x2048 .f32) (x5 : FVec Ideal S1024x2048 .f32) (x6 : FVec Ideal S512x2048 .f32) : S8192x2048.Idx → EReal :=
  truncf .bf16 (addf (addf (mulf (extractStridedSlice S8192x2048 ![0, 0] (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 5120] x3 slices_S8192x13312_S8192x6144_0_5120))))) slices_S8192x6144_S8192x2048_0_0) (Host.dotGeneral dot_S8192x1024_S1024x2048_S8192x2048_1_0_0_1_n_n none (extf .f32 x0 bitsLt_bf16_f32) x4)) (mulf (extractStridedSlice S8192x2048 ![0, 2048] (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 5120] x3 slices_S8192x13312_S8192x6144_0_5120))))) slices_S8192x6144_S8192x2048_0_2048) (Host.dotGeneral dot_S8192x1024_S1024x2048_S8192x2048_1_0_0_1_n_n none (extf .f32 x1 bitsLt_bf16_f32) x5))) (mulf (extractStridedSlice S8192x2048 ![0, 4096] (Host.divf (broadcastInDim S8192x6144 ![] bcast_S_S8192x6144 (constant S_ .f32 0x3F800000#32)) (addf (broadcastInDim S8192x6144 ![] bcast_S_S8192x6144 (constant S_ .f32 0x3F800000#32)) (Host.exp (Host.negf (extractStridedSlice S8192x6144 ![0, 5120] x3 slices_S8192x13312_S8192x6144_0_5120))))) slices_S8192x6144_S8192x2048_0_4096) (Host.dotGeneral dot_S8192x512_S512x2048_S8192x2048_1_0_0_1_n_n none (extf .f32 x2 bitsLt_bf16_f32) x6))) bitsLt_bf16_f32

theorem arr_eq (x0 : S8192x1024.Idx → EReal) (x1 : S8192x1024.Idx → EReal) (x2 : S8192x512.Idx → EReal) (x3 : S8192x13312.Idx → EReal)
    (x4 : S1024x2048.Idx → EReal) (x5 : S1024x2048.Idx → EReal) (x6 : S512x2048.Idx → EReal) :
    arr x0 x1 x2 x3 x4 x5 x6 = Cert.MergeIdeal.Val.res x0 x1 x2 x3 x4 x5 x6 := by
  funext j
  idx_vars j
  pointwise [arr]
  simp only [Cert.MergeIdeal.Val.res, Cert.MergeIdeal.Val.branch, Ideal.logistic]
  have e1 : ∀ h h', (⟨5120 + (2048 + j1.val), h⟩ : Fin 13312) = ⟨7168 + j1.val, h'⟩ := fun _ _ => Fin.ext (by show 5120 + (2048 + j1.val) = 7168 + j1.val; omega)
  have e2 : ∀ h h', (⟨5120 + (4096 + j1.val), h⟩ : Fin 13312) = ⟨9216 + j1.val, h'⟩ := fun _ _ => Fin.ext (by show 5120 + (4096 + j1.val) = 9216 + j1.val; omega)
  rw [e1 _ (by omega), e2 _ (by omega)]
  rfl

end Cert.MergeRefIdeal.Val
-- ==== Proof.OutVal.lean ====
module

public import proofs.«01_k».proof.Proof.Gen.OutProjIdeal.Value
public import proofs.«01_k».proof.Proof.Gen.OutProjRefIdeal.Run
public import Idealize.ShloMosaic.Lib.Tactic.IndexArith
public import Idealize.ShloMosaic.Lib.Pointwise
public import Idealize.ShloMosaic.Lib.Pipeline.ValueKit

@[expose] public section

set_option maxRecDepth 16384

noncomputable section

namespace Cert.OutProjIdeal.Val

open Cert.OutProjIdeal Cert.OutProjIdeal.Gen Idealize.ShloMosaic Idealize.ShloMosaic.TcCoe Idealize.ShloMosaic.Tactic Idealize.ShloMosaic.Pipeline

variable (m : (ℓ : Loc nD τ sig) → Buf (Elt Ideal) ℓ)

/-- Where each block begins. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- A row of the residual stream after the output projection. -/
def after (a : S8192x2048.Idx → EReal) (w : S2048x2048.Idx → EReal) (x : S8192x2048.Idx → EReal) (r : Fin 8192) (q : Fin 2048) : EReal :=
  x (ix2 r q) + ∑ k : Fin 2048, a (ix2 r k) * w (ix2 k q)

/-- The normalised row. -/
def normed (a : S8192x2048.Idx → EReal) (w : S2048x2048.Idx → EReal) (x : S8192x2048.Idx → EReal) (g : S2048.Idx → EReal) (r : Fin 8192) (q : Fin 2048) : EReal :=
  after a w x r q * Ideal.rsqrt (Ideal.div (∑ k : Fin 2048, after a w x r k * after a w x r k) (Ideal.ofBits FTy.f32 1157627904#32) + Ideal.ofBits FTy.f32 897988541#32)
    * g (ix1 q)

/-- The result at every index. -/
def res (a : S8192x2048.Idx → EReal) (w : S2048x2048.Idx → EReal) (x : S8192x2048.Idx → EReal) (g : S2048.Idx → EReal) : S8192x2048.Idx → EReal :=
  fun j => normed a w x g (j 0) (j 1)

theorem V_v0 (c : Dev nD) : (V m c main_v0 : S2048x2048.Idx → EReal) = m ((c : Thread nD τ).loc main_arg1) := by
  entry_read
  rfl

theorem V_v1 (c : Dev nD) (q : Fin 2048) : (V m c main_v1 : S1x2048.Idx → EReal) (ix2 0 q) = (m ((c : Thread nD τ).loc main_arg3) : S2048.Idx → EReal) (ix1 q) := by
  have h : (V m c main_v1 : S1x2048.Idx → EReal) = shapeCast S1x2048 (m ((c : Thread nD τ).loc main_arg3) : S2048.Idx → EReal) shapeCasts_S2048_S1x2048 := by
    entry_read
    rfl
  rw [h]
  pointwise

theorem row (t : Fin cfg0.N) (r : Fin 512) : t.val * 512 + r.val < 8192 := by
  have := t.isLt
  have h : cfg0.N = 16 := by decide +kernel
  omega

theorem block0 (c : Dev nD) (t : Fin cfg0.N) (r : Fin 512) (k : Fin 2048) :
    (iblk m c 0 t : S512x2048.Idx → EReal) (ix2 r k) = (m ((c : Thread nD τ).loc main_arg0) : S8192x2048.Idx → EReal) (ix2 ⟨t.val * 512 + r.val, row t r⟩ k) := by
  blk_ext [iblk, V, idx t]
theorem block2 (c : Dev nD) (t : Fin cfg0.N) (r : Fin 512) (k : Fin 2048) :
    (iblk m c 2 t : S512x2048.Idx → EReal) (ix2 r k) = (m ((c : Thread nD τ).loc main_arg2) : S8192x2048.Idx → EReal) (ix2 ⟨t.val * 512 + r.val, row t r⟩ k) := by
  blk_ext [iblk, V, idx t]
theorem block1 (c : Dev nD) (t : Fin cfg0.N) (k q : Fin 2048) :
    (iblk m c 1 t : S2048x2048.Idx → EReal) (ix2 k q) = (m ((c : Thread nD τ).loc main_arg1) : S2048x2048.Idx → EReal) (ix2 k q) := by
  rw [← V_v0 m c]
  blk_ext [iblk, idx t]
theorem block3 (c : Dev nD) (t : Fin cfg0.N) (q : Fin 2048) :
    (iblk m c 3 t : S1x2048.Idx → EReal) (ix2 0 q) = (m ((c : Thread nD τ).loc main_arg3) : S2048.Idx → EReal) (ix1 q) := by
  rw [← V_v1 m c]
  blk_ext [iblk, idx t]

/-- What a grid point computes, at an index of its block. -/
theorem pay (v0 : S512x2048.Idx → EReal) (v1 : S512x2048.Idx → EReal) (v2 : S2048x2048.Idx → EReal) (v16 : S1x2048.Idx → EReal) (r : Fin 512) (q : Fin 2048) :
    k0_pay1 (F := Ideal) v0 v1 v2 v16 (ix2 r q) =
      (v0 (ix2 r q) + ∑ k : Fin 2048, v1 (ix2 r k) * v2 (ix2 k q)) * Ideal.rsqrt (Ideal.div (∑ j : Fin 2048, (v0 (ix2 r j) + ∑ k : Fin 2048, v1 (ix2 r k) * v2 (ix2 k j)) * (v0 (ix2 r j) + ∑ k : Fin 2048, v1 (ix2 r k) * v2 (ix2 k j))) (Ideal.ofBits FTy.f32 1157627904#32) + Ideal.ofBits FTy.f32 897988541#32) * v16 (ix2 0 q) := by
  pointwise [k0_pay1]

/-- The kernel's array after the run. -/
theorem final (c : Dev nD) : ((dats m 0 c).arrAt 4 (cfgs 0).N : S8192x2048.Idx → EReal) =
    res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp [idx t]
  rw [after0_4]
  frame_out
  idx_vars y
  refine (pay _ _ _ _ _ _).trans ?_
  simp only [block0, block1, block2, block3]
  have e : (((View.whole main_v2).slice (win0_4.rect t)).emb (ix2 y0 y1) : S8192x2048.Idx) = ix2 ⟨t.val * 512 + y0.val, row t y0⟩ y1 := by
    blk_ext [idx t]
  rw [e]
  rfl

end Cert.OutProjIdeal.Val

namespace Cert.OutProjRefIdeal.Val

open Cert.OutProjRefIdeal Cert.OutProjRefIdeal.Gen Idealize.ShloMosaic Idealize.ShloMosaic.TcCoe Idealize.ShloMosaic.Tactic

/-- The reference's array. -/
def arr (x0 : FVec Ideal S8192x2048 .bf16) (x1 : FVec Ideal S2048x2048 .f32) (x2 : FVec Ideal S8192x2048 .f32) (x3 : FVec Ideal S2048 .f32) : S8192x2048.Idx → EReal :=
  mulf (mulf (addf x2 (Host.dotGeneral dot_S8192x2048_S2048x2048_S8192x2048_1_0_0_1_n_n none (extf .f32 x0 bitsLt_bf16_f32) x1)) (broadcastInDim S8192x2048 ![0, 1] bcast_S8192x1_S8192x2048_0_1 (Host.rsqrt (addf (Host.divf (broadcastInDim S8192x1 ![0] bcast_S8192_S8192x1_0 (Host.reduceAdd (mulf (addf x2 (Host.dotGeneral dot_S8192x2048_S2048x2048_S8192x2048_1_0_0_1_n_n none (extf .f32 x0 bitsLt_bf16_f32) x1)) (addf x2 (Host.dotGeneral dot_S8192x2048_S2048x2048_S8192x2048_1_0_0_1_n_n none (extf .f32 x0 bitsLt_bf16_f32) x1))) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 x3))

theorem arr_eq (x0 : S8192x2048.Idx → EReal) (x1 : S2048x2048.Idx → EReal) (x2 : S8192x2048.Idx → EReal) (x3 : S2048.Idx → EReal) :
    arr x0 x1 x2 x3 = Cert.OutProjIdeal.Val.res x0 x1 x2 x3 := by
  funext j
  idx_vars j
  pointwise [arr]
  simp only [Cert.OutProjIdeal.Val.res, Cert.OutProjIdeal.Val.normed, Cert.OutProjIdeal.Val.after]
  rfl

end Cert.OutProjRefIdeal.Val
-- ==== Proof.MidVal.lean ====
module

public import proofs.«01_k».proof.Proof.Gen.OutMidIdeal.Value
public import proofs.«01_k».proof.Proof.Gen.OutMidRefIdeal.Run
public import Idealize.ShloMosaic.Lib.Tactic.IndexArith
public import Idealize.ShloMosaic.Lib.Pointwise
public import Idealize.ShloMosaic.Lib.Pipeline.ValueKit

@[expose] public section

set_option maxRecDepth 16384

noncomputable section

namespace Cert.OutMidIdeal.Val

open Cert.OutMidIdeal Cert.OutMidIdeal.Gen Idealize.ShloMosaic Idealize.ShloMosaic.TcCoe Idealize.ShloMosaic.Tactic Idealize.ShloMosaic.Pipeline

variable (m : (ℓ : Loc nD τ sig) → Buf (Elt Ideal) ℓ)

/-- Where each block begins. -/
theorem idx : ∀ t : Fin cfg0.N, win0_0.index t = ![t.val, 0] ∧ win0_1.index t = ![0, 0] ∧ win0_2.index t = ![t.val, 0] ∧ win0_3.index t = ![0, 0] ∧ win0_4.index t = ![t.val, 0] :=
  (by decide +kernel : ∀ t : Fin grid0.N, _)

/-- A row of the residual stream after the output projection. -/
def after (a : S8192x2048.Idx → EReal) (w : S2048x2048.Idx → EReal) (x : S8192x2048.Idx → EReal) (r : Fin 8192) (q : Fin 2048) : EReal :=
  x (ix2 r q) + ∑ k : Fin 2048, a (ix2 r k) * w (ix2 k q)

/-- The result at every index. -/
def res (a : S8192x2048.Idx → EReal) (w : S2048x2048.Idx → EReal) (x : S8192x2048.Idx → EReal) : S8192x2048.Idx → EReal :=
  fun j => after a w x (j 0) (j 1)

theorem V_v0 (c : Dev nD) : (V m c main_v0 : S2048x2048.Idx → EReal) = m ((c : Thread nD τ).loc main_arg1) := by
  entry_read
  rfl

theorem row (t : Fin cfg0.N) (r : Fin 512) : t.val * 512 + r.val < 8192 := by
  have := t.isLt
  have h : cfg0.N = 16 := by decide +kernel
  omega

theorem block0 (c : Dev nD) (t : Fin cfg0.N) (r : Fin 512) (k : Fin 2048) :
    (iblk m c 0 t : S512x2048.Idx → EReal) (ix2 r k) = (m ((c : Thread nD τ).loc main_arg0) : S8192x2048.Idx → EReal) (ix2 ⟨t.val * 512 + r.val, row t r⟩ k) := by
  blk_ext [iblk, V, idx t]
theorem block2 (c : Dev nD) (t : Fin cfg0.N) (r : Fin 512) (k : Fin 2048) :
    (iblk m c 2 t : S512x2048.Idx → EReal) (ix2 r k) = (m ((c : Thread nD τ).loc main_arg2) : S8192x2048.Idx → EReal) (ix2 ⟨t.val * 512 + r.val, row t r⟩ k) := by
  blk_ext [iblk, V, idx t]
theorem block1 (c : Dev nD) (t : Fin cfg0.N) (k q : Fin 2048) :
    (iblk m c 1 t : S2048x2048.Idx → EReal) (ix2 k q) = (m ((c : Thread nD τ).loc main_arg1) : S2048x2048.Idx → EReal) (ix2 k q) := by
  rw [← V_v0 m c]
  blk_ext [iblk, idx t]

/-- What a grid point computes, at an index of its block. -/
theorem pay (v0 : S512x2048.Idx → EReal) (v1 : S512x2048.Idx → EReal) (v2 : S2048x2048.Idx → EReal) (r : Fin 512) (q : Fin 2048) :
    k0_pay1 (F := Ideal) v0 v1 v2 (ix2 r q) = v0 (ix2 r q) + ∑ k : Fin 2048, v1 (ix2 r k) * v2 (ix2 k q) := by
  pointwise [k0_pay1]

/-- The kernel's array after the run. -/
theorem final (c : Dev nD) : ((dats m 0 c).arrAt 4 (cfgs 0).N : S8192x2048.Idx → EReal) =
    res (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [idx t]
  rw [after0_4]
  frame_out
  idx_vars y
  refine (pay _ _ _ _ _).trans ?_
  simp only [block0, block1, block2]
  have e : (((View.whole main_v2).slice (win0_4.rect t)).emb (ix2 y0 y1) : S8192x2048.Idx) = ix2 ⟨t.val * 512 + y0.val, row t y0⟩ y1 := by
    blk_ext [idx t]
  rw [e]
  rfl

end Cert.OutMidIdeal.Val

namespace Cert.OutMidRefIdeal.Val

open Cert.OutMidRefIdeal Cert.OutMidRefIdeal.Gen Idealize.ShloMosaic Idealize.ShloMosaic.TcCoe Idealize.ShloMosaic.Tactic

/-- The reference's array. -/
def arr (x0 : FVec Ideal S8192x2048 .bf16) (x1 : FVec Ideal S2048x2048 .f32) (x2 : FVec Ideal S8192x2048 .f32) : S8192x2048.Idx → EReal :=
  addf x2 (Host.dotGeneral dot_S8192x2048_S2048x2048_S8192x2048_1_0_0_1_n_n none (extf .f32 x0 bitsLt_bf16_f32) x1)

theorem arr_eq (x0 : S8192x2048.Idx → EReal) (x1 : S2048x2048.Idx → EReal) (x2 : S8192x2048.Idx → EReal) :
    arr x0 x1 x2 = Cert.OutMidIdeal.Val.res x0 x1 x2 := by
  funext j
  idx_vars j
  pointwise [arr]
  simp only [Cert.OutMidIdeal.Val.res, Cert.OutMidIdeal.Val.after]
  rfl

end Cert.OutMidRefIdeal.Val
-- ==== Proof.lean ====
module

public import proofs.«01_k».proof.Defs
public import proofs.«01_k».proof.Proof.Gen.Ssm
public import proofs.«01_k».proof.Proof.Gen.Ssm.Skeleton
public import proofs.«01_k».proof.Proof.Gen.Ssm.Loops
public import proofs.«01_k».proof.Proof.Gen.Ssm.Launch
public import proofs.«01_k».proof.Proof.Gen.Ssm.Points
public import proofs.«01_k».proof.Proof.Gen.Ssm.Frame
public import proofs.«01_k».proof.Proof.Gen.SsmIdeal
public import proofs.«01_k».proof.Proof.Gen.SsmIdeal.Skeleton
public import proofs.«01_k».proof.Proof.Gen.SsmIdeal.Loops
public import proofs.«01_k».proof.Proof.Gen.SsmIdeal.Launch
public import proofs.«01_k».proof.Proof.Gen.SsmIdeal.Points
public import proofs.«01_k».proof.Proof.Gen.SsmIdeal.Frame
public import proofs.«01_k».proof.Proof.Gen.SsmRefIdeal
public import proofs.«01_k».proof.Proof.Gen.SsmIdeal.Value
public import proofs.«01_k».proof.Proof.Gen.SsmRefIdeal.Run
public import proofs.«01_k».proof.Proof.SsmTie
public import proofs.«01_k».proof.Proof.ProjTie
public import proofs.«01_k».proof.Proof.MergeVal
public import proofs.«01_k».proof.Proof.OutVal
public import proofs.«01_k».proof.Proof.MidVal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.OutProj.Frame
public import proofs.«01_k».proof.Proof.Gen.OutProjIdeal.Frame
public import proofs.«01_k».proof.Proof.Gen.OutProjRefIdeal
public import proofs.«01_k».proof.Proof.Gen.OutProjIdeal.Value
public import proofs.«01_k».proof.Proof.Gen.OutProjRefIdeal.Run
public import proofs.«01_k».proof.Proof.Gen.Merge.Frame
public import proofs.«01_k».proof.Proof.Gen.MergeIdeal.Frame
public import proofs.«01_k».proof.Proof.Gen.MergeRefIdeal
public import proofs.«01_k».proof.Proof.Gen.MergeIdeal.Value
public import proofs.«01_k».proof.Proof.Gen.MergeRefIdeal.Run
public import proofs.«01_k».proof.Proof.Gen.OutMid.Frame
public import proofs.«01_k».proof.Proof.Gen.OutMidIdeal.Frame
public import proofs.«01_k».proof.Proof.Gen.OutMidRefIdeal
public import proofs.«01_k».proof.Proof.Gen.OutMidIdeal.Value
public import proofs.«01_k».proof.Proof.Gen.OutMidRefIdeal.Run
public import Idealize.ShloMosaic.Lib.Claim
public import Idealize.ShloMosaic.Adequacy
public import Idealize.ShloMosaic.Init

@[expose] public section

noncomputable section

namespace Cert.Proof

open Idealize.ShloMosaic Idealize.SL.Sem Cert.Ssm

/-- From memories that agree on the arguments, the plain recurrence's result is the kernel's array. -/
theorem same (m : (ℓ : Loc Cert.SsmIdeal.nD Cert.SsmIdeal.τ Cert.SsmIdeal.sig) → Buf (Elt Ideal) ℓ)
    (m' : (ℓ : Loc Cert.SsmRefIdeal.nD Cert.SsmRefIdeal.τ Cert.SsmRefIdeal.sig) → Buf (Elt Ideal) ℓ)
    (hagree : (∀ c : Dev Cert.SsmIdeal.nD,
      m' ((c.tc : Thread Cert.SsmRefIdeal.nD Cert.SsmRefIdeal.τ).loc Cert.SsmRefIdeal.main_arg0) = m ((c.tc : Thread Cert.SsmIdeal.nD Cert.SsmIdeal.τ).loc Cert.SsmIdeal.main_arg0)
      ∧ m' ((c.tc : Thread Cert.SsmRefIdeal.nD Cert.SsmRefIdeal.τ).loc Cert.SsmRefIdeal.main_arg1) = m ((c.tc : Thread Cert.SsmIdeal.nD Cert.SsmIdeal.τ).loc Cert.SsmIdeal.main_arg1)
      ∧ m' ((c.tc : Thread Cert.SsmRefIdeal.nD Cert.SsmRefIdeal.τ).loc Cert.SsmRefIdeal.main_arg2) = m ((c.tc : Thread Cert.SsmIdeal.nD Cert.SsmIdeal.τ).loc Cert.SsmIdeal.main_arg2)
      ∧ m' ((c.tc : Thread Cert.SsmRefIdeal.nD Cert.SsmRefIdeal.τ).loc Cert.SsmRefIdeal.main_arg3) = m ((c.tc : Thread Cert.SsmIdeal.nD Cert.SsmIdeal.τ).loc Cert.SsmIdeal.main_arg3)
      ∧ m' ((c.tc : Thread Cert.SsmRefIdeal.nD Cert.SsmRefIdeal.τ).loc Cert.SsmRefIdeal.main_arg4) = m ((c.tc : Thread Cert.SsmIdeal.nD Cert.SsmIdeal.τ).loc Cert.SsmIdeal.main_arg4)
      ∧ m' ((c.tc : Thread Cert.SsmRefIdeal.nD Cert.SsmRefIdeal.τ).loc Cert.SsmRefIdeal.main_arg5) = m ((c.tc : Thread Cert.SsmIdeal.nD Cert.SsmIdeal.τ).loc Cert.SsmIdeal.main_arg5)
      ∧ m' ((c.tc : Thread Cert.SsmRefIdeal.nD Cert.SsmRefIdeal.τ).loc Cert.SsmRefIdeal.main_arg6) = m ((c.tc : Thread Cert.SsmIdeal.nD Cert.SsmIdeal.τ).loc Cert.SsmIdeal.main_arg6)
      ∧ m' ((c.tc : Thread Cert.SsmRefIdeal.nD Cert.SsmRefIdeal.τ).loc Cert.SsmRefIdeal.main_arg7) = m ((c.tc : Thread Cert.SsmIdeal.nD Cert.SsmIdeal.τ).loc Cert.SsmIdeal.main_arg7)
      ∧ m' ((c.tc : Thread Cert.SsmRefIdeal.nD Cert.SsmRefIdeal.τ).loc Cert.SsmRefIdeal.main_arg8) = m ((c.tc : Thread Cert.SsmIdeal.nD Cert.SsmIdeal.τ).loc Cert.SsmIdeal.main_arg8)
      ∧ m' ((c.tc : Thread Cert.SsmRefIdeal.nD Cert.SsmRefIdeal.τ).loc Cert.SsmRefIdeal.main_arg9) = m ((c.tc : Thread Cert.SsmIdeal.nD Cert.SsmIdeal.τ).loc Cert.SsmIdeal.main_arg9)
      ∧ m' ((c.tc : Thread Cert.SsmRefIdeal.nD Cert.SsmRefIdeal.τ).loc Cert.SsmRefIdeal.main_arg10) = m ((c.tc : Thread Cert.SsmIdeal.nD Cert.SsmIdeal.τ).loc Cert.SsmIdeal.main_arg10)))
    (c : Dev Cert.SsmIdeal.nD) : (Cert.SsmRefIdeal.Value.res_main_v89 m' c : Cert.SsmIdeal.S64x8x128.Idx → EReal) = (Cert.SsmIdeal.Gen.dats m 0 c).arrAt 9 Cert.SsmIdeal.cfg0.N := by
  obtain ⟨h0, h1, h2, h3, h4, h5, h6, _⟩ := hagree c
  refine (Cert.SsmRefIdeal.Val.res_eq m' c).trans ?_
  rw [h0, h1, h2, h3, h4, h5, h6]
  exact (Cert.SsmIdeal.Val.final m c).symm

/-- From memories that agree on the arguments, the plain output projection's array is the kernel's. -/
theorem sameOutProj (m : (ℓ : Loc Cert.OutProjIdeal.nD Cert.OutProjIdeal.τ Cert.OutProjIdeal.sig) → Buf (Elt Ideal) ℓ)
    (m' : (ℓ : Loc Cert.OutProjRefIdeal.nD Cert.OutProjRefIdeal.τ Cert.OutProjRefIdeal.sig) → Buf (Elt Ideal) ℓ)
    (hagree : (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)))
    (c : Dev Cert.OutProjIdeal.nD) :
    Cert.OutProjRefIdeal.Val.arr
      (m' ((c.tc : Thread Cert.OutProjRefIdeal.nD Cert.OutProjRefIdeal.τ).loc Cert.OutProjRefIdeal.main_arg0))
      (m' ((c.tc : Thread Cert.OutProjRefIdeal.nD Cert.OutProjRefIdeal.τ).loc Cert.OutProjRefIdeal.main_arg1))
      (m' ((c.tc : Thread Cert.OutProjRefIdeal.nD Cert.OutProjRefIdeal.τ).loc Cert.OutProjRefIdeal.main_arg2))
      (m' ((c.tc : Thread Cert.OutProjRefIdeal.nD Cert.OutProjRefIdeal.τ).loc Cert.OutProjRefIdeal.main_arg3)) = (Cert.OutProjIdeal.Gen.dats m 0 c).arrAt 4 Cert.OutProjIdeal.cfg0.N := by
  obtain ⟨h0, h1, h2, h3⟩ := hagree c
  refine (Cert.OutProjRefIdeal.Val.arr_eq _ _ _ _).trans ?_
  rw [h0, h1, h2, h3]
  exact (Cert.OutProjIdeal.Val.final m c).symm

/-- From memories that agree on the arguments, the plain merge's array is the kernel's. -/
theorem sameMerge (m : (ℓ : Loc Cert.MergeIdeal.nD Cert.MergeIdeal.τ Cert.MergeIdeal.sig) → Buf (Elt Ideal) ℓ)
    (m' : (ℓ : Loc Cert.MergeRefIdeal.nD Cert.MergeRefIdeal.τ Cert.MergeRefIdeal.sig) → Buf (Elt Ideal) ℓ)
    (hagree : (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)))
    (c : Dev Cert.MergeIdeal.nD) :
    Cert.MergeRefIdeal.Val.arr
      (m' ((c.tc : Thread Cert.MergeRefIdeal.nD Cert.MergeRefIdeal.τ).loc Cert.MergeRefIdeal.main_arg0))
      (m' ((c.tc : Thread Cert.MergeRefIdeal.nD Cert.MergeRefIdeal.τ).loc Cert.MergeRefIdeal.main_arg1))
      (m' ((c.tc : Thread Cert.MergeRefIdeal.nD Cert.MergeRefIdeal.τ).loc Cert.MergeRefIdeal.main_arg2))
      (m' ((c.tc : Thread Cert.MergeRefIdeal.nD Cert.MergeRefIdeal.τ).loc Cert.MergeRefIdeal.main_arg3))
      (m' ((c.tc : Thread Cert.MergeRefIdeal.nD Cert.MergeRefIdeal.τ).loc Cert.MergeRefIdeal.main_arg4))
      (m' ((c.tc : Thread Cert.MergeRefIdeal.nD Cert.MergeRefIdeal.τ).loc Cert.MergeRefIdeal.main_arg5))
      (m' ((c.tc : Thread Cert.MergeRefIdeal.nD Cert.MergeRefIdeal.τ).loc Cert.MergeRefIdeal.main_arg6)) = (Cert.MergeIdeal.Gen.dats m 0 c).arrAt 9 Cert.MergeIdeal.cfg0.N := by
  obtain ⟨h0, h1, h2, h3, h4, h5, h6⟩ := hagree c
  refine (Cert.MergeRefIdeal.Val.arr_eq _ _ _ _ _ _ _).trans ?_
  rw [h0, h1, h2, h3, h4, h5, h6]
  exact (Cert.MergeIdeal.Val.final m c).symm

/-- From memories that agree on the arguments, the plain input projection's array is the kernel's. -/
theorem sameProj (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ)
    (hagree : (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)))
    (c : Dev Cert.ProjIdeal.nD) :
    Cert.ProjRefIdeal.Val.arr
      (m' ((c.tc : Thread Cert.ProjRefIdeal.nD Cert.ProjRefIdeal.τ).loc Cert.ProjRefIdeal.main_arg0))
      (m' ((c.tc : Thread Cert.ProjRefIdeal.nD Cert.ProjRefIdeal.τ).loc Cert.ProjRefIdeal.main_arg1))
      (m' ((c.tc : Thread Cert.ProjRefIdeal.nD Cert.ProjRefIdeal.τ).loc Cert.ProjRefIdeal.main_arg2))
      (m' ((c.tc : Thread Cert.ProjRefIdeal.nD Cert.ProjRefIdeal.τ).loc Cert.ProjRefIdeal.main_arg3))
      (m' ((c.tc : Thread Cert.ProjRefIdeal.nD Cert.ProjRefIdeal.τ).loc Cert.ProjRefIdeal.main_arg4))
      (m' ((c.tc : Thread Cert.ProjRefIdeal.nD Cert.ProjRefIdeal.τ).loc Cert.ProjRefIdeal.main_arg5))
      (m' ((c.tc : Thread Cert.ProjRefIdeal.nD Cert.ProjRefIdeal.τ).loc Cert.ProjRefIdeal.main_arg6)) = (Cert.ProjIdeal.Gen.dats m 0 c).arrAt 7 Cert.ProjIdeal.cfg0.N := by
  obtain ⟨h0, h1, h2, h3, h4, h5, h6⟩ := hagree c
  refine (Cert.ProjRefIdeal.Val.arr_eq _ _ _ _ _ _ _).trans ?_
  rw [h0, h1, h2, h3, h4, h5, h6]
  exact (Cert.ProjIdeal.Val.final m c).symm

/-- From memories that agree on the arguments, the array of the plain output projection without the norm is the kernel's. -/
theorem sameOutMid (m : (ℓ : Loc Cert.OutMidIdeal.nD Cert.OutMidIdeal.τ Cert.OutMidIdeal.sig) → Buf (Elt Ideal) ℓ)
    (m' : (ℓ : Loc Cert.OutMidRefIdeal.nD Cert.OutMidRefIdeal.τ Cert.OutMidRefIdeal.sig) → Buf (Elt Ideal) ℓ)
    (hagree : (∀ c : Dev Cert.OutMidIdeal.nD,
      m' ((c.tc : Thread Cert.OutMidRefIdeal.nD Cert.OutMidRefIdeal.τ).loc Cert.OutMidRefIdeal.main_arg0) = m ((c.tc : Thread Cert.OutMidIdeal.nD Cert.OutMidIdeal.τ).loc Cert.OutMidIdeal.main_arg0)
      ∧ m' ((c.tc : Thread Cert.OutMidRefIdeal.nD Cert.OutMidRefIdeal.τ).loc Cert.OutMidRefIdeal.main_arg1) = m ((c.tc : Thread Cert.OutMidIdeal.nD Cert.OutMidIdeal.τ).loc Cert.OutMidIdeal.main_arg1)
      ∧ m' ((c.tc : Thread Cert.OutMidRefIdeal.nD Cert.OutMidRefIdeal.τ).loc Cert.OutMidRefIdeal.main_arg2) = m ((c.tc : Thread Cert.OutMidIdeal.nD Cert.OutMidIdeal.τ).loc Cert.OutMidIdeal.main_arg2)
      ∧ m' ((c.tc : Thread Cert.OutMidRefIdeal.nD Cert.OutMidRefIdeal.τ).loc Cert.OutMidRefIdeal.main_arg3) = m ((c.tc : Thread Cert.OutMidIdeal.nD Cert.OutMidIdeal.τ).loc Cert.OutMidIdeal.main_arg3)))
    (c : Dev Cert.OutMidIdeal.nD) :
    Cert.OutMidRefIdeal.Val.arr
      (m' ((c.tc : Thread Cert.OutMidRefIdeal.nD Cert.OutMidRefIdeal.τ).loc Cert.OutMidRefIdeal.main_arg0))
      (m' ((c.tc : Thread Cert.OutMidRefIdeal.nD Cert.OutMidRefIdeal.τ).loc Cert.OutMidRefIdeal.main_arg1))
      (m' ((c.tc : Thread Cert.OutMidRefIdeal.nD Cert.OutMidRefIdeal.τ).loc Cert.OutMidRefIdeal.main_arg2)) = (Cert.OutMidIdeal.Gen.dats m 0 c).arrAt 4 Cert.OutMidIdeal.cfg0.N := by
  obtain ⟨h0, h1, h2, _⟩ := hagree c
  refine (Cert.OutMidRefIdeal.Val.arr_eq _ _ _).trans ?_
  rw [h0, h1, h2]
  exact (Cert.OutMidIdeal.Val.final m c).symm

/-- The frames, and the states of the kernel against the plain recurrence's. -/
theorem claim : Cert.Claim := ⟨Cert.Ssm.Gen.facts, Cert.SsmIdeal.Gen.facts, Cert.SsmRefIdeal.Gen.facts, Cert.OutProj.Gen.facts, Cert.OutProjIdeal.Gen.facts, Cert.OutProjRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.OutMid.Gen.facts, Cert.OutMidIdeal.Gen.facts, Cert.OutMidRefIdeal.Gen.facts, by
  refine ⟨?_, ?_, ?_, ?_, ?_, ?_, ?_, ?_, ?_, ?_, ?_, ?_, ?_, ?_, ?_, trivial, ?_, trivial, ?_, trivial, ?_, trivial, ?_, trivial, ?_⟩
  · intro m g _
    exact Cert.Ssm.Gen.frame m g
  · intro m g _
    exact Cert.SsmIdeal.Gen.frame m g
  · intro m g _
    exact (θ_run Cert.SsmRefIdeal.defs _ _).mono (fun r h => ⟨fun c => (h c).2, Idealize.ShloMosaic.sem_eq_zero_of_no_sems (by decide) r.2⟩)
      (Cert.SsmRefIdeal.Value.run m g)
  · intro m g _
    exact Cert.OutProj.Gen.frame m g
  · intro m g _
    exact Cert.OutProjIdeal.Gen.frame m g
  · intro m g _
    exact (θ_run Cert.OutProjRefIdeal.defs _ _).mono (fun r h => ⟨fun c => (h c).2, Idealize.ShloMosaic.sem_eq_zero_of_no_sems (by decide) r.2⟩)
      (Cert.OutProjRefIdeal.Value.run m g)
  · intro m g _
    exact Cert.Merge.Gen.frame m g
  · intro m g _
    exact Cert.MergeIdeal.Gen.frame m g
  · intro m g _
    exact (θ_run Cert.MergeRefIdeal.defs _ _).mono (fun r h => ⟨fun c => (h c).2, Idealize.ShloMosaic.sem_eq_zero_of_no_sems (by decide) r.2⟩)
      (Cert.MergeRefIdeal.Value.run m g)
  · intro m g _
    exact Cert.Proj.Gen.frame m g
  · intro m g _
    exact Cert.ProjIdeal.Gen.frame m g
  · intro m g _
    exact (θ_run Cert.ProjRefIdeal.defs _ _).mono (fun r h => ⟨fun c => (h c).2, Idealize.ShloMosaic.sem_eq_zero_of_no_sems (by decide) r.2⟩)
      (Cert.ProjRefIdeal.Value.run m g)
  · intro m g _
    exact Cert.OutMid.Gen.frame m g
  · intro m g _
    exact Cert.OutMidIdeal.Gen.frame m g
  · intro m g _
    exact (θ_run Cert.OutMidRefIdeal.defs _ _).mono (fun r h => ⟨fun c => (h c).2, Idealize.ShloMosaic.sem_eq_zero_of_no_sems (by decide) r.2⟩)
      (Cert.OutMidRefIdeal.Value.run m g)
  · intro m g m' g' _ hagree
    refine ⟨fun c => (Cert.SsmIdeal.Gen.dats m 0 c).arrAt 9 Cert.SsmIdeal.cfg0.N,
      (θ_run Cert.SsmIdeal.defs _ _).mono (fun r h c => (h c).2) (Cert.SsmIdeal.Value.run_blocks m g),
      (θ_run Cert.SsmRefIdeal.defs _ _).mono (fun r h c => ⟨(h c).1.trans (same m m' hagree c), (h c).2⟩) (Cert.SsmRefIdeal.Value.run m' g')⟩
  · intro m g m' g' _ hagree
    refine ⟨fun c => (Cert.OutProjIdeal.Gen.dats m 0 c).arrAt 4 Cert.OutProjIdeal.cfg0.N,
      (θ_run Cert.OutProjIdeal.defs _ _).mono (fun r h c => h c) (Cert.OutProjIdeal.Value.run_blocks m g),
      (θ_run Cert.OutProjRefIdeal.defs _ _).mono (fun r h c => ⟨(h c).1.trans (sameOutProj m m' hagree c), (h c).2⟩) (Cert.OutProjRefIdeal.Value.run m' g')⟩
  · intro m g m' g' _ hagree
    refine ⟨fun c => (Cert.MergeIdeal.Gen.dats m 0 c).arrAt 9 Cert.MergeIdeal.cfg0.N,
      (θ_run Cert.MergeIdeal.defs _ _).mono (fun r h c => h c) (Cert.MergeIdeal.Value.run_blocks m g),
      (θ_run Cert.MergeRefIdeal.defs _ _).mono (fun r h c => ⟨(h c).1.trans (sameMerge m m' hagree c), (h c).2⟩) (Cert.MergeRefIdeal.Value.run m' g')⟩
  · intro m g m' g' _ hagree
    refine ⟨fun c => (Cert.ProjIdeal.Gen.dats m 0 c).arrAt 7 Cert.ProjIdeal.cfg0.N,
      (θ_run Cert.ProjIdeal.defs _ _).mono (fun r h c => h c) (Cert.ProjIdeal.Value.run_blocks m g),
      (θ_run Cert.ProjRefIdeal.defs _ _).mono (fun r h c => ⟨(h c).1.trans (sameProj m m' hagree c), (h c).2⟩) (Cert.ProjRefIdeal.Value.run m' g')⟩
  · intro m g m' g' _ hagree
    refine ⟨fun c => (Cert.OutMidIdeal.Gen.dats m 0 c).arrAt 4 Cert.OutMidIdeal.cfg0.N,
      (θ_run Cert.OutMidIdeal.defs _ _).mono (fun r h c => h c) (Cert.OutMidIdeal.Value.run_blocks m g),
      (θ_run Cert.OutMidRefIdeal.defs _ _).mono (fun r h c => ⟨(h c).1.trans (sameOutMid m m' hagree c), (h c).2⟩) (Cert.OutMidRefIdeal.Value.run m' g')⟩⟩

end Cert.Proof

end
